-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts [hPre_in_range : Cert.Pre_in_range.Facts] (m : (ℓ : Loc Cert.Experts.nD Cert.Experts.τ Cert.Experts.sig) → Buf (Elt Bits) ℓ) : Prop :=
  ∀ c : Dev Cert.Experts.nD,
    (Cert.Pre_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_in_range : Cert.Pre_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsIdeal_routed [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_in_range : Cert.Pre_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsIdeal_pre_routed [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_routed m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal_pre_routed [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal_routed m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v22)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v22) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v39) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)
      ∧ m' ((c.tc : Thread Cert.ProjectionReferenceIdeal.nD Cert.ProjectionReferenceIdeal.τ).loc Cert.ProjectionReferenceIdeal.main_arg5) = m ((c.tc : Thread Cert.ProjectionIdeal.nD Cert.ProjectionIdeal.τ).loc Cert.ProjectionIdeal.main_arg5)) →
    ∃ (v0 : (c : Dev Cert.ProjectionIdeal.nD) → Buf (Elt Ideal) ((c.tc : Thread Cert.ProjectionIdeal.nD Cert.ProjectionIdeal.τ).loc Cert.ProjectionIdeal.main_v36)) (v1 : (c : Dev Cert.ProjectionIdeal.nD) → Buf (Elt Ideal) ((c.tc : Thread Cert.ProjectionIdeal.nD Cert.ProjectionIdeal.τ).loc Cert.ProjectionIdeal.main_v39)) (v2 : (c : Dev Cert.ProjectionIdeal.nD) → Buf (Elt Ideal) ((c.tc : Thread Cert.ProjectionIdeal.nD Cert.ProjectionIdeal.τ).loc Cert.ProjectionIdeal.main_v42)) (v3 : (c : Dev Cert.ProjectionIdeal.nD) → Buf (Elt Ideal) ((c.tc : Thread Cert.ProjectionIdeal.nD Cert.ProjectionIdeal.τ).loc Cert.ProjectionIdeal.main_v44)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v36) = v0 c
          ∧ r.2.mem ((c.tc : Thread Cert.ProjectionIdeal.nD Cert.ProjectionIdeal.τ).loc Cert.ProjectionIdeal.main_v39) = v1 c
          ∧ r.2.mem ((c.tc : Thread Cert.ProjectionIdeal.nD Cert.ProjectionIdeal.τ).loc Cert.ProjectionIdeal.main_v42) = v2 c
          ∧ r.2.mem ((c.tc : Thread Cert.ProjectionIdeal.nD Cert.ProjectionIdeal.τ).loc Cert.ProjectionIdeal.main_v44) = v3 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v179) = v0 c
          ∧ r.2.mem ((c.tc : Thread Cert.ProjectionReferenceIdeal.nD Cert.ProjectionReferenceIdeal.τ).loc Cert.ProjectionReferenceIdeal.main_v180) = v1 c
          ∧ r.2.mem ((c.tc : Thread Cert.ProjectionReferenceIdeal.nD Cert.ProjectionReferenceIdeal.τ).loc Cert.ProjectionReferenceIdeal.main_v181) = v2 c
          ∧ r.2.mem ((c.tc : Thread Cert.ProjectionReferenceIdeal.nD Cert.ProjectionReferenceIdeal.τ).loc Cert.ProjectionReferenceIdeal.main_v182) = v3 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4)
          ∧ r.2.mem ((c.tc : Thread Cert.ProjectionReferenceIdeal.nD Cert.ProjectionReferenceIdeal.τ).loc Cert.ProjectionReferenceIdeal.main_arg5) = m' ((c.tc : Thread Cert.ProjectionReferenceIdeal.nD Cert.ProjectionReferenceIdeal.τ).loc Cert.ProjectionReferenceIdeal.main_arg5))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProjection : Cert.Projection.Facts) (hProjectionIdeal : Cert.ProjectionIdeal.Facts) (hProjectionReferenceIdeal : Cert.ProjectionReferenceIdeal.Facts) (hPre_finite : Cert.Pre_finite.Facts) (hPre_in_range : Cert.Pre_in_range.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_in_range := hPre_in_range)
    ∧ quiescent_ExpertsIdeal (hExpertsIdeal := hExpertsIdeal) (hPre_in_range := hPre_in_range)
    ∧ quiescent_ExpertsIdeal_pre_routed (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal_pre_routed (hExpertsIdeal := hExpertsIdeal) (hExpertsReferenceIdeal := hExpertsReferenceIdeal) (hPre_routed := hPre_routed)
    ∧ preserves_Projection_ProjectionIdeal
    ∧ algebraic_ProjectionIdeal_ProjectionReferenceIdeal (hProjectionIdeal := hProjectionIdeal) (hProjectionReferenceIdeal := hProjectionReferenceIdeal)
-- ==== Pre_finite.lean ====
abbrev S8x4096x8x64 : Shape := ⟨4, ![8, 4096, 8, 64]⟩
abbrev S8x4096x2x64 : Shape := ⟨4, ![8, 4096, 2, 64]⟩
abbrev S8x256x2x64 : Shape := ⟨4, ![8, 256, 2, 64]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel
  bcast_S_S8x4096x2x64 : S_.BroadcastsInDim S8x4096x2x64 (![] : Fin 0 → Fin S8x4096x2x64.rank)
  reducesTo_S8x4096x2x64_S_d0_1_2_3 : S8x4096x2x64.ReducesTo [0, 1, 2, 3] S_
  bcast_S_S8x256x2x64 : S_.BroadcastsInDim S8x256x2x64 (![] : Fin 0 → Fin S8x256x2x64.rank)
  reducesTo_S8x256x2x64_S_d0_1_2_3 : S8x256x2x64.ReducesTo [0, 1, 2, 3] S_

variable [Facts]

def fn_part1 {F : FTy → Type} [FloatOps F] (main_arg4 : FVec F S8x256x2x64 .f32) (main_v13 : IVec S_ 1) (main_v16 : IVec S8x256x2x64 1) : IVec S_ 1 :=
  let main_c_5 : IVec S_ 1 := constantI S_ 1 1#1
  let main_v17 : IVec S_ 1 := (fun x v => Host.reduce IntOp.andi x v reducesTo_S8x256x2x64_S_d0_1_2_3 h_S_) main_v16 main_c_5
  let main_v18 : FVec F S8x256x2x64 .f32 := Host.absf main_arg4
  let main_cst_6 : FVec F S_ .f32 := constant S_ .f32 0x7F800000#32
  let main_v19 : FVec F S8x256x2x64 .f32 := broadcastInDim S8x256x2x64 ![] bcast_S_S8x256x2x64 main_cst_6
  let main_v20 : IVec S8x256x2x64 1 := cmpf .olt main_v18 main_v19
  let main_c_7 : IVec S_ 1 := constantI S_ 1 1#1
  let main_v21 : IVec S_ 1 := (fun x v => Host.reduce IntOp.andi x v reducesTo_S8x256x2x64_S_d0_1_2_3 h_S_) main_v20 main_c_7
  let main_v22 : IVec S_ 1 := andi main_v17 main_v21
  let main_v23 : IVec S_ 1 := andi main_v13 main_v22
  main_v23

def fn {F : FTy → Type} [FloatOps F] (main_arg0 : FVec F S8x4096x8x64 .f32) (main_arg1 : FVec F S8x4096x2x64 .f32) (main_arg2 : FVec F S8x4096x2x64 .f32) (main_arg3 : FVec F S8x256x2x64 .f32) (main_arg4 : FVec F S8x256x2x64 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4096x2x64 .f32 := Host.absf main_arg1
  let main_cst_0 : FVec F S_ .f32 := constant S_ .f32 0x7F800000#32
  let main_v5 : FVec F S8x4096x2x64 .f32 := broadcastInDim S8x4096x2x64 ![] bcast_S_S8x4096x2x64 main_cst_0
  let main_v6 : IVec S8x4096x2x64 1 := cmpf .olt main_v4 main_v5
  let main_c_1 : IVec S_ 1 := constantI S_ 1 1#1
  let main_v7 : IVec S_ 1 := (fun x v => Host.reduce IntOp.andi x v reducesTo_S8x4096x2x64_S_d0_1_2_3 h_S_) main_v6 main_c_1
  let main_v8 : FVec F S8x4096x2x64 .f32 := Host.absf main_arg2
  let main_cst_2 : FVec F S_ .f32 := constant S_ .f32 0x7F800000#32
  let main_v9 : FVec F S8x4096x2x64 .f32 := broadcastInDim S8x4096x2x64 ![] bcast_S_S8x4096x2x64 main_cst_2
  let main_v10 : IVec S8x4096x2x64 1 := cmpf .olt main_v8 main_v9
  let main_c_3 : IVec S_ 1 := constantI S_ 1 1#1
  let main_v11 : IVec S_ 1 := (fun x v => Host.reduce IntOp.andi x v reducesTo_S8x4096x2x64_S_d0_1_2_3 h_S_) main_v10 main_c_3
  let main_v12 : IVec S_ 1 := andi main_v7 main_v11
  let main_v13 : IVec S_ 1 := andi main_v3 main_v12
  let main_v14 : FVec F S8x256x2x64 .f32 := Host.absf main_arg3
  let main_cst_4 : FVec F S_ .f32 := constant S_ .f32 0x7F800000#32
  let main_v15 : FVec F S8x256x2x64 .f32 := broadcastInDim S8x256x2x64 ![] bcast_S_S8x256x2x64 main_cst_4
  let main_v16 : IVec S8x256x2x64 1 := cmpf .olt main_v14 main_v15
  fn_part1 (F := F) main_arg4 main_v13 main_v16
-- ==== Pre_in_range.lean ====
abbrev S160 : Shape := ⟨1, ![160]⟩
abbrev S1 : Shape := ⟨1, ![1]⟩
abbrev S40960x640 : Shape := ⟨2, ![40960, 640]⟩
abbrev S16x1024x512 : Shape := ⟨3, ![16, 1024, 512]⟩
abbrev S16x512x1024 : Shape := ⟨3, ![16, 512, 1024]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_arg2 : IVec S1 32) (main_v14 : IVec S_ 1) (main_c_7 : IVec S_ 32) : IVec S_ 1 :=
  let main_v15 : IVec S1 32 := broadcastInDim S1 ![] bcast_S_S1 main_c_7
  let main_v16 : IVec S1 1 := cmpi .sge main_arg2 main_v15
  let main_c_8 : IVec S_ 1 := constantI S_ 1 1#1
  let main_v17 : IVec S_ 1 := (fun x v => Host.reduce IntOp.andi x v reducesTo_S1_S_d0 h_S_) main_v16 main_c_8
  let main_v18 : IVec S_ 1 := andi main_v14 main_v17
  main_v18

def fn {F : FTy → Type} [FloatOps F] (main_arg0 : IVec S160 32) (main_arg1 : IVec S160 32) (main_arg2 : IVec S1 32) (main_arg3 : IVec S40960x640 32) (main_arg4 : FVec F S16x1024x512 .f32) (main_arg5 : FVec F S16x1024x512 .f32) (main_arg6 : FVec F S16x512x1024 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 1 := constantI S_ 1 1#1
  let main_v2 : IVec S_ 1 := (fun x v => Host.reduce IntOp.andi x v reducesTo_S160_S_d0 h_S_) main_v1 main_c_0
  let main_c_1 : IVec S_ 32 := constantI S_ 32 16#32
  let main_v3 : IVec S160 32 := broadcastInDim S160 ![] bcast_S_S160 main_c_1
  let main_v4 : IVec S160 1 := cmpi .slt main_arg0 main_v3
  let main_c_2 : IVec S_ 1 := constantI S_ 1 1#1
  let main_v5 : IVec S_ 1 := (fun x v => Host.reduce IntOp.andi x v reducesTo_S160_S_d0 h_S_) main_v4 main_c_2
  let main_v6 : IVec S_ 1 := andi main_v2 main_v5
  let main_c_3 : IVec S_ 32 := constantI S_ 32 0#32
  let main_v7 : IVec S160 32 := broadcastInDim S160 ![] bcast_S_S160 main_c_3
  let main_v8 : IVec S160 1 := cmpi .sge main_arg1 main_v7
  let main_c_4 : IVec S_ 1 := constantI S_ 1 1#1
  let main_v9 : IVec S_ 1 := (fun x v => Host.reduce IntOp.andi x v reducesTo_S160_S_d0 h_S_) main_v8 main_c_4
  let main_c_5 : IVec S_ 32 := constantI S_ 32 16#32
  let main_v10 : IVec S160 32 := broadcastInDim S160 ![] bcast_S_S160 main_c_5
  let main_v11 : IVec S160 1 := cmpi .slt main_arg1 main_v10
  let main_c_6 : IVec S_ 1 := constantI S_ 1 1#1
  let main_v12 : IVec S_ 1 := (fun x v => Host.reduce IntOp.andi x v reducesTo_S160_S_d0 h_S_) main_v11 main_c_6
  let main_v13 : IVec S_ 1 := andi main_v9 main_v12
  let main_v14 : IVec S_ 1 := andi main_v6 main_v13
  let main_c_7 : IVec S_ 32 := constantI S_ 32 1#32
  fn_part1 (F := F) main_arg2 main_v14 main_c_7
-- ==== Pre_routed.lean ====
abbrev S160 : Shape := ⟨1, ![160]⟩
abbrev S1 : Shape := ⟨1, ![1]⟩
abbrev S40960x640 : Shape := ⟨2, ![40960, 640]⟩
abbrev S16x1024x512 : Shape := ⟨3, ![16, 1024, 512]⟩
abbrev S16x512x1024 : Shape := ⟨3, ![16, 512, 1024]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_arg0 : IVec S160 32) (main_arg1 : IVec S160 32) (main_arg2 : IVec S1 32) (main_v14 : IVec S_ 1) (main_c_7 : IVec S_ 32) : IVec S_ 1 :=
  let main_v15 : IVec S1 32 := broadcastInDim S1 ![] bcast_S_S1 main_c_7
  let main_v16 : IVec S1 1 := cmpi .sge main_arg2 main_v15
  let main_c_8 : IVec S_ 1 := constantI S_ 1 1#1
  let main_v17 : IVec S_ 1 := (fun x v => Host.reduce IntOp.andi x v reducesTo_S1_S_d0 h_S_) main_v16 main_c_8
  let main_v18 : IVec S_ 1 := andi main_v14 main_v17
  let main_v19 : IVec S160 1 := cmpi .ne main_arg0 main_arg1
  let main_c_9 : IVec S_ 1 := constantI S_ 1 1#1
  let main_v20 : IVec S_ 1 := (fun x v => Host.reduce IntOp.andi x v reducesTo_S160_S_d0 h_S_) main_v19 main_c_9
  let main_v21 : IVec S_ 1 := andi main_v18 main_v20
  main_v21

def fn {F : FTy → Type} [FloatOps F] (main_arg0 : IVec S160 32) (main_arg1 : IVec S160 32) (main_arg2 : IVec S1 32) (main_arg3 : IVec S40960x640 32) (main_arg4 : FVec F S16x1024x512 .f32) (main_arg5 : FVec F S16x1024x512 .f32) (main_arg6 : FVec F S16x512x1024 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 1 := constantI S_ 1 1#1
  let main_v2 : IVec S_ 1 := (fun x v => Host.reduce IntOp.andi x v reducesTo_S160_S_d0 h_S_) main_v1 main_c_0
  let main_c_1 : IVec S_ 32 := constantI S_ 32 16#32
  let main_v3 : IVec S160 32 := broadcastInDim S160 ![] bcast_S_S160 main_c_1
  let main_v4 : IVec S160 1 := cmpi .slt main_arg0 main_v3
  let main_c_2 : IVec S_ 1 := constantI S_ 1 1#1
  let main_v5 : IVec S_ 1 := (fun x v => Host.reduce IntOp.andi x v reducesTo_S160_S_d0 h_S_) main_v4 main_c_2
  let main_v6 : IVec S_ 1 := andi main_v2 main_v5
  let main_c_3 : IVec S_ 32 := constantI S_ 32 0#32
  let main_v7 : IVec S160 32 := broadcastInDim S160 ![] bcast_S_S160 main_c_3
  let main_v8 : IVec S160 1 := cmpi .sge main_arg1 main_v7
  let main_c_4 : IVec S_ 1 := constantI S_ 1 1#1
  let main_v9 : IVec S_ 1 := (fun x v => Host.reduce IntOp.andi x v reducesTo_S160_S_d0 h_S_) main_v8 main_c_4
  let main_c_5 : IVec S_ 32 := constantI S_ 32 16#32
  let main_v10 : IVec S160 32 := broadcastInDim S160 ![] bcast_S_S160 main_c_5
  let main_v11 : IVec S160 1 := cmpi .slt main_arg1 main_v10
  let main_c_6 : IVec S_ 1 := constantI S_ 1 1#1
  let main_v12 : IVec S_ 1 := (fun x v => Host.reduce IntOp.andi x v reducesTo_S160_S_d0 h_S_) main_v11 main_c_6
  let main_v13 : IVec S_ 1 := andi main_v9 main_v12
  let main_v14 : IVec S_ 1 := andi main_v6 main_v13
  let main_c_7 : IVec S_ 32 := constantI S_ 32 1#32
  fn_part1 (F := F) main_arg0 main_arg1 main_arg2 main_v14 main_c_7
-- ==== Kernel.lean ====
abbrev S8x4096x8x64 : Shape := ⟨4, ![8, 4096, 8, 64]⟩
abbrev S8x4096x2x64 : Shape := ⟨4, ![8, 4096, 2, 64]⟩
abbrev S8x256x2x64 : Shape := ⟨4, ![8, 256, 2, 64]⟩
abbrev S8x8x64x4096 : Shape := ⟨4, ![8, 8, 64, 4096]⟩
abbrev S_ : Shape := ⟨0, ![]⟩
abbrev S8x2x256x64 : Shape := ⟨4, ![8, 2, 256, 64]⟩
abbrev S8x2x1x256x64 : Shape := ⟨5, ![8, 2, 1, 256, 64]⟩
abbrev S8x2x1x256x1 : Shape := ⟨5, ![8, 2, 1, 256, 1]⟩
abbrev S8x2x1x256x15 : Shape := ⟨5, ![8, 2, 1, 256, 15]⟩
abbrev S8x2x1x256x80 : Shape := ⟨5, ![8, 2, 1, 256, 80]⟩
abbrev S8x1x256x2x64 : Shape := ⟨5, ![8, 1, 256, 2, 64]⟩
abbrev S8x2x1x64x256 : Shape := ⟨5, ![8, 2, 1, 64, 256]⟩
abbrev S8x2x1x1x256 : Shape := ⟨5, ![8, 2, 1, 1, 256]⟩
abbrev S8x2x1x15x256 : Shape := ⟨5, ![8, 2, 1, 15, 256]⟩
abbrev S8x2x1x80x256 : Shape := ⟨5, ![8, 2, 1, 80, 256]⟩
abbrev S8x2x4096x64 : Shape := ⟨4, ![8, 2, 4096, 64]⟩
abbrev S8x2x16x256x64 : Shape := ⟨5, ![8, 2, 16, 256, 64]⟩
abbrev S8x2x16x256x1 : Shape := ⟨5, ![8, 2, 16, 256, 1]⟩
abbrev S8x2x16x256x15 : Shape := ⟨5, ![8, 2, 16, 256, 15]⟩
abbrev S8x2x16x256x80 : Shape := ⟨5, ![8, 2, 16, 256, 80]⟩
abbrev S8x16x256x2x64 : Shape := ⟨5, ![8, 16, 256, 2, 64]⟩
abbrev S8x2x16x64x256 : Shape := ⟨5, ![8, 2, 16, 64, 256]⟩
abbrev S8x2x16x1x256 : Shape := ⟨5, ![8, 2, 16, 1, 256]⟩
abbrev S8x2x16x15x256 : Shape := ⟨5, ![8, 2, 16, 15, 256]⟩
abbrev S8x2x16x80x256 : Shape := ⟨5, ![8, 2, 16, 80, 256]⟩
abbrev S8x2x1x256 : Shape := ⟨4, ![8, 2, 1, 256]⟩
abbrev S8x2 : Shape := ⟨2, ![8, 2]⟩
abbrev S8x2x16x256 : Shape := ⟨4, ![8, 2, 16, 256]⟩
abbrev S8x2x1x1 : Shape := ⟨4, ![8, 2, 1, 1]⟩
abbrev S8x2x1x128 : Shape := ⟨4, ![8, 2, 1, 128]⟩
abbrev S8x16x512x256 : Shape := ⟨4, ![8, 16, 512, 256]⟩
abbrev S1x4x64x1024 : Shape := ⟨4, ![1, 4, 64, 1024]⟩
abbrev S1x1x1x256x80 : Shape := ⟨5, ![1, 1, 1, 256, 80]⟩
abbrev S1x1x1x80x256 : Shape := ⟨5, ![1, 1, 1, 80, 256]⟩
abbrev S1x1x16x256x80 : Shape := ⟨5, ![1, 1, 16, 256, 80]⟩
abbrev S1x1x16x80x256 : Shape := ⟨5, ![1, 1, 16, 80, 256]⟩
abbrev S1x1x1x128 : Shape := ⟨4, ![1, 1, 1, 128]⟩
abbrev S1x4x256x256 : Shape := ⟨4, ![1, 4, 256, 256]⟩
abbrev S80x4096 : Shape := ⟨2, ![80, 4096]⟩
abbrev S1x4096 : Shape := ⟨2, ![1, 4096]⟩
abbrev S1x1x64x1024 : Shape := ⟨4, ![1, 1, 64, 1024]⟩
abbrev S64x1024 : Shape := ⟨2, ![64, 1024]⟩
abbrev S64x4096 : Shape := ⟨2, ![64, 4096]⟩
abbrev S15x4096 : Shape := ⟨2, ![15, 4096]⟩
abbrev S4096 : Shape := ⟨1, ![4096]⟩
abbrev S1x128 : Shape := ⟨2, ![1, 128]⟩
abbrev S1x1 : Shape := ⟨2, ![1, 1]⟩
abbrev S16x4096 : Shape := ⟨2, ![16, 4096]⟩
abbrev S256x80 : Shape := ⟨2, ![256, 80]⟩
abbrev S256x4096 : Shape := ⟨2, ![256, 4096]⟩
abbrev S80x256 : Shape := ⟨2, ![80, 256]⟩
abbrev S1x1x4096 : Shape := ⟨3, ![1, 1, 4096]⟩
abbrev S1 : Shape := ⟨1, ![1]⟩
abbrev S1x1x1 : Shape := ⟨3, ![1, 1, 1]⟩
abbrev S64x256 : Shape := ⟨2, ![64, 256]⟩
abbrev S1x1x64x256 : Shape := ⟨4, ![1, 1, 64, 256]⟩
abbrev S8x16x256x512 : Shape := ⟨4, ![8, 16, 256, 512]⟩
abbrev S8x4096x512 : Shape := ⟨3, ![8, 4096, 512]⟩

abbrev nBuf : Space → Nat
  | .hbm => 66
  | .vmem => 16
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8x256x2x64, .f32⟩
  | .hbm, ⟨4, _⟩ => ⟨S8x256x2x64, .f32⟩
  | .hbm, ⟨5, _⟩ => ⟨S8x8x64x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x8x64x4096, .f32⟩
  | .hbm, ⟨11, _⟩ => ⟨S8x8x64x4096, .f32⟩
  | .hbm, ⟨12, _⟩ => ⟨S8x8x64x4096, .bf16⟩
  | .hbm, ⟨13, _⟩ => ⟨S8x2x256x64, .f32⟩
  | .hbm, ⟨14, _⟩ => ⟨S8x2x1x256x64, .f32⟩
  | .hbm, ⟨15, _⟩ => ⟨S_, .f32⟩
  | .hbm, ⟨16, _⟩ => ⟨S8x2x1x256x1, .f32⟩
  | .hbm, ⟨17, _⟩ => ⟨S_, .f32⟩
  | .hbm, ⟨18, _⟩ => ⟨S8x2x1x256x15, .f32⟩
  | .hbm, ⟨19, _⟩ => ⟨S8x2x1x256x80, .f32⟩
  | .hbm, ⟨20, _⟩ => ⟨S8x2x1x256x80, .bf16⟩
  | .hbm, ⟨21, _⟩ => ⟨S8x1x256x2x64, .f32⟩
  | .hbm, ⟨22, _⟩ => ⟨S8x2x1x64x256, .f32⟩
  | .hbm, ⟨23, _⟩ => ⟨S_, .f32⟩
  | .hbm, ⟨24, _⟩ => ⟨S8x2x1x1x256, .f32⟩
  | .hbm, ⟨25, _⟩ => ⟨S_, .f32⟩
  | .hbm, ⟨26, _⟩ => ⟨S8x2x1x15x256, .f32⟩
  | .hbm, ⟨27, _⟩ => ⟨S8x2x1x80x256, .f32⟩
  | .hbm, ⟨28, _⟩ => ⟨S8x2x1x80x256, .bf16⟩
  | .hbm, ⟨29, _⟩ => ⟨S8x2x4096x64, .f32⟩
  | .hbm, ⟨30, _⟩ => ⟨S8x2x16x256x64, .f32⟩
  | .hbm, ⟨31, _⟩ => ⟨S_, .f32⟩
  | .hbm, ⟨32, _⟩ => ⟨S8x2x16x256x1, .f32⟩
  | .hbm, ⟨33, _⟩ => ⟨S_, .f32⟩
  | .hbm, ⟨34, _⟩ => ⟨S8x2x16x256x15, .f32⟩
  | .hbm, ⟨35, _⟩ => ⟨S8x2x16x256x80, .f32⟩
  | .hbm, ⟨36, _⟩ => ⟨S8x2x16x256x80, .bf16⟩
  | .hbm, ⟨37, _⟩ => ⟨S8x16x256x2x64, .f32⟩
  | .hbm, ⟨38, _⟩ => ⟨S8x2x16x64x256, .f32⟩
  | .hbm, ⟨39, _⟩ => ⟨S_, .f32⟩
  | .hbm, ⟨40, _⟩ => ⟨S8x2x16x1x256, .f32⟩
  | .hbm, ⟨41, _⟩ => ⟨S_, .f32⟩
  | .hbm, ⟨42, _⟩ => ⟨S8x2x16x15x256, .f32⟩
  | .hbm, ⟨43, _⟩ => ⟨S8x2x16x80x256, .f32⟩
  | .hbm, ⟨44, _⟩ => ⟨S8x2x16x80x256, .bf16⟩
  | .hbm, ⟨45, _⟩ => ⟨S8x2x1x256x64, .bf16⟩
  | .hbm, ⟨46, _⟩ => ⟨S8x2x1x256x64, .f32⟩
  | .hbm, ⟨47, _⟩ => ⟨S8x2x1x256x64, .f32⟩
  | .hbm, ⟨48, _⟩ => ⟨S_, .f32⟩
  | .hbm, ⟨49, _⟩ => ⟨S8x2x1x256, .f32⟩
  | .hbm, ⟨50, _⟩ => ⟨S_, .f32⟩
  | .hbm, ⟨51, _⟩ => ⟨S8x2, .f32⟩
  | .hbm, ⟨52, _⟩ => ⟨S8x2x16x256x64, .bf16⟩
  | .hbm, ⟨53, _⟩ => ⟨S8x2x16x256x64, .f32⟩
  | .hbm, ⟨54, _⟩ => ⟨S8x2x16x256x64, .f32⟩
  | .hbm, ⟨55, _⟩ => ⟨S_, .f32⟩
  | .hbm, ⟨56, _⟩ => ⟨S8x2x16x256, .f32⟩
  | .hbm, ⟨57, _⟩ => ⟨S_, .f32⟩
  | .hbm, ⟨58, _⟩ => ⟨S8x2, .f32⟩
  | .hbm, ⟨59, _⟩ => ⟨S8x2, .f32⟩
  | .hbm, ⟨60, _⟩ => ⟨S8x2, .f32⟩
  | .hbm, ⟨61, _⟩ => ⟨S8x2x1x1, .f32⟩
  | .hbm, ⟨62, _⟩ => ⟨S8x2x1x128, .f32⟩
  | .hbm, ⟨63, _⟩ => ⟨S8x16x512x256, .bf16⟩
  | .hbm, ⟨64, _⟩ => ⟨S8x16x256x512, .bf16⟩
  | .hbm, ⟨65, _⟩ => ⟨S8x4096x512, .bf16⟩
  | .local _ .vmem, ⟨0, _⟩ => ⟨S1x4x64x1024, .bf16⟩
  | .local _ .vmem, ⟨1, _⟩ => ⟨S1x4x64x1024, .bf16⟩
  | .local _ .vmem, ⟨2, _⟩ => ⟨S1x1x1x256x80, .bf16⟩
  | .local _ .vmem, ⟨3, _⟩ => ⟨S1x1x1x256x80, .bf16⟩
  | .local _ .vmem, ⟨4, _⟩ => ⟨S1x1x1x80x256, .bf16⟩
  | .local _ .vmem, ⟨5, _⟩ => ⟨S1x1x1x80x256, .bf16⟩
  | .local _ .vmem, ⟨6, _⟩ => ⟨S1x1x16x256x80, .bf16⟩
  | .local _ .vmem, ⟨7, _⟩ => ⟨S1x1x16x256x80, .bf16⟩
  | .local _ .vmem, ⟨8, _⟩ => ⟨S1x1x16x80x256, .bf16⟩
  | .local _ .vmem, ⟨9, _⟩ => ⟨S1x1x16x80x256, .bf16⟩
  | .local _ .vmem, ⟨10, _⟩ => ⟨S1x1x1x128, .f32⟩
  | .local _ .vmem, ⟨11, _⟩ => ⟨S1x1x1x128, .f32⟩
  | .local _ .vmem, ⟨12, _⟩ => ⟨S1x4x256x256, .bf16⟩
  | .local _ .vmem, ⟨13, _⟩ => ⟨S1x4x256x256, .bf16⟩
  | .local _ .vmem, ⟨14, _⟩ => ⟨S80x4096, .f32⟩
  | .local _ .vmem, ⟨15, _⟩ => ⟨S1x4096, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 4], ![false, false, false]⟩

@[reducible] def k0_t1_loop : Scf.Loop 32 :=
  let c0_i32 : BitVec 32 := 0#32
  let c2_i32 : BitVec 32 := 2#32
  let v44 : BitVec 32 := Scalar.addi c0_i32 c2_i32
  let c1_i32 : BitVec 32 := 1#32
  ⟨c0_i32, v44, c1_i32⟩
def k0_off1 (k0_t1 : Fin k0_t1_loop.trips) (c0_i32_44 : BitVec 32) : Fin 5 → Nat :=
  let c0_45 : Index := 0#32
  let c0_46 : Index := 0#32
  let c8_i32 : BitVec 32 := 8#32
  let c0_i32 : BitVec 32 := 0#32
  let c1_i32 : BitVec 32 := 1#32
  let arg12 : BitVec 32 := Scf.iv c0_i32 c1_i32 k0_t1
  let v56 : BitVec 32 := Scalar.muli c8_i32 arg12
  let v57 : BitVec 32 := Scalar.addi v56 c0_i32_44
  let v58 : Index := Scalar.indexCast v57
  let c0_47 : Index := 0#32
  let c0_48 : Index := 0#32
  ![0, 0, v58.toNat, 0, 0]
def k0_off2 (k0_t1 : Fin k0_t1_loop.trips) (c0_i32_44 : BitVec 32) : Fin 5 → Nat :=
  let c0_52 : Index := 0#32
  let c0_53 : Index := 0#32
  let c8_i32 : BitVec 32 := 8#32
  let c0_i32 : BitVec 32 := 0#32
  let c1_i32 : BitVec 32 := 1#32
  let arg12 : BitVec 32 := Scf.iv c0_i32 c1_i32 k0_t1
  let v56 : BitVec 32 := Scalar.muli c8_i32 arg12
  let v57 : BitVec 32 := Scalar.addi v56 c0_i32_44
  let v65 : Index := Scalar.indexCast v57
  let c0_54 : Index := 0#32
  let c0_55 : Index := 0#32
  ![0, 0, v65.toNat, 0, 0]
@[reducible] def k0_t2_loop : Scf.Loop 32 :=
  let c0_i32_72 : BitVec 32 := 0#32
  let c2_i32_73 : BitVec 32 := 2#32
  let v92 : BitVec 32 := Scalar.addi c0_i32_72 c2_i32_73
  let c1_i32_74 : BitVec 32 := 1#32
  ⟨c0_i32_72, v92, c1_i32_74⟩
def k0_off3 (k0_t2 : Fin k0_t2_loop.trips) (c0_i32_140 : BitVec 32) : Fin 5 → Nat :=
  let c0_141 : Index := 0#32
  let c0_142 : Index := 0#32
  let c8_i32 : BitVec 32 := 8#32
  let c0_i32_72 : BitVec 32 := 0#32
  let c1_i32_74 : BitVec 32 := 1#32
  let arg12 : BitVec 32 := Scf.iv c0_i32_72 c1_i32_74 k0_t2
  let v178 : BitVec 32 := Scalar.muli c8_i32 arg12
  let v179 : BitVec 32 := Scalar.addi v178 c0_i32_140
  let v180 : Index := Scalar.indexCast v179
  let c0_143 : Index := 0#32
  let c0_144 : Index := 0#32
  ![0, 0, v180.toNat, 0, 0]
def k0_off4 (k0_t2 : Fin k0_t2_loop.trips) (c0_i32_140 : BitVec 32) : Fin 5 → Nat :=
  let c0_151 : Index := 0#32
  let c0_152 : Index := 0#32
  let c8_i32 : BitVec 32 := 8#32
  let c0_i32_72 : BitVec 32 := 0#32
  let c1_i32_74 : BitVec 32 := 1#32
  let arg12 : BitVec 32 := Scf.iv c0_i32_72 c1_i32_74 k0_t2
  let v178 : BitVec 32 := Scalar.muli c8_i32 arg12
  let v179 : BitVec 32 := Scalar.addi v178 c0_i32_140
  let v197 : Index := Scalar.indexCast v179
  let c0_153 : Index := 0#32
  let c0_154 : Index := 0#32
  ![0, 0, v197.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x4x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x256x80 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16x256x80 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x16x80x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8x4096x8x64 : Shape := ⟨4, ![8, 4096, 8, 64]⟩
abbrev S8x4096x2x64 : Shape := ⟨4, ![8, 4096, 2, 64]⟩
abbrev S8x256x2x64 : Shape := ⟨4, ![8, 256, 2, 64]⟩
abbrev S8x4352x2x64 : Shape := ⟨4, ![8, 4352, 2, 64]⟩
abbrev S8x4096x2x4x64 : Shape := ⟨5, ![8, 4096, 2, 4, 64]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x512 : Shape := ⟨3, ![8, 4096, 512]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8x256x2x64, .f32⟩
  | .hbm, ⟨4, _⟩ => ⟨S8x256x2x64, .f32⟩
  | .hbm, ⟨5, _⟩ => ⟨S8x4352x2x64, .f32⟩
  | .hbm, ⟨6, _⟩ => ⟨S8x4352x2x64, .f32⟩
  | .hbm, ⟨7, _⟩ => ⟨S8x4096x2x4x64, .f32⟩
  | .hbm, ⟨8, _⟩ => ⟨S8x2x4352x4096x4, .f32⟩
  | .hbm, ⟨9, _⟩ => ⟨S8x2x4x4096x4352, .f32⟩
  | .hbm, ⟨10, _⟩ => ⟨S_, .f32⟩
  | .hbm, ⟨11, _⟩ => ⟨S8x2x4x4096x4352, .f32⟩
  | .hbm, ⟨12, _⟩ => ⟨S8x2x4x4096x4352, .f32⟩
  | .hbm, ⟨13, _⟩ => ⟨S_, .f32⟩
  | .hbm, ⟨14, _⟩ => ⟨S8x2x4x4096, .f32⟩
  | .hbm, ⟨15, _⟩ => ⟨S_, .f32⟩
  | .hbm, ⟨16, _⟩ => ⟨S8x2x4x4096, .f32⟩
  | .hbm, ⟨17, _⟩ => ⟨S8x2x4x4096, .f32⟩
  | .hbm, ⟨18, _⟩ => ⟨S8x2x4x4096x1, .f32⟩
  | .hbm, ⟨19, _⟩ => ⟨S8x2x4x4096x4352, .f32⟩
  | .hbm, ⟨20, _⟩ => ⟨S8x2x4x4096x4352, .f32⟩
  | .hbm, ⟨21, _⟩ => ⟨S8x2x4x4096x4352, .f32⟩
  | .hbm, ⟨22, _⟩ => ⟨S_, .f32⟩
  | .hbm, ⟨23, _⟩ => ⟨S8x2x4x4096, .f32⟩
  | .hbm, ⟨24, _⟩ => ⟨S8x2x4x4096x1, .f32⟩
  | .hbm, ⟨25, _⟩ => ⟨S8x2x4x4096x4352, .f32⟩
  | .hbm, ⟨26, _⟩ => ⟨S8x2x4x4096x4352, .f32⟩
  | .hbm, ⟨27, _⟩ => ⟨S8x2x64x4x4096, .f32⟩
  | .hbm, ⟨28, _⟩ => ⟨S8x4096x2x4x64, .f32⟩
  | .hbm, ⟨29, _⟩ => ⟨S8x4096x512, .f32⟩
  | .hbm, ⟨30, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Experts.lean ====
abbrev S160 : Shape := ⟨1, ![160]⟩
abbrev S1 : Shape := ⟨1, ![1]⟩
abbrev S40960x640 : Shape := ⟨2, ![40960, 640]⟩
abbrev S16x1024x512 : Shape := ⟨3, ![16, 1024, 512]⟩
abbrev S16x512x1024 : Shape := ⟨3, ![16, 512, 1024]⟩
abbrev S_ : Shape := ⟨0, ![]⟩
abbrev S160x1 : Shape := ⟨2, ![160, 1]⟩
abbrev S40960x1024 : Shape := ⟨2, ![40960, 1024]⟩
abbrev S256x640 : Shape := ⟨2, ![256, 640]⟩
abbrev S1x1024x512 : Shape := ⟨3, ![1, 1024, 512]⟩
abbrev S1x512x1024 : Shape := ⟨3, ![1, 512, 1024]⟩
abbrev S256x1024 : Shape := ⟨2, ![256, 1024]⟩
abbrev S256x512 : Shape := ⟨2, ![256, 512]⟩
abbrev S256x2 : Shape := ⟨2, ![256, 2]⟩
abbrev S256x1 : Shape := ⟨2, ![256, 1]⟩
abbrev S1x512x512 : Shape := ⟨3, ![1, 512, 512]⟩
abbrev S512x512 : Shape := ⟨2, ![512, 512]⟩
abbrev S512x1024 : Shape := ⟨2, ![512, 1024]⟩

abbrev nBuf : Space → Nat
  | .hbm => 32
  | .vmem => 16
  | .smem => 3
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S40960x640, .i32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S16x1024x512, .bf16⟩
  | .hbm, ⟨7, _⟩ => ⟨S16x1024x512, .bf16⟩
  | .hbm, ⟨8, _⟩ => ⟨S16x512x1024, .bf16⟩
  | .hbm, ⟨9, _⟩ => ⟨S160, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S160, .i32⟩
  | .hbm, ⟨14, _⟩ => ⟨S160, .i32⟩
  | .hbm, ⟨15, _⟩ => ⟨S_, .i32⟩
  | .hbm, ⟨16, _⟩ => ⟨S160, .i32⟩
  | .hbm, ⟨17, _⟩ => ⟨S160, .i1⟩
  | .hbm, ⟨18, _⟩ => ⟨S_, .i32⟩
  | .hbm, ⟨19, _⟩ => ⟨S160, .i32⟩
  | .hbm, ⟨20, _⟩ => ⟨S160, .i32⟩
  | .hbm, ⟨21, _⟩ => ⟨S160, .i32⟩
  | .hbm, ⟨22, _⟩ => ⟨S160x1, .i32⟩
  | .hbm, ⟨23, _⟩ => ⟨S_, .i32⟩
  | .hbm, ⟨24, _⟩ => ⟨S160, .i32⟩
  | .hbm, ⟨25, _⟩ => ⟨S160, .i1⟩
  | .hbm, ⟨26, _⟩ => ⟨S_, .i32⟩
  | .hbm, ⟨27, _⟩ => ⟨S160, .i32⟩
  | .hbm, ⟨28, _⟩ => ⟨S160, .i32⟩
  | .hbm, ⟨29, _⟩ => ⟨S160, .i32⟩
  | .hbm, ⟨30, _⟩ => ⟨S160x1, .i32⟩
  | .hbm, ⟨31, _⟩ => ⟨S40960x1024, .bf16⟩
  | .local _ .vmem, ⟨0, _⟩ => ⟨S256x640, .i32⟩
  | .local _ .vmem, ⟨1, _⟩ => ⟨S256x640, .i32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S256x1024, .bf16⟩
  | .local _ .vmem, ⟨15, _⟩ => ⟨S256x1024, .bf16⟩
  | .local _ .smem, ⟨0, _⟩ => ⟨S160, .i32⟩
  | .local _ .smem, ⟨1, _⟩ => ⟨S160, .i32⟩
  | .local _ .smem, ⟨2, _⟩ => ⟨S1, .i32⟩
  | _, _ => ⟨S160, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v22 : Ref sig .tc := ⟨.hbm, 31, rfl⟩
abbrev main_v14 : Ref sig .tc := ⟨.smem, 0, rfl⟩
abbrev main_v21 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![160], ![false]⟩

abbrev pre0 : Pipeline.Prefetch sig := ⟨3, ![main_v14.idx, main_v21.idx, main_arg2.idx], fun | 0 => main_v14.names | 1 => main_v21.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsReferenceIdeal.lean ====
abbrev S160 : Shape := ⟨1, ![160]⟩
abbrev S1 : Shape := ⟨1, ![1]⟩
abbrev S40960x640 : Shape := ⟨2, ![40960, 640]⟩
abbrev S16x1024x512 : Shape := ⟨3, ![16, 1024, 512]⟩
abbrev S16x512x1024 : Shape := ⟨3, ![16, 512, 1024]⟩
abbrev S40960x512 : Shape := ⟨2, ![40960, 512]⟩
abbrev S_ : Shape := ⟨0, ![]⟩
abbrev S40960x1024 : Shape := ⟨2, ![40960, 1024]⟩
abbrev S40960x2 : Shape := ⟨2, ![40960, 2]⟩
abbrev S160x256 : Shape := ⟨2, ![160, 256]⟩
abbrev S40960 : Shape := ⟨1, ![40960]⟩
abbrev S40960x1 : Shape := ⟨2, ![40960, 1]⟩
abbrev S1x16 : Shape := ⟨2, ![1, 16]⟩
abbrev S40960x16 : Shape := ⟨2, ![40960, 16]⟩
abbrev S16x512x40960 : Shape := ⟨3, ![16, 512, 40960]⟩
abbrev S16x40960x512 : Shape := ⟨3, ![16, 40960, 512]⟩
abbrev S16x40960x1024 : Shape := ⟨3, ![16, 40960, 1024]⟩

abbrev nBuf : Space → Nat
  | .hbm => 71
  | .vmem => 0
  | .smem => 0
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S1, .i32⟩
  | .hbm, ⟨3, _⟩ => ⟨S40960x640, .i32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S40960x512, .i32⟩
  | .hbm, ⟨8, _⟩ => ⟨S_, .i32⟩
  | .hbm, ⟨9, _⟩ => ⟨S40960x512, .i32⟩
  | .hbm, ⟨10, _⟩ => ⟨S40960x512, .i32⟩
  | .hbm, ⟨11, _⟩ => ⟨S40960x512, .f32⟩
  | .hbm, ⟨12, _⟩ => ⟨S_, .i32⟩
  | .hbm, ⟨13, _⟩ => ⟨S40960x512, .i32⟩
  | .hbm, ⟨14, _⟩ => ⟨S40960x512, .i32⟩
  | .hbm, ⟨15, _⟩ => ⟨S40960x512, .f32⟩
  | .hbm, ⟨16, _⟩ => ⟨S40960x1024, .f32⟩
  | .hbm, ⟨17, _⟩ => ⟨S40960x2, .i32⟩
  | .hbm, ⟨18, _⟩ => ⟨S40960x2, .f32⟩
  | .hbm, ⟨19, _⟩ => ⟨S160x256, .i32⟩
  | .hbm, ⟨20, _⟩ => ⟨S40960, .i32⟩
  | .hbm, ⟨21, _⟩ => ⟨S160x256, .i32⟩
  | .hbm, ⟨22, _⟩ => ⟨S40960, .i32⟩
  | .hbm, ⟨23, _⟩ => ⟨S40960x1, .f32⟩
  | .hbm, ⟨24, _⟩ => ⟨S40960x1, .i32⟩
  | .hbm, ⟨25, _⟩ => ⟨S1x16, .i32⟩
  | .hbm, ⟨26, _⟩ => ⟨S40960x16, .i32⟩
  | .hbm, ⟨27, _⟩ => ⟨S40960x16, .i32⟩
  | .hbm, ⟨28, _⟩ => ⟨S40960x16, .i1⟩
  | .hbm, ⟨29, _⟩ => ⟨S40960x16, .f32⟩
  | .hbm, ⟨30, _⟩ => ⟨S40960x16, .f32⟩
  | .hbm, ⟨31, _⟩ => ⟨S40960x16, .f32⟩
  | .hbm, ⟨32, _⟩ => ⟨S40960x1, .f32⟩
  | .hbm, ⟨33, _⟩ => ⟨S40960x1, .i32⟩
  | .hbm, ⟨34, _⟩ => ⟨S1x16, .i32⟩
  | .hbm, ⟨35, _⟩ => ⟨S40960x16, .i32⟩
  | .hbm, ⟨36, _⟩ => ⟨S40960x16, .i32⟩
  | .hbm, ⟨37, _⟩ => ⟨S40960x16, .i1⟩
  | .hbm, ⟨38, _⟩ => ⟨S40960x16, .f32⟩
  | .hbm, ⟨39, _⟩ => ⟨S40960x16, .f32⟩
  | .hbm, ⟨40, _⟩ => ⟨S40960x16, .f32⟩
  | .hbm, ⟨41, _⟩ => ⟨S40960x16, .f32⟩
  | .hbm, ⟨42, _⟩ => ⟨S16x512x40960, .f32⟩
  | .hbm, ⟨43, _⟩ => ⟨S16x40960x512, .f32⟩
  | .hbm, ⟨44, _⟩ => ⟨S16x40960x512, .f32⟩
  | .hbm, ⟨45, _⟩ => ⟨S16x40960x512, .f32⟩
  | .hbm, ⟨46, _⟩ => ⟨S_, .f32⟩
  | .hbm, ⟨47, _⟩ => ⟨S16x40960x512, .f32⟩
  | .hbm, ⟨48, _⟩ => ⟨S16x40960x512, .f32⟩
  | .hbm, ⟨49, _⟩ => ⟨S_, .f32⟩
  | .hbm, ⟨50, _⟩ => ⟨S16x40960x512, .f32⟩
  | .hbm, ⟨51, _⟩ => ⟨S16x40960x512, .f32⟩
  | .hbm, ⟨52, _⟩ => ⟨S16x40960x512, .f32⟩
  | .hbm, ⟨53, _⟩ => ⟨S16x512x40960, .f32⟩
  | .hbm, ⟨54, _⟩ => ⟨S16x40960x512, .f32⟩
  | .hbm, ⟨55, _⟩ => ⟨S16x40960x512, .f32⟩
  | .hbm, ⟨56, _⟩ => ⟨S16x40960x1024, .f32⟩
  | .hbm, ⟨57, _⟩ => ⟨S40960x1024, .f32⟩
  | .hbm, ⟨58, _⟩ => ⟨S160, .i32⟩
  | .hbm, ⟨59, _⟩ => ⟨S160x256, .i32⟩
  | .hbm, ⟨60, _⟩ => ⟨S40960, .i32⟩
  | .hbm, ⟨61, _⟩ => ⟨S_, .i32⟩
  | .hbm, ⟨62, _⟩ => ⟨S40960, .i32⟩
  | .hbm, ⟨63, _⟩ => ⟨S40960, .i1⟩
  | .hbm, ⟨64, _⟩ => ⟨S40960x1, .i1⟩
  | .hbm, ⟨65, _⟩ => ⟨S_, .f32⟩
  | .hbm, ⟨66, _⟩ => ⟨S_, .f32⟩
  | .hbm, ⟨67, _⟩ => ⟨S40960x1024, .i1⟩
  | .hbm, ⟨68, _⟩ => ⟨S40960x1024, .f32⟩
  | .hbm, ⟨69, _⟩ => ⟨S40960x1024, .f32⟩
  | .hbm, ⟨70, _⟩ => ⟨S40960x1024, .bf16⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v38 : Ref sig .tc := ⟨.hbm, 69, rfl⟩
abbrev main_v39 : Ref sig .tc := ⟨.hbm, 70, rfl⟩

abbrev nD : Nat := 1
abbrev τ : Topo := Topo.v7x

variable {F : FTy → Type} [FloatOps F]
-- ==== Projection.lean ====
abbrev S8x4096x1024 : Shape := ⟨3, ![8, 4096, 1024]⟩
abbrev S16x6x1024 : Shape := ⟨3, ![16, 6, 1024]⟩
abbrev S1024 : Shape := ⟨1, ![1024]⟩
abbrev S1024x2304 : Shape := ⟨2, ![1024, 2304]⟩
abbrev S64 : Shape := ⟨1, ![64]⟩
abbrev S1x1024 : Shape := ⟨2, ![1, 1024]⟩
abbrev S2304x1024 : Shape := ⟨2, ![2304, 1024]⟩
abbrev S64x1 : Shape := ⟨2, ![64, 1]⟩
abbrev S4096 : Shape := ⟨1, ![4096]⟩
abbrev S_ : Shape := ⟨0, ![]⟩
abbrev S16 : Shape := ⟨1, ![16]⟩
abbrev S16x1 : Shape := ⟨2, ![16, 1]⟩
abbrev S1x4096 : Shape := ⟨2, ![1, 4096]⟩
abbrev S16x4096 : Shape := ⟨2, ![16, 4096]⟩
abbrev S64x4096 : Shape := ⟨2, ![64, 4096]⟩
abbrev S8x8x64x4096 : Shape := ⟨4, ![8, 8, 64, 4096]⟩
abbrev S8x2x16x256x80 : Shape := ⟨5, ![8, 2, 16, 256, 80]⟩
abbrev S8x2x16x80x256 : Shape := ⟨5, ![8, 2, 16, 80, 256]⟩
abbrev S8x16x1536x256 : Shape := ⟨4, ![8, 16, 1536, 256]⟩
abbrev S1x256x1024 : Shape := ⟨3, ![1, 256, 1024]⟩
abbrev S1x6x1024 : Shape := ⟨3, ![1, 6, 1024]⟩
abbrev S64x256 : Shape := ⟨2, ![64, 256]⟩
abbrev S1x8x64x256 : Shape := ⟨4, ![1, 8, 64, 256]⟩
abbrev S1x2x1x256x80 : Shape := ⟨5, ![1, 2, 1, 256, 80]⟩
abbrev S1x2x1x80x256 : Shape := ⟨5, ![1, 2, 1, 80, 256]⟩
abbrev S1x1x1536x256 : Shape := ⟨4, ![1, 1, 1536, 256]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S2304x256 : Shape := ⟨2, ![2304, 256]⟩
abbrev S16x256 : Shape := ⟨2, ![16, 256]⟩
abbrev S1x16x256 : Shape := ⟨3, ![1, 16, 256]⟩
abbrev S512x256 : Shape := ⟨2, ![512, 256]⟩
abbrev S8x64x256 : Shape := ⟨3, ![8, 64, 256]⟩
abbrev S8x256 : Shape := ⟨2, ![8, 256]⟩
abbrev S8x1x256 : Shape := ⟨3, ![8, 1, 256]⟩
abbrev S1x64x1 : Shape := ⟨3, ![1, 64, 1]⟩
abbrev S8x16x256 : Shape := ⟨3, ![8, 16, 256]⟩
abbrev S128x256 : Shape := ⟨2, ![128, 256]⟩
abbrev S2x64x256 : Shape := ⟨3, ![2, 64, 256]⟩
abbrev S2x256 : Shape := ⟨2, ![2, 256]⟩
abbrev S2x1x256 : Shape := ⟨3, ![2, 1, 256]⟩
abbrev S2x16x256 : Shape := ⟨3, ![2, 16, 256]⟩
abbrev S256x128 : Shape := ⟨2, ![256, 128]⟩
abbrev S256x64 : Shape := ⟨2, ![256, 64]⟩
abbrev S1x1x1x256x64 : Shape := ⟨5, ![1, 1, 1, 256, 64]⟩
abbrev S2x256x16 : Shape := ⟨3, ![2, 256, 16]⟩
abbrev S1x2x1x256x16 : Shape := ⟨5, ![1, 2, 1, 256, 16]⟩
abbrev S1x2x1x64x256 : Shape := ⟨5, ![1, 2, 1, 64, 256]⟩
abbrev S1x2x1x16x256 : Shape := ⟨5, ![1, 2, 1, 16, 256]⟩
abbrev S1536x256 : Shape := ⟨2, ![1536, 256]⟩
abbrev S8x4096x8x64 : Shape := ⟨4, ![8, 4096, 8, 64]⟩
abbrev S8x2x16x256x64 : Shape := ⟨5, ![8, 2, 16, 256, 64]⟩
abbrev S8x16x256x2x64 : Shape := ⟨5, ![8, 16, 256, 2, 64]⟩
abbrev S8x4096x2x64 : Shape := ⟨4, ![8, 4096, 2, 64]⟩
abbrev S8x2x16x64x256 : Shape := ⟨5, ![8, 2, 16, 64, 256]⟩
abbrev S8x16x256x1536 : Shape := ⟨4, ![8, 16, 256, 1536]⟩
abbrev S8x4096x1536 : Shape := ⟨3, ![8, 4096, 1536]⟩

abbrev nBuf : Space → Nat
  | .hbm => 95
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S16x6x1024, .f32⟩
  | .hbm, ⟨2, _⟩ => ⟨S1024, .f32⟩
  | .hbm, ⟨3, _⟩ => ⟨S1024x2304, .f32⟩
  | .hbm, ⟨4, _⟩ => ⟨S64, .f32⟩
  | .hbm, ⟨5, _⟩ => ⟨S64, .f32⟩
  | .hbm, ⟨6, _⟩ => ⟨S1x1024, .f32⟩
  | .hbm, ⟨7, _⟩ => ⟨S2304x1024, .f32⟩
  | .hbm, ⟨8, _⟩ => ⟨S2304x1024, .bf16⟩
  | .hbm, ⟨9, _⟩ => ⟨S64x1, .f32⟩
  | .hbm, ⟨10, _⟩ => ⟨S64x1, .f32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096, .f32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S_, .i32⟩
  | .hbm, ⟨46, _⟩ => ⟨S_, .i1⟩
  | .hbm, ⟨47, _⟩ => ⟨S4096, .i1⟩
  | .hbm, ⟨48, _⟩ => ⟨S4096, .i1⟩
  | .hbm, ⟨49, _⟩ => ⟨S4096, .i1⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S4096, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S16x1, .f32⟩
  | .hbm, ⟨63, _⟩ => ⟨S1x4096, .f32⟩
  | .hbm, ⟨64, _⟩ => ⟨S16x4096, .f32⟩
  | .hbm, ⟨65, _⟩ => ⟨S16x4096, .f32⟩
  | .hbm, ⟨66, _⟩ => ⟨S16x4096, .f32⟩
  | .hbm, ⟨67, _⟩ => ⟨S16x1, .f32⟩
  | .hbm, ⟨68, _⟩ => ⟨S1x4096, .f32⟩
  | .hbm, ⟨69, _⟩ => ⟨S16x4096, .f32⟩
  | .hbm, ⟨70, _⟩ => ⟨S16x4096, .f32⟩
  | .hbm, ⟨71, _⟩ => ⟨S16x4096, .f32⟩
  | .hbm, ⟨72, _⟩ => ⟨S16x4096, .f32⟩
  | .hbm, ⟨73, _⟩ => ⟨S16x4096, .f32⟩
  | .hbm, ⟨74, _⟩ => ⟨S16x4096, .f32⟩
  | .hbm, ⟨75, _⟩ => ⟨S16x4096, .f32⟩
  | .hbm, ⟨76, _⟩ => ⟨S64x4096, .f32⟩
  | .hbm, ⟨77, _⟩ => ⟨S8x8x64x4096, .bf16⟩
  | .hbm, ⟨78, _⟩ => ⟨S8x2x16x256x80, .bf16⟩
  | .hbm, ⟨79, _⟩ => ⟨S8x2x16x80x256, .bf16⟩
  | .hbm, ⟨80, _⟩ => ⟨S8x16x1536x256, .bf16⟩
  | .hbm, ⟨81, _⟩ => ⟨S8x4096x8x64, .bf16⟩
  | .hbm, ⟨82, _⟩ => ⟨S8x4096x8x64, .f32⟩
  | .hbm, ⟨83, _⟩ => ⟨S_, .f32⟩
  | .hbm, ⟨84, _⟩ => ⟨S8x4096x8x64, .f32⟩
  | .hbm, ⟨85, _⟩ => ⟨S8x4096x8x64, .f32⟩
  | .hbm, ⟨86, _⟩ => ⟨S8x4096x8x64, .bf16⟩
  | .hbm, ⟨87, _⟩ => ⟨S8x2x16x256x64, .bf16⟩
  | .hbm, ⟨88, _⟩ => ⟨S8x16x256x2x64, .bf16⟩
  | .hbm, ⟨89, _⟩ => ⟨S8x4096x2x64, .bf16⟩
  | .hbm, ⟨90, _⟩ => ⟨S8x2x16x64x256, .bf16⟩
  | .hbm, ⟨91, _⟩ => ⟨S8x16x256x2x64, .bf16⟩
  | .hbm, ⟨92, _⟩ => ⟨S8x4096x2x64, .bf16⟩
  | .hbm, ⟨93, _⟩ => ⟨S8x16x256x1536, .bf16⟩
  | .hbm, ⟨94, _⟩ => ⟨S8x4096x1536, .bf16⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S2304x1024, .bf16⟩
  | .local _ .vmem, ⟨6, _⟩ => ⟨S64x1, .f32⟩
  | .local _ .vmem, ⟨7, _⟩ => ⟨S64x1, .f32⟩
  | .local _ .vmem, ⟨8, _⟩ => ⟨S64x256, .f32⟩
  | .local _ .vmem, ⟨9, _⟩ => ⟨S64x256, .f32⟩
  | .local _ .vmem, ⟨10, _⟩ => ⟨S1x8x64x256, .bf16⟩
  | .local _ .vmem, ⟨11, _⟩ => ⟨S1x8x64x256, .bf16⟩
  | .local _ .vmem, ⟨12, _⟩ => ⟨S1x2x1x256x80, .bf16⟩
  | .local _ .vmem, ⟨13, _⟩ => ⟨S1x2x1x256x80, .bf16⟩
  | .local _ .vmem, ⟨14, _⟩ => ⟨S1x2x1x80x256, .bf16⟩
  | .local _ .vmem, ⟨15, _⟩ => ⟨S1x2x1x80x256, .bf16⟩
  | .local _ .vmem, ⟨16, _⟩ => ⟨S1x1x1536x256, .bf16⟩
  | .local _ .vmem, ⟨17, _⟩ => ⟨S1x1x1536x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst : Ref sig .tc := ⟨.hbm, 56, rfl⟩
abbrev main_v12 : Ref sig .tc := ⟨.hbm, 57, rfl⟩
abbrev main_v13 : Ref sig .tc := ⟨.hbm, 58, rfl⟩
abbrev main_cst_1 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31_0 : Ref sig .tc := ⟨.hbm, 77, rfl⟩
abbrev main_v31_1 : Ref sig .tc := ⟨.hbm, 78, rfl⟩
abbrev main_v31_2 : Ref sig .tc := ⟨.hbm, 79, rfl⟩
abbrev main_v31_3 : Ref sig .tc := ⟨.hbm, 80, rfl⟩
abbrev main_v32 : Ref sig .tc := ⟨.hbm, 81, rfl⟩
abbrev main_v33 : Ref sig .tc := ⟨.hbm, 82, rfl⟩
abbrev main_cst_2 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2304x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x8x64x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1x256x80 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x1x80x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1536x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ProjectionReferenceIdeal.lean ====
abbrev S8x4096x1024 : Shape := ⟨3, ![8, 4096, 1024]⟩
abbrev S16x6x1024 : Shape := ⟨3, ![16, 6, 1024]⟩
abbrev S1024 : Shape := ⟨1, ![1024]⟩
abbrev S1024x2304 : Shape := ⟨2, ![1024, 2304]⟩
abbrev S64 : Shape := ⟨1, ![64]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2304 : Shape := ⟨3, ![8, 4096, 2304]⟩
abbrev S8x4096x512 : Shape := ⟨3, ![8, 4096, 512]⟩
abbrev S8x4096x8x64 : Shape := ⟨4, ![8, 4096, 8, 64]⟩
abbrev S8x4096x128 : Shape := ⟨3, ![8, 4096, 128]⟩
abbrev S8x4096x2x64 : Shape := ⟨4, ![8, 4096, 2, 64]⟩
abbrev S8x4096x1536 : Shape := ⟨3, ![8, 4096, 1536]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S8x4096x8x32 : Shape := ⟨4, ![8, 4096, 8, 32]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S8x4096x8x16 : Shape := ⟨4, ![8, 4096, 8, 16]⟩
abbrev S8x4096x2 : Shape := ⟨3, ![8, 4096, 2]⟩
abbrev S8x4096x2x1 : Shape := ⟨4, ![8, 4096, 2, 1]⟩
abbrev S8x4096x2x32 : Shape := ⟨4, ![8, 4096, 2, 32]⟩
abbrev S8x4096x2x16 : Shape := ⟨4, ![8, 4096, 2, 16]⟩

abbrev nBuf : Space → Nat
  | .hbm => 203
  | .vmem => 0
  | .smem => 0
  | _ => 0

abbrev hbmTy0_0 (i : Nat) : BufTy := match i % 128 with
  | 0 => ⟨S8x4096x1024, .f32⟩
  | 1 => ⟨S16x6x1024, .f32⟩
  | 2 => ⟨S1024, .f32⟩
  | 3 => ⟨S1024x2304, .f32⟩
  | 4 => ⟨S64, .f32⟩
  | 5 => ⟨S64, .f32⟩
  | 6 => ⟨S8x1x1024, .f32⟩
  | 7 => ⟨S8x1x1024, .f32⟩
  | 8 => ⟨S8x4096x1024, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S_, .f32⟩
  | 16 => ⟨S8x4096x1, .f32⟩
  | 17 => ⟨S8x4096x1, .f32⟩
  | 18 => ⟨S8x4096x1, .f32⟩
  | 19 => ⟨S8x4096x1024, .f32⟩
  | 20 => ⟨S8x4096x1024, .f32⟩
  | 21 => ⟨S1x1x1024, .f32⟩
  | 22 => ⟨S8x4096x1024, .f32⟩
  | 23 => ⟨S8x4096x1024, .f32⟩
  | 24 => ⟨S_, .f32⟩
  | 25 => ⟨S8x1x1024, .f32⟩
  | 26 => ⟨S8x1x1024, .f32⟩
  | 27 => ⟨S8x4096x1024, .f32⟩
  | 28 => ⟨S8x4096x1024, .f32⟩
  | 29 => ⟨S8x4096x1024, .f32⟩
  | 30 => ⟨S8x4096x1024, .f32⟩
  | 31 => ⟨S8x4096x2304, .f32⟩
  | 32 => ⟨S8x4096x512, .f32⟩
  | 33 => ⟨S8x4096x8x64, .f32⟩
  | 34 => ⟨S8x4096x128, .f32⟩
  | 35 => ⟨S8x4096x2x64, .f32⟩
  | 36 => ⟨S8x4096x128, .f32⟩
  | 37 => ⟨S8x4096x2x64, .f32⟩
  | 38 => ⟨S8x4096x1536, .f32⟩
  | 39 => ⟨S8x4096x8x64, .f32⟩
  | 40 => ⟨S_, .f32⟩
  | 41 => ⟨S8x4096x8, .f32⟩
  | 42 => ⟨S8x4096x8x1, .f32⟩
  | 43 => ⟨S_, .f32⟩
  | 44 => ⟨S8x4096x8x1, .f32⟩
  | 45 => ⟨S8x4096x8x1, .f32⟩
  | 46 => ⟨S_, .f32⟩
  | 47 => ⟨S8x4096x8x1, .f32⟩
  | 48 => ⟨S8x4096x8x1, .f32⟩
  | 49 => ⟨S8x4096x8x1, .f32⟩
  | 50 => ⟨S8x4096x8x64, .f32⟩
  | 51 => ⟨S8x4096x8x64, .f32⟩
  | 52 => ⟨S1x1x1x64, .f32⟩
  | 53 => ⟨S8x4096x8x64, .f32⟩
  | 54 => ⟨S8x4096x8x64, .f32⟩
  | 55 => ⟨S64, .i32⟩
  | 56 => ⟨S64x64, .i32⟩
  | 57 => ⟨S4096, .i32⟩
  | 58 => ⟨S4096, .f32⟩
  | 59 => ⟨S64, .i32⟩
  | 60 => ⟨S1x64, .i32⟩
  | 61 => ⟨S64x64, .i32⟩
  | 62 => ⟨S4096, .i32⟩
  | 63 => ⟨S4096, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S8x4096x8x32, .f32⟩
  | 73 => ⟨S4096x1, .f32⟩
  | 74 => ⟨S1x16, .f32⟩
  | 75 => ⟨S4096x16, .f32⟩
  | 76 => ⟨S4096x16, .f32⟩
  | 77 => ⟨S4096x16, .f32⟩
  | 78 => ⟨S4096x16, .f32⟩
  | 79 => ⟨S1x4096x1x16, .f32⟩
  | 80 => ⟨S4096x16, .f32⟩
  | 81 => ⟨S1x4096x1x16, .f32⟩
  | 82 => ⟨S8x4096x8x16, .f32⟩
  | 83 => ⟨S8x4096x8x16, .f32⟩
  | 84 => ⟨S8x4096x8x16, .f32⟩
  | 85 => ⟨S8x4096x8x16, .f32⟩
  | 86 => ⟨S8x4096x8x16, .f32⟩
  | 87 => ⟨S8x4096x8x16, .f32⟩
  | 88 => ⟨S8x4096x8x16, .f32⟩
  | 89 => ⟨S8x4096x8x16, .f32⟩
  | 90 => ⟨S8x4096x8x16, .f32⟩
  | 91 => ⟨S8x4096x8x16, .f32⟩
  | 92 => ⟨S8x4096x8x16, .f32⟩
  | 93 => ⟨S8x4096x8x16, .f32⟩
  | 94 => ⟨S8x4096x8x32, .f32⟩
  | 95 => ⟨S8x4096x8x32, .f32⟩
  | 96 => ⟨S4096x1, .f32⟩
  | 97 => ⟨S1x16, .f32⟩
  | 98 => ⟨S4096x16, .f32⟩
  | 99 => ⟨S4096x16, .f32⟩
  | 100 => ⟨S4096x16, .f32⟩
  | 101 => ⟨S4096x16, .f32⟩
  | 102 => ⟨S1x4096x1x16, .f32⟩
  | 103 => ⟨S4096x16, .f32⟩
  | 104 => ⟨S1x4096x1x16, .f32⟩
  | 105 => ⟨S8x4096x8x16, .f32⟩
  | 106 => ⟨S8x4096x8x16, .f32⟩
  | 107 => ⟨S8x4096x8x16, .f32⟩
  | 108 => ⟨S8x4096x8x16, .f32⟩
  | 109 => ⟨S8x4096x8x16, .f32⟩
  | 110 => ⟨S8x4096x8x16, .f32⟩
  | 111 => ⟨S8x4096x8x16, .f32⟩
  | 112 => ⟨S8x4096x8x16, .f32⟩
  | 113 => ⟨S8x4096x8x16, .f32⟩
  | 114 => ⟨S8x4096x8x16, .f32⟩
  | 115 => ⟨S8x4096x8x16, .f32⟩
  | 116 => ⟨S8x4096x8x16, .f32⟩
  | 117 => ⟨S8x4096x8x32, .f32⟩
  | 118 => ⟨S8x4096x8x64, .f32⟩
  | 119 => ⟨S8x4096x2x64, .f32⟩
  | 120 => ⟨S_, .f32⟩
  | 121 => ⟨S8x4096x2, .f32⟩
  | 122 => ⟨S8x4096x2x1, .f32⟩
  | 123 => ⟨S_, .f32⟩
  | 124 => ⟨S8x4096x2x1, .f32⟩
  | 125 => ⟨S8x4096x2x1, .f32⟩
  | 126 => ⟨S_, .f32⟩
  | 127 => ⟨S8x4096x2x1, .f32⟩
  | _ => ⟨S8x4096x1024, .f32⟩

abbrev hbmTy0_1 (i : Nat) : BufTy := match i % 128 with
  | 0 => ⟨S8x4096x2x1, .f32⟩
  | 1 => ⟨S8x4096x2x1, .f32⟩
  | 2 => ⟨S8x4096x2x64, .f32⟩
  | 3 => ⟨S8x4096x2x64, .f32⟩
  | 4 => ⟨S1x1x1x64, .f32⟩
  | 5 => ⟨S8x4096x2x64, .f32⟩
  | 6 => ⟨S8x4096x2x64, .f32⟩
  | 7 => ⟨S64, .i32⟩
  | 8 => ⟨S64x64, .i32⟩
  | 9 => ⟨S4096, .i32⟩
  | 10 => ⟨S4096, .f32⟩
  | 11 => ⟨S64, .i32⟩
  | 12 => ⟨S1x64, .i32⟩
  | 13 => ⟨S64x64, .i32⟩
  | 14 => ⟨S4096, .i32⟩
  | 15 => ⟨S4096, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S8x4096x2x32, .f32⟩
  | 25 => ⟨S4096x1, .f32⟩
  | 26 => ⟨S1x16, .f32⟩
  | 27 => ⟨S4096x16, .f32⟩
  | 28 => ⟨S4096x16, .f32⟩
  | 29 => ⟨S4096x16, .f32⟩
  | 30 => ⟨S4096x16, .f32⟩
  | 31 => ⟨S1x4096x1x16, .f32⟩
  | 32 => ⟨S4096x16, .f32⟩
  | 33 => ⟨S1x4096x1x16, .f32⟩
  | 34 => ⟨S8x4096x2x16, .f32⟩
  | 35 => ⟨S8x4096x2x16, .f32⟩
  | 36 => ⟨S8x4096x2x16, .f32⟩
  | 37 => ⟨S8x4096x2x16, .f32⟩
  | 38 => ⟨S8x4096x2x16, .f32⟩
  | 39 => ⟨S8x4096x2x16, .f32⟩
  | 40 => ⟨S8x4096x2x16, .f32⟩
  | 41 => ⟨S8x4096x2x16, .f32⟩
  | 42 => ⟨S8x4096x2x16, .f32⟩
  | 43 => ⟨S8x4096x2x16, .f32⟩
  | 44 => ⟨S8x4096x2x16, .f32⟩
  | 45 => ⟨S8x4096x2x16, .f32⟩
  | 46 => ⟨S8x4096x2x32, .f32⟩
  | 47 => ⟨S8x4096x2x32, .f32⟩
  | 48 => ⟨S4096x1, .f32⟩
  | 49 => ⟨S1x16, .f32⟩
  | 50 => ⟨S4096x16, .f32⟩
  | 51 => ⟨S4096x16, .f32⟩
  | 52 => ⟨S4096x16, .f32⟩
  | 53 => ⟨S4096x16, .f32⟩
  | 54 => ⟨S1x4096x1x16, .f32⟩
  | 55 => ⟨S4096x16, .f32⟩
  | 56 => ⟨S1x4096x1x16, .f32⟩
  | 57 => ⟨S8x4096x2x16, .f32⟩
  | 58 => ⟨S8x4096x2x16, .f32⟩
  | 59 => ⟨S8x4096x2x16, .f32⟩
  | 60 => ⟨S8x4096x2x16, .f32⟩
  | 61 => ⟨S8x4096x2x16, .f32⟩
  | 62 => ⟨S8x4096x2x16, .f32⟩
  | 63 => ⟨S8x4096x2x16, .f32⟩
  | 64 => ⟨S8x4096x2x16, .f32⟩
  | 65 => ⟨S8x4096x2x16, .f32⟩
  | 66 => ⟨S8x4096x2x16, .f32⟩
  | 67 => ⟨S8x4096x2x16, .f32⟩
  | 68 => ⟨S8x4096x2x16, .f32⟩
  | 69 => ⟨S8x4096x2x32, .f32⟩
  | 70 => ⟨S8x4096x2x64, .f32⟩
  | 71 => ⟨S8x4096x8x64, .bf16⟩
  | 72 => ⟨S8x4096x2x64, .bf16⟩
  | 73 => ⟨S8x4096x2x64, .bf16⟩
  | 74 => ⟨S8x4096x1536, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_cst_8 : Ref sig .tc := ⟨.hbm, 120, rfl⟩
abbrev main_v105 : Ref sig .tc := ⟨.hbm, 121, rfl⟩
abbrev main_v106 : Ref sig .tc := ⟨.hbm, 122, rfl⟩
abbrev main_cst_9 : Ref sig .tc := ⟨.hbm, 123, rfl⟩
abbrev main_v107 : Ref sig .tc := ⟨.hbm, 124, rfl⟩
abbrev main_v108 : Ref sig .tc := ⟨.hbm, 125, rfl⟩
abbrev main_cst_10 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_cst_11 : Ref sig .tc := ⟨.hbm, 146, rfl⟩
abbrev main_v128 : Ref sig .tc := ⟨.hbm, 147, rfl⟩
abbrev main_v129 : Ref sig .tc := ⟨.hbm, 148, rfl⟩
abbrev main_cst_12 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩

abbrev nD : Nat := 1
abbrev τ : Topo := Topo.v7x

variable {F : FTy → Type} [FloatOps F]
-- ==== Proof.AccSteps.lean ====
/-
  What one trip of each counted loop of the attention kernel leaves in its accumulators.
  A trip takes eight tiles of keys and values. Of the loop with the shifted exponent the trip leaves in the
  accumulator eight `shiftStep`s of what it found there; of the online loop it leaves in the accumulator and in the
  running maximum eight `onlineStep`s of the pair it found. Both are read off the pieces the generated trips state.
-/
module

public import proofs.«01_k».proof.Proof.Gen.KernelIdeal.Frame
public import proofs.«01_k».proof.Proof.Gen.KernelIdeal.Loops
public import Idealize.ShloMosaic.Lib.VecWindow
public import Idealize.ShloMosaic.Lib.Pipeline.ReadBack

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## One tile's step -/

/-- One tile with the shifted exponent: the accumulator plus the values times two to the scores. -/
def shiftStep (qs : FVec F S80x4096 .bf16) (K : Vec F S1x1x1x256x80 .bf16) (V : Vec F S1x1x1x80x256 .bf16)
    (A : FVec F S80x4096 .f32) : FVec F S80x4096 .f32 := k0_pay2 qs K A V

/-- One tile with the running maximum: the accumulator rescaled plus the values times two to the scores above the new
    maximum, and that maximum. -/
def onlineStep (qp : FVec F S80x4096 .bf16) (K : Vec F S1x1x1x256x80 .bf16) (V : Vec F S1x1x1x80x256 .bf16)
    (s : FVec F S80x4096 .f32 × FVec F S1x4096 .f32) : FVec F S80x4096 .f32 × FVec F S1x4096 .f32 :=
  (k0_pay36 qp K s.2 s.1 V, k0_pay37 qp K s.2)

theorem ktile_inb (j : ℕ) : ∀ a, (![0, 0, j % 16, 0, 0] : Fin 5 → ℕ) a + S1x1x1x256x80.size a ≤ S1x1x16x256x80.size a := by
  have := Nat.mod_lt j (show 0 < 16 by decide)
  intro a; fin_cases a <;> simp [S1x1x1x256x80, S1x1x16x256x80] <;> omega

theorem vtile_inb (j : ℕ) : ∀ a, (![0, 0, j % 16, 0, 0] : Fin 5 → ℕ) a + S1x1x1x80x256.size a ≤ S1x1x16x80x256.size a := by
  have := Nat.mod_lt j (show 0 < 16 by decide)
  intro a; fin_cases a <;> simp [S1x1x1x80x256, S1x1x16x80x256] <;> omega

/-- Tile `j` of the staged keys. -/
def ktile (X : S1x1x16x256x80.Idx → Elt F .bf16) (j : ℕ) : Vec F S1x1x1x256x80 .bf16 :=
  View.ld X (Rect.unit (s := S1x1x16x256x80) ![0, 0, j % 16, 0, 0] S1x1x1x256x80.size (ktile_inb j))

/-- Tile `j` of the staged values. -/
def vtile (X : S1x1x16x80x256.Idx → Elt F .bf16) (j : ℕ) : Vec F S1x1x1x80x256 .bf16 :=
  View.ld X (Rect.unit (s := S1x1x16x80x256) ![0, 0, j % 16, 0, 0] S1x1x1x80x256.size (vtile_inb j))

/-- The accumulator after the first `n` latent tiles, from `A`. -/
def shiftAcc (qs : FVec F S80x4096 .bf16) (XK : S1x1x16x256x80.Idx → Elt F .bf16) (XV : S1x1x16x80x256.Idx → Elt F .bf16)
    (A : FVec F S80x4096 .f32) : ℕ → FVec F S80x4096 .f32
  | 0 => A
  | n + 1 => shiftStep qs (ktile XK n) (vtile XV n) (shiftAcc qs XK XV A n)

/-- The accumulator and the running maximum after the first `n` latent tiles, from `s`. -/
def onlineAcc (qp : FVec F S80x4096 .bf16) (XK : S1x1x16x256x80.Idx → Elt F .bf16) (XV : S1x1x16x80x256.Idx → Elt F .bf16)
    (s : FVec F S80x4096 .f32 × FVec F S1x4096 .f32) : ℕ → FVec F S80x4096 .f32 × FVec F S1x4096 .f32
  | 0 => s
  | n + 1 => onlineStep qp (ktile XK n) (vtile XV n) (onlineAcc qp XK XV s n)

/-! ## A load at a trip's own offsets is a tile -/

/-- A unit-stride load depends on its offsets alone. -/
theorem ld_unit_off {S : Shape} {e : EltTy} {Val : EltTy → Type} (X : S.Idx → Val e) {off off' size : Fin S.rank → ℕ}
    (inb : ∀ a, off a + size a ≤ S.size a) (inb' : ∀ a, off' a + size a ≤ S.size a) (h : off = off') :
    View.ld X (Rect.unit off size inb) = View.ld X (Rect.unit off' size inb') := by subst h; rfl

theorem off1_eq : ∀ k : Fin k0_t1_loop.trips, ∀ r : Fin 8, k0_off1 k (BitVec.ofNat 32 r.val) = ![0, 0, (8 * k.val + r.val) % 16, 0, 0] := by
  decide +kernel
theorem off2_eq : ∀ k : Fin k0_t1_loop.trips, ∀ r : Fin 8, k0_off2 k (BitVec.ofNat 32 r.val) = ![0, 0, (8 * k.val + r.val) % 16, 0, 0] := by
  decide +kernel
theorem off3_eq : ∀ k : Fin k0_t2_loop.trips, ∀ r : Fin 8, k0_off3 k (BitVec.ofNat 32 r.val) = ![0, 0, (8 * k.val + r.val) % 16, 0, 0] := by
  decide +kernel
theorem off4_eq : ∀ k : Fin k0_t2_loop.trips, ∀ r : Fin 8, k0_off4 k (BitVec.ofNat 32 r.val) = ![0, 0, (8 * k.val + r.val) % 16, 0, 0] := by
  decide +kernel

theorem ld_off1 (X : S1x1x16x256x80.Idx → Elt F .bf16) (k : Fin k0_t1_loop.trips) (r : Fin 8) :
    View.ld X (Rect.unit (s := S1x1x16x256x80) (k0_off1 k (BitVec.ofNat 32 r.val)) S1x1x1x256x80.size (k0_off1_inb k r)) = ktile X (8 * k.val + r.val) :=
  ld_unit_off X _ _ (off1_eq k r)
theorem ld_off2 (X : S1x1x16x80x256.Idx → Elt F .bf16) (k : Fin k0_t1_loop.trips) (r : Fin 8) :
    View.ld X (Rect.unit (s := S1x1x16x80x256) (k0_off2 k (BitVec.ofNat 32 r.val)) S1x1x1x80x256.size (k0_off2_inb k r)) = vtile X (8 * k.val + r.val) :=
  ld_unit_off X _ _ (off2_eq k r)
theorem ld_off3 (X : S1x1x16x256x80.Idx → Elt F .bf16) (k : Fin k0_t2_loop.trips) (r : Fin 8) :
    View.ld X (Rect.unit (s := S1x1x16x256x80) (k0_off3 k (BitVec.ofNat 32 r.val)) S1x1x1x256x80.size (k0_off3_inb k r)) = ktile X (8 * k.val + r.val) :=
  ld_unit_off X _ _ (off3_eq k r)
theorem ld_off4 (X : S1x1x16x80x256.Idx → Elt F .bf16) (k : Fin k0_t2_loop.trips) (r : Fin 8) :
    View.ld X (Rect.unit (s := S1x1x16x80x256) (k0_off4 k (BitVec.ofNat 32 r.val)) S1x1x1x80x256.size (k0_off4_inb k r)) = vtile X (8 * k.val + r.val) :=
  ld_unit_off X _ _ (off4_eq k r)

/-! ## One trip -/

/-- Eight shifted steps at a trip's own offsets are the steps with tiles `8k … 8k+7`. -/
theorem shiftTiles_eq (v26 : FVec F S80x4096 .bf16) (XK : S1x1x16x256x80.Idx → Elt F .bf16) (XV : S1x1x16x80x256.Idx → Elt F .bf16)
    (k : Fin k0_t1_loop.trips) (A : FVec F S80x4096 .f32) :
    List.foldl (fun A (r : Fin 8) => shiftStep v26
        (View.ld XK (Rect.unit (s := S1x1x16x256x80) (k0_off1 k (BitVec.ofNat 32 r.val)) S1x1x1x256x80.size (k0_off1_inb k r)))
        (View.ld XV (Rect.unit (s := S1x1x16x80x256) (k0_off2 k (BitVec.ofNat 32 r.val)) S1x1x1x80x256.size (k0_off2_inb k r))) A) A [0, 1, 2, 3, 4, 5, 6, 7]
      = List.foldl (fun A (r : Fin 8) => shiftStep v26 (ktile XK (8 * k.val + r.val)) (vtile XV (8 * k.val + r.val)) A) A [0, 1, 2, 3, 4, 5, 6, 7] :=
  congrArg (fun g => List.foldl g A [0, 1, 2, 3, 4, 5, 6, 7]) (funext fun B => funext fun r =>
    congrArg₂ (fun K V => shiftStep v26 K V B) (ld_off1 XK k r) (ld_off2 XV k r))

/-- Eight online steps at a trip's own offsets are the steps with tiles `8k … 8k+7`. -/
theorem onlineTiles_eq (qp : FVec F S80x4096 .bf16) (XK : S1x1x16x256x80.Idx → Elt F .bf16) (XV : S1x1x16x80x256.Idx → Elt F .bf16)
    (k : Fin k0_t2_loop.trips) (s : FVec F S80x4096 .f32 × FVec F S1x4096 .f32) :
    List.foldl (fun s (r : Fin 8) => onlineStep qp
        (View.ld XK (Rect.unit (s := S1x1x16x256x80) (k0_off3 k (BitVec.ofNat 32 r.val)) S1x1x1x256x80.size (k0_off3_inb k r)))
        (View.ld XV (Rect.unit (s := S1x1x16x80x256) (k0_off4 k (BitVec.ofNat 32 r.val)) S1x1x1x80x256.size (k0_off4_inb k r))) s) s [0, 1, 2, 3, 4, 5, 6, 7]
      = List.foldl (fun s (r : Fin 8) => onlineStep qp (ktile XK (8 * k.val + r.val)) (vtile XV (8 * k.val + r.val)) s) s [0, 1, 2, 3, 4, 5, 6, 7] :=
  congrArg (fun g => List.foldl g s [0, 1, 2, 3, 4, 5, 6, 7]) (funext fun B => funext fun r =>
    congrArg₂ (fun K V => onlineStep qp K V B) (ld_off3 XK k r) (ld_off4 XV k r))

variable (𝒱 : Variants) (c : Dev nD) (bd : Option 𝒱.V) (i : grid0.Coords)
  (arg3 : Memref sig .tc .vmem S1x4x64x1024 .bf16) (harg3 : arg3.IsWhole) (arg4 : Memref sig .tc .vmem S1x1x1x256x80 .bf16) (harg4 : arg4.IsWhole)
  (arg5 : Memref sig .tc .vmem S1x1x1x80x256 .bf16) (harg5 : arg5.IsWhole) (arg6 : Memref sig .tc .vmem S1x1x16x256x80 .bf16) (harg6 : arg6.IsWhole)
  (arg7 : Memref sig .tc .vmem S1x1x16x80x256 .bf16) (harg7 : arg7.IsWhole) (arg8 : Memref sig .tc .vmem S1x1x1x128 .f32) (harg8 : arg8.IsWhole)
  (arg9 : Memref sig .tc .vmem S1x4x256x256 .bf16) (harg9 : arg9.IsWhole) (arg10 : Memref sig .tc .vmem S80x4096 .f32) (harg10 : arg10.IsWhole)
  (arg11 : Memref sig .tc .vmem S1x4096 .f32) (harg11 : arg11.IsWhole)

/-- A trip of the shifted loop: eight steps of what the accumulator held. -/
theorem read_trip1 (v26 : FVec F S80x4096 .bf16) (X6 : BufTy.Contents (Elt F) arg6.view.ty) (X7 : BufTy.Contents (Elt F) arg7.view.ty)
    (k : Fin k0_t1_loop.trips) (f : BufTy.Contents (Elt F) arg10.view.ty) :
    arg10.view.read (Elt F) (arg10.view.writes (Elt F) f
        (tripL_k0_t1 (F := F) 𝒱 c bd i arg3 harg3 arg4 harg4 arg5 harg5 arg6 harg6 arg7 harg7 arg8 harg8 arg9 harg9 arg10 harg10 arg11 harg11 v26 X6 X7 k f))
      = List.foldl (fun A (r : Fin 8) => shiftStep v26 (ktile (arg6.view.read (Elt F) X6) (8 * k.val + r.val)) (vtile (arg7.view.read (Elt F) X7) (8 * k.val + r.val)) A)
          (arg10.view.read (Elt F) f) [0, 1, 2, 3, 4, 5, 6, 7] := by
  unfold tripL_k0_t1 trip_k0_t1
  dsimp only
  sl_unfold_run_names
  refine (View.read_writes_full (s := S80x4096) _ _ _ _ _).trans ?_
  simp only [View.readCov_full (s := S80x4096), View.readAt_full (s := S80x4096)]
  exact Eq.trans rfl (shiftTiles_eq v26 (arg6.view.read (Elt F) X6) (arg7.view.read (Elt F) X7) k (arg10.view.read (Elt F) f))

/-- A trip of the online loop: eight steps of the accumulator and running maximum it found. -/
theorem read_trip2 (v57 : FVec F S80x4096 .bf16) (v72 : FVec F S1x4096 .f32) (v85 : FVec F S80x4096 .f32) (X6 : BufTy.Contents (Elt F) arg6.view.ty) (X7 : BufTy.Contents (Elt F) arg7.view.ty)
    (k : Fin k0_t2_loop.trips) (f : BufTy.Contents (Elt F) arg10.view.ty) (g : BufTy.Contents (Elt F) arg11.view.ty) :
    (arg10.view.read (Elt F) (arg10.view.writes (Elt F) f
        (tripL_k0_t2 (F := F) 𝒱 c bd i arg3 harg3 arg4 harg4 arg5 harg5 arg6 harg6 arg7 harg7 arg8 harg8 arg9 harg9 arg10 harg10 arg11 harg11 v57 v72 v85 X6 X7 k f g).1),
     arg11.view.read (Elt F) (arg11.view.writes (Elt F) g
        (tripL_k0_t2 (F := F) 𝒱 c bd i arg3 harg3 arg4 harg4 arg5 harg5 arg6 harg6 arg7 harg7 arg8 harg8 arg9 harg9 arg10 harg10 arg11 harg11 v57 v72 v85 X6 X7 k f g).2))
      = List.foldl (fun s (r : Fin 8) => onlineStep v57 (ktile (arg6.view.read (Elt F) X6) (8 * k.val + r.val)) (vtile (arg7.view.read (Elt F) X7) (8 * k.val + r.val)) s)
          (arg10.view.read (Elt F) f, arg11.view.read (Elt F) g) [0, 1, 2, 3, 4, 5, 6, 7] := by
  unfold tripL_k0_t2 trip_k0_t2
  dsimp only
  sl_unfold_run_names
  refine (congrArg₂ Prod.mk (View.read_writes_full (s := S80x4096) _ _ _ _ _) (View.read_writes_full (s := S1x4096) _ _ _ _ _)).trans ?_
  simp only [View.readCov_full (s := S80x4096), View.readAt_full (s := S80x4096), View.readCov_full (s := S1x4096), View.readAt_full (s := S1x4096)]
  exact Eq.trans rfl (onlineTiles_eq v57 (arg6.view.read (Elt F) X6) (arg7.view.read (Elt F) X7) k (arg10.view.read (Elt F) f, arg11.view.read (Elt F) g))

/-! ## The whole loops -/

/-- Eight consecutive tiles after the first `8k` are the first `8(k+1)`. -/
theorem shiftAcc_eight (qs : FVec F S80x4096 .bf16) (XK : S1x1x16x256x80.Idx → Elt F .bf16) (XV : S1x1x16x80x256.Idx → Elt F .bf16)
    (A : FVec F S80x4096 .f32) (n : ℕ) :
    List.foldl (fun A (r : Fin 8) => shiftStep qs (ktile XK (n + r.val)) (vtile XV (n + r.val)) A) (shiftAcc qs XK XV A n) [0, 1, 2, 3, 4, 5, 6, 7]
      = shiftAcc qs XK XV A (n + 8) := rfl

/-- Eight consecutive tiles after the first `8k` are the first `8(k+1)`, online. -/
theorem onlineAcc_eight (qp : FVec F S80x4096 .bf16) (XK : S1x1x16x256x80.Idx → Elt F .bf16) (XV : S1x1x16x80x256.Idx → Elt F .bf16)
    (s : FVec F S80x4096 .f32 × FVec F S1x4096 .f32) (n : ℕ) :
    List.foldl (fun s (r : Fin 8) => onlineStep qp (ktile XK (n + r.val)) (vtile XV (n + r.val)) s) (onlineAcc qp XK XV s n) [0, 1, 2, 3, 4, 5, 6, 7]
      = onlineAcc qp XK XV s (n + 8) := rfl

/-- After the first `k` trips of the shifted loop the accumulator is `shiftAcc` of the first `8k` tiles. -/
theorem read_loop1_lt (v26 : FVec F S80x4096 .bf16) (X6 : BufTy.Contents (Elt F) arg6.view.ty) (X7 : BufTy.Contents (Elt F) arg7.view.ty)
    (f : BufTy.Contents (Elt F) arg10.view.ty) : ∀ k, k ≤ k0_t1_loop.trips →
    arg10.view.read (Elt F) (arg10.view.writes (Elt F) f
        (pb_k0_t1 (F := F) 𝒱 c bd i arg3 harg3 arg4 harg4 arg5 harg5 arg6 harg6 arg7 harg7 arg8 harg8 arg9 harg9 arg10 harg10 arg11 harg11 v26 X6 X7 f k))
      = shiftAcc v26 (arg6.view.read (Elt F) X6) (arg7.view.read (Elt F) X7) (arg10.view.read (Elt F) f) (8 * k)
  | 0, _ => rfl
  | k + 1, h => by
    have ih := read_loop1_lt v26 X6 X7 f k (Nat.le_of_succ_le h)
    have e := pb_k0_t1_succ (F := F) 𝒱 c bd i arg3 harg3 arg4 harg4 arg5 harg5 arg6 harg6 arg7 harg7 arg8 harg8 arg9 harg9 arg10 harg10 arg11 harg11 v26 X6 X7 f ⟨k, h⟩
    refine (congrArg (fun L => arg10.view.read (Elt F) (arg10.view.writes (Elt F) f L)) e).trans ?_
    refine (congrArg (arg10.view.read (Elt F)) (View.writes_append _ _ _ _)).trans ?_
    refine (read_trip1 𝒱 c bd i arg3 harg3 arg4 harg4 arg5 harg5 arg6 harg6 arg7 harg7 arg8 harg8 arg9 harg9 arg10 harg10 arg11 harg11 v26 X6 X7 ⟨k, h⟩ _).trans ?_
    refine (congrArg (fun B => List.foldl (fun A (r : Fin 8) => shiftStep v26 (ktile (arg6.view.read (Elt F) X6) (8 * k + r.val)) (vtile (arg7.view.read (Elt F) X7) (8 * k + r.val)) A) B [0, 1, 2, 3, 4, 5, 6, 7]) ih).trans ?_
    exact shiftAcc_eight _ _ _ _ (8 * k)

/-- After the shifted loop the accumulator has taken all sixteen tiles. -/
theorem read_loop1 (v26 : FVec F S80x4096 .bf16) (X6 : BufTy.Contents (Elt F) arg6.view.ty) (X7 : BufTy.Contents (Elt F) arg7.view.ty)
    (f : BufTy.Contents (Elt F) arg10.view.ty) :
    arg10.view.read (Elt F) (arg10.view.writes (Elt F) f
        (pb_k0_t1 (F := F) 𝒱 c bd i arg3 harg3 arg4 harg4 arg5 harg5 arg6 harg6 arg7 harg7 arg8 harg8 arg9 harg9 arg10 harg10 arg11 harg11 v26 X6 X7 f k0_t1_loop.trips))
      = shiftAcc v26 (arg6.view.read (Elt F) X6) (arg7.view.read (Elt F) X7) (arg10.view.read (Elt F) f) 16 :=
  read_loop1_lt 𝒱 c bd i arg3 harg3 arg4 harg4 arg5 harg5 arg6 harg6 arg7 harg7 arg8 harg8 arg9 harg9 arg10 harg10 arg11 harg11 v26 X6 X7 f _ le_rfl

/-- After the first `k` trips of the online loop the two accumulators are `onlineAcc` of the first `8k` tiles. -/
theorem read_loop2_lt (v57 : FVec F S80x4096 .bf16) (v72 : FVec F S1x4096 .f32) (v85 : FVec F S80x4096 .f32) (X6 : BufTy.Contents (Elt F) arg6.view.ty) (X7 : BufTy.Contents (Elt F) arg7.view.ty)
    (f : BufTy.Contents (Elt F) arg10.view.ty) (g : BufTy.Contents (Elt F) arg11.view.ty) : ∀ k, k ≤ k0_t2_loop.trips →
    (arg10.view.read (Elt F) (arg10.view.writes (Elt F) f
        (pb_k0_t2 (F := F) 𝒱 c bd i arg3 harg3 arg4 harg4 arg5 harg5 arg6 harg6 arg7 harg7 arg8 harg8 arg9 harg9 arg10 harg10 arg11 harg11 v57 v72 v85 X6 X7 f g k).1),
     arg11.view.read (Elt F) (arg11.view.writes (Elt F) g
        (pb_k0_t2 (F := F) 𝒱 c bd i arg3 harg3 arg4 harg4 arg5 harg5 arg6 harg6 arg7 harg7 arg8 harg8 arg9 harg9 arg10 harg10 arg11 harg11 v57 v72 v85 X6 X7 f g k).2))
      = onlineAcc v57 (arg6.view.read (Elt F) X6) (arg7.view.read (Elt F) X7) (arg10.view.read (Elt F) f, arg11.view.read (Elt F) g) (8 * k)
  | 0, _ => rfl
  | k + 1, h => by
    have ih := read_loop2_lt v57 v72 v85 X6 X7 f g k (Nat.le_of_succ_le h)
    have e := pb_k0_t2_succ (F := F) 𝒱 c bd i arg3 harg3 arg4 harg4 arg5 harg5 arg6 harg6 arg7 harg7 arg8 harg8 arg9 harg9 arg10 harg10 arg11 harg11 v57 v72 v85 X6 X7 f g ⟨k, h⟩
    refine (congrArg (fun L : List (View.Piece (Elt F) S80x4096 .f32) × List (View.Piece (Elt F) S1x4096 .f32) =>
      (arg10.view.read (Elt F) (arg10.view.writes (Elt F) f L.1), arg11.view.read (Elt F) (arg11.view.writes (Elt F) g L.2))) e).trans ?_
    refine (congrArg₂ Prod.mk (congrArg (arg10.view.read (Elt F)) (View.writes_append _ _ _ _))
      (congrArg (arg11.view.read (Elt F)) (View.writes_append _ _ _ _))).trans ?_
    refine (read_trip2 𝒱 c bd i arg3 harg3 arg4 harg4 arg5 harg5 arg6 harg6 arg7 harg7 arg8 harg8 arg9 harg9 arg10 harg10 arg11 harg11 v57 v72 v85 X6 X7 ⟨k, h⟩ _ _).trans ?_
    refine (congrArg (fun B => List.foldl (fun s (r : Fin 8) => onlineStep v57 (ktile (arg6.view.read (Elt F) X6) (8 * k + r.val)) (vtile (arg7.view.read (Elt F) X7) (8 * k + r.val)) s) B [0, 1, 2, 3, 4, 5, 6, 7]) ih).trans ?_
    exact onlineAcc_eight _ _ _ _ (8 * k)

/-- After the online loop the two accumulators have taken all sixteen tiles. -/
theorem read_loop2 (v57 : FVec F S80x4096 .bf16) (v72 : FVec F S1x4096 .f32) (v85 : FVec F S80x4096 .f32) (X6 : BufTy.Contents (Elt F) arg6.view.ty) (X7 : BufTy.Contents (Elt F) arg7.view.ty)
    (f : BufTy.Contents (Elt F) arg10.view.ty) (g : BufTy.Contents (Elt F) arg11.view.ty) :
    (arg10.view.read (Elt F) (arg10.view.writes (Elt F) f
        (pb_k0_t2 (F := F) 𝒱 c bd i arg3 harg3 arg4 harg4 arg5 harg5 arg6 harg6 arg7 harg7 arg8 harg8 arg9 harg9 arg10 harg10 arg11 harg11 v57 v72 v85 X6 X7 f g k0_t2_loop.trips).1),
     arg11.view.read (Elt F) (arg11.view.writes (Elt F) g
        (pb_k0_t2 (F := F) 𝒱 c bd i arg3 harg3 arg4 harg4 arg5 harg5 arg6 harg6 arg7 harg7 arg8 harg8 arg9 harg9 arg10 harg10 arg11 harg11 v57 v72 v85 X6 X7 f g k0_t2_loop.trips).2))
      = onlineAcc v57 (arg6.view.read (Elt F) X6) (arg7.view.read (Elt F) X7) (arg10.view.read (Elt F) f, arg11.view.read (Elt F) g) 16 :=
  read_loop2_lt 𝒱 c bd i arg3 harg3 arg4 harg4 arg5 harg5 arg6 harg6 arg7 harg7 arg8 harg8 arg9 harg9 arg10 harg10 arg11 harg11 v57 v72 v85 X6 X7 f g _ le_rfl

/-! ## A load after a whole loop -/

/-- A load of a whole buffer, over the stores that cover it, is what they leave. -/
theorem readCov_read {S : Shape} {e : EltTy} (v : View sig .tc .vmem S e) (L : List (View.Piece (Elt F) S e)) {off : Fin S.rank → ℕ}
    (inb : ∀ a, off a + S.size a ≤ S.size a) :
    v.readCov L (Rect.unit off S.size inb).toLoadRect = v.read (Elt F) (v.writes (Elt F) v.junk L) :=
  View.readAt_full v _ inb

/-- What the stores before the shifted loop and the loop's own leave in the accumulator. -/
theorem read_after1 (v26 : FVec F S80x4096 .bf16) (X6 : BufTy.Contents (Elt F) arg6.view.ty) (X7 : BufTy.Contents (Elt F) arg7.view.ty)
    (f : BufTy.Contents (Elt F) arg10.view.ty) (H : List (View.Piece (Elt F) S80x4096 .f32)) :
    arg10.view.read (Elt F) (arg10.view.writes (Elt F) f
        (pb_k0_t1 (F := F) 𝒱 c bd i arg3 harg3 arg4 harg4 arg5 harg5 arg6 harg6 arg7 harg7 arg8 harg8 arg9 harg9 arg10 harg10 arg11 harg11 v26 X6 X7 (arg10.view.writes (Elt F) f H)
          (Scf.trips k0_t1_loop.lb k0_t1_loop.ub k0_t1_loop.st) ++ H))
      = shiftAcc v26 (arg6.view.read (Elt F) X6) (arg7.view.read (Elt F) X7) (arg10.view.read (Elt F) (arg10.view.writes (Elt F) f H)) 16 :=
  (congrArg (arg10.view.read (Elt F)) (View.writes_append _ _ _ _)).trans (read_loop1 𝒱 c bd i arg3 harg3 arg4 harg4 arg5 harg5 arg6 harg6 arg7 harg7 arg8 harg8 arg9 harg9 arg10 harg10 arg11 harg11 v26 X6 X7 _)

/-- What the stores before the online loop and the loop's own leave in the accumulator. -/
theorem read_after2 (v57 : FVec F S80x4096 .bf16) (v72 : FVec F S1x4096 .f32) (v85 : FVec F S80x4096 .f32) (X6 : BufTy.Contents (Elt F) arg6.view.ty) (X7 : BufTy.Contents (Elt F) arg7.view.ty)
    (f : BufTy.Contents (Elt F) arg10.view.ty) (g : BufTy.Contents (Elt F) arg11.view.ty) (H : List (View.Piece (Elt F) S80x4096 .f32)) :
    arg10.view.read (Elt F) (arg10.view.writes (Elt F) f
        ((pb_k0_t2 (F := F) 𝒱 c bd i arg3 harg3 arg4 harg4 arg5 harg5 arg6 harg6 arg7 harg7 arg8 harg8 arg9 harg9 arg10 harg10 arg11 harg11 v57 v72 v85 X6 X7 (arg10.view.writes (Elt F) f H) g
          (Scf.trips k0_t2_loop.lb k0_t2_loop.ub k0_t2_loop.st)).1 ++ H))
      = (onlineAcc v57 (arg6.view.read (Elt F) X6) (arg7.view.read (Elt F) X7)
          (arg10.view.read (Elt F) (arg10.view.writes (Elt F) f H), arg11.view.read (Elt F) g) 16).1 :=
  (congrArg (arg10.view.read (Elt F)) (View.writes_append _ _ _ _)).trans
    (congrArg Prod.fst (read_loop2 𝒱 c bd i arg3 harg3 arg4 harg4 arg5 harg5 arg6 harg6 arg7 harg7 arg8 harg8 arg9 harg9 arg10 harg10 arg11 harg11 v57 v72 v85 X6 X7 _ g))

end Cert.KernelIdeal.Attn

end
-- ==== Proof.OutBlock.lean ====
/-
  The block the attention kernel writes: the numerators over the denominator row, rounded, laid out as four query
  chunks of 256 queries with the four heads of the group side by side. Each of the kernel's sixteen stores writes one
  64 by 256 piece of this block, whatever the accumulator holds.
-/
module

public import proofs.«01_k».proof.Proof.AccSteps
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F]

/-- Row and column of the quotient array that the output block's element `(0, t, d, q)` takes: the head of the group is
    `d / 64`, the coordinate within the head `d % 64`, and the head's queries start at column `1024 (d / 64)`. -/
def outIdx (y : S1x4x256x256.Idx) : S64x4096.Idx :=
  ix2 (⟨(y 2).val % 64, Nat.mod_lt _ (by decide)⟩ : Fin 64)
    (⟨1024 * ((y 2).val / 64) + 256 * (y 1).val + (y 3).val, by
      have h1 : (y 1).val < 4 := (y 1).isLt
      have h2 : (y 2).val < 256 := (y 2).isLt
      have h3 : (y 3).val < 256 := (y 3).isLt
      omega⟩ : Fin 4096)

/-- The output block of an accumulator. -/
def outB (A : FVec F S80x4096 .f32) : S1x4x256x256.Idx → Elt F .bf16 :=
  fun y => truncf .bf16 (k0_pay20 A) bitsLt_bf16_f32 (outIdx y)

/-- One store's payload is the piece of the output block at its rectangle: head `r` of the group, query chunk `t`. -/
theorem piece_eq (v : FVec F S64x4096 .f32) (r t o d : ℕ) (ho : o = 1024 * r + 256 * t) (hd : d = 64 * r)
    (hs : S64x4096.Slices ![0, o] S64x256) (hb : FTy.bf16.bits < FTy.f32.bits) (hc : S64x256.ShapeCasts S1x1x64x256)
    (hi : ∀ a, (![0, t, d, 0] : Fin 4 → ℕ) a + S1x1x64x256.size a ≤ S1x4x256x256.size a) (x : S1x1x64x256.Idx) :
    shapeCast S1x1x64x256 (truncf .bf16 (extractStridedSlice S64x256 ![0, o] v hs) hb) hc x
      = truncf .bf16 v hb (outIdx ((Rect.unit (s := S1x4x256x256) ![0, t, d, 0] S1x1x64x256.size hi).emb x)) := by
  subst ho hd
  idx_vars x
  pointwise
  have h2 := x2.isLt
  have h1 : x1.val = 0 := by omega
  refine congrArg (fun z => FloatOps.truncf FTy.bf16 hb (v z)) (congrArg₂ ix2 (Fin.ext ?_) (Fin.ext ?_))
  · show x2.val = (64 * r + 1 * x2.val) % 64
    omega
  · show 1024 * r + 256 * t + x3.val = 1024 * ((64 * r + 1 * x2.val) / 64) + 256 * (t + 1 * x1.val) + (0 + 1 * x3.val)
    omega

/-- Stores that are pieces of the output block and cover it leave the output block. -/
theorem read_out (m : Memref sig .tc .vmem S1x4x256x256 .bf16) (f : BufTy.Contents (Elt F) m.view.ty) (A : FVec F S80x4096 .f32)
    (L : List (View.Piece (Elt F) S1x4x256x256 .bf16)) (hp : View.PiecesOf (outB A) L) (hc : ∀ y, ∃ p ∈ L, y ∈ p.1.set) :
    m.view.read (Elt F) (m.view.writes (Elt F) f L) = outB A :=
  (View.read_writes_eq_canon _ _ _ hc).trans (funext fun y => by
    have h := View.canon_append_of_piecesOf (outB A) [] L hp y (hc y)
    rwa [List.append_nil] at h)

/-! ## The two accumulators of a grid point -/

/-- One head's staged queries. -/
def qrow (X : S1x4x64x1024.Idx → Elt F .bf16) (g : ℕ) (h : ∀ a, (![0, g, 0, 0] : Fin 4 → ℕ) a + S1x1x64x1024.size a ≤ S1x4x64x1024.size a) :
    Vec F S1x1x64x1024 .bf16 := View.ld X (Rect.unit (s := S1x4x64x1024) ![0, g, 0, 0] S1x1x64x1024.size h)

/-- The four heads' queries side by side. -/
def qcat (X : S1x4x64x1024.Idx → Elt F .bf16) : FVec F S64x4096 .bf16 :=
  k0_pay96 (qrow X 0 inb_S1x4x64x1024_S1x1x64x1024_0_0_0_0) (qrow X 1 inb_S1x4x64x1024_S1x1x64x1024_0_1_0_0)
    (qrow X 2 inb_S1x4x64x1024_S1x1x64x1024_0_2_0_0) (qrow X 3 inb_S1x4x64x1024_S1x1x64x1024_0_3_0_0)

/-- The queries with, below them, the row that carries the negated bound of the scores. -/
def qshift (X : S1x4x64x1024.Idx → Elt F .bf16) (km : S1x1x1x128.Idx → Elt F .f32) : FVec F S80x4096 .bf16 :=
  k0_pay97 (qrow X 0 inb_S1x4x64x1024_S1x1x64x1024_0_0_0_0) (qrow X 1 inb_S1x4x64x1024_S1x1x64x1024_0_1_0_0)
    (qrow X 2 inb_S1x4x64x1024_S1x1x64x1024_0_2_0_0) (qrow X 3 inb_S1x4x64x1024_S1x1x64x1024_0_3_0_0) km

/-- The accumulator with the shifted exponent after all keys: the context tile, then the sixteen latent tiles. -/
def shiftTot (x3 : S1x4x64x1024.Idx → Elt F .bf16) (x4 : S1x1x1x256x80.Idx → Elt F .bf16) (x5 : S1x1x1x80x256.Idx → Elt F .bf16)
    (x6 : S1x1x16x256x80.Idx → Elt F .bf16) (x7 : S1x1x16x80x256.Idx → Elt F .bf16) (x8 : S1x1x1x128.Idx → Elt F .f32) : FVec F S80x4096 .f32 :=
  shiftAcc (qshift x3 x8) x6 x7 (shiftStep (qshift x3 x8) x4 x5 (k0_pay1 (k0_pay98 (F := F)))) 16

/-- The accumulator with the running maximum after all keys. -/
def onlineTot (x3 : S1x4x64x1024.Idx → Elt F .bf16) (x4 : S1x1x1x256x80.Idx → Elt F .bf16) (x5 : S1x1x1x80x256.Idx → Elt F .bf16)
    (x6 : S1x1x16x256x80.Idx → Elt F .bf16) (x7 : S1x1x16x80x256.Idx → Elt F .bf16) : FVec F S80x4096 .f32 :=
  (onlineAcc (k0_pay70 (qcat x3)) x6 x7 (onlineStep (k0_pay70 (qcat x3)) x4 x5 (k0_pay71 (F := F), k0_pay72 (F := F))) 16).1

/-- Whether every denominator of the shifted accumulator is at least `2^-80`. -/
def safeBit (A : FVec F S80x4096 .f32) : BitVec 1 :=
  Scalar.cmpf .oge (k0_pay4 (View.ld (Val := Elt F) (e' := .f32) A (Rect.unit (s := S80x4096) ![64, 0] S1x4096.size inb_S80x4096_S1x4096_64_0)))
    (Scalar.ofBits .f32 0x17800000#32)

/-- The accumulator the output block is taken of. -/
def accOut (x3 : S1x4x64x1024.Idx → Elt F .bf16) (x4 : S1x1x1x256x80.Idx → Elt F .bf16) (x5 : S1x1x1x80x256.Idx → Elt F .bf16)
    (x6 : S1x1x16x256x80.Idx → Elt F .bf16) (x7 : S1x1x16x80x256.Idx → Elt F .bf16) (x8 : S1x1x1x128.Idx → Elt F .f32) : FVec F S80x4096 .f32 :=
  if safeBit (shiftTot x3 x4 x5 x6 x7 x8) = 1#1 then shiftTot x3 x4 x5 x6 x7 x8 else onlineTot x3 x4 x5 x6 x7

end Cert.KernelIdeal.Attn

end
-- ==== Proof.Reads.lean ====
/-
  What the accumulator buffer reads after the stores and loops of the attention body.
-/
module

public import proofs.«01_k».proof.Proof.OutBlock

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Read

variable (𝒱 : Variants) (c : Dev nD) (bd : Option 𝒱.V) (i : grid0.Coords)
  (arg3 : Memref sig .tc .vmem S1x4x64x1024 .bf16) (harg3 : arg3.IsWhole) (arg4 : Memref sig .tc .vmem S1x1x1x256x80 .bf16) (harg4 : arg4.IsWhole)
  (arg5 : Memref sig .tc .vmem S1x1x1x80x256 .bf16) (harg5 : arg5.IsWhole) (arg6 : Memref sig .tc .vmem S1x1x16x256x80 .bf16) (harg6 : arg6.IsWhole)
  (arg7 : Memref sig .tc .vmem S1x1x16x80x256 .bf16) (harg7 : arg7.IsWhole) (arg8 : Memref sig .tc .vmem S1x1x1x128 .f32) (harg8 : arg8.IsWhole)
  (arg9 : Memref sig .tc .vmem S1x4x256x256 .bf16) (harg9 : arg9.IsWhole) (arg10 : Memref sig .tc .vmem S80x4096 .f32) (harg10 : arg10.IsWhole)
  (arg11 : Memref sig .tc .vmem S1x4096 .f32) (harg11 : arg11.IsWhole)
  (f3 : BufTy.Contents (Elt F) arg3.view.ty) (f4 : BufTy.Contents (Elt F) arg4.view.ty) (f5 : BufTy.Contents (Elt F) arg5.view.ty)
  (f6 : BufTy.Contents (Elt F) arg6.view.ty) (f7 : BufTy.Contents (Elt F) arg7.view.ty) (f8 : BufTy.Contents (Elt F) arg8.view.ty)

/-- The shifted queries, as the body's loads make them. -/
abbrev vq : FVec F S80x4096 .bf16 :=
  k0_pay97 (arg3.view.readAt (Elt F) (Rect.unit (s := S1x4x64x1024) ![0, 0, 0, 0] S1x1x64x1024.size inb_S1x4x64x1024_S1x1x64x1024_0_0_0_0).toLoadRect f3)
    (arg3.view.readAt (Elt F) (Rect.unit (s := S1x4x64x1024) ![0, 1, 0, 0] S1x1x64x1024.size inb_S1x4x64x1024_S1x1x64x1024_0_1_0_0).toLoadRect f3)
    (arg3.view.readAt (Elt F) (Rect.unit (s := S1x4x64x1024) ![0, 2, 0, 0] S1x1x64x1024.size inb_S1x4x64x1024_S1x1x64x1024_0_2_0_0).toLoadRect f3)
    (arg3.view.readAt (Elt F) (Rect.unit (s := S1x4x64x1024) ![0, 3, 0, 0] S1x1x64x1024.size inb_S1x4x64x1024_S1x1x64x1024_0_3_0_0).toLoadRect f3)
    (arg8.view.readAt (Elt F) (Rect.unit (s := S1x1x1x128) ![0, 0, 0, 0] S1x1x1x128.size inb_S1x1x1x128_S1x1x1x128_0_0_0_0).toLoadRect f8)

/-- They are `qshift`'s. -/
theorem vq_eq : vq arg3 arg8 f3 f8 = qshift (arg3.view.read (Elt F) f3) (arg8.view.read (Elt F) f8) :=
  congrArg (k0_pay97 _ _ _ _) (View.readAt_full (s := S1x1x1x128) _ _ _)

/-- The first two stores into the accumulator: zeros, then the context tile's step. -/
abbrev H1 : List (View.Piece (Elt F) S80x4096 .f32) :=
  [⟨Rect.unit ![0, 0] ![80, 4096] inb_S80x4096_S80x4096_0_0,
      k0_pay2 (vq arg3 arg8 f3 f8)
        (arg4.view.readAt (Elt F) (Rect.unit (s := S1x1x1x256x80) ![0, 0, 0, 0, 0] ![1, 1, 1, 256, 80] inb_S1x1x1x256x80_S1x1x1x256x80_0_0_0_0_0).toLoadRect f4)
        (arg10.view.readCov [⟨Rect.unit ![0, 0] ![80, 4096] inb_S80x4096_S80x4096_0_0, k0_pay1 k0_pay98⟩] (Rect.unit (s := S80x4096) ![0, 0] ![80, 4096] inb_S80x4096_S80x4096_0_0).toLoadRect)
        (arg5.view.readAt (Elt F) (Rect.unit (s := S1x1x1x80x256) ![0, 0, 0, 0, 0] ![1, 1, 1, 80, 256] inb_S1x1x1x80x256_S1x1x1x80x256_0_0_0_0_0).toLoadRect f5)⟩,
    ⟨Rect.unit ![0, 0] ![80, 4096] inb_S80x4096_S80x4096_0_0, k0_pay1 k0_pay98⟩]

/-- What those two stores leave. -/
theorem read_H1 (f : BufTy.Contents (Elt F) arg10.view.ty) :
    arg10.view.read (Elt F) (arg10.view.writes (Elt F) f (H1 arg3 arg4 arg5 arg8 arg10 f3 f4 f5 f8))
      = shiftStep (qshift (arg3.view.read (Elt F) f3) (arg8.view.read (Elt F) f8)) (arg4.view.read (Elt F) f4) (arg5.view.read (Elt F) f5) (k0_pay1 (k0_pay98 (F := F))) := by
  refine (View.read_writes_full (s := S80x4096) _ _ _ _ _).trans ?_
  rw [vq_eq]
  simp only [View.readCov_full (s := S80x4096), View.readAt_full (s := S1x1x1x256x80), View.readAt_full (s := S1x1x1x80x256)]
  rfl

/-- What they and the shifted loop leave. -/
theorem read_shifted (f : BufTy.Contents (Elt F) arg10.view.ty) :
    arg10.view.read (Elt F) (arg10.view.writes (Elt F) f
        (pb_k0_t1 (F := F) 𝒱 c bd i arg3 harg3 arg4 harg4 arg5 harg5 arg6 harg6 arg7 harg7 arg8 harg8 arg9 harg9 arg10 harg10 arg11 harg11 (vq arg3 arg8 f3 f8) f6 f7
          (arg10.view.writes (Elt F) f (H1 arg3 arg4 arg5 arg8 arg10 f3 f4 f5 f8)) (Scf.trips k0_t1_loop.lb k0_t1_loop.ub k0_t1_loop.st) ++ H1 arg3 arg4 arg5 arg8 arg10 f3 f4 f5 f8))
      = shiftTot (arg3.view.read (Elt F) f3) (arg4.view.read (Elt F) f4) (arg5.view.read (Elt F) f5) (arg6.view.read (Elt F) f6) (arg7.view.read (Elt F) f7) (arg8.view.read (Elt F) f8) := by
  rw [read_after1, read_H1, vq_eq, shiftTot]

/-- The queries side by side, as the body's loads make them. -/
abbrev vc : FVec F S64x4096 .bf16 :=
  k0_pay96 (arg3.view.readAt (Elt F) (Rect.unit (s := S1x4x64x1024) ![0, 0, 0, 0] S1x1x64x1024.size inb_S1x4x64x1024_S1x1x64x1024_0_0_0_0).toLoadRect f3)
    (arg3.view.readAt (Elt F) (Rect.unit (s := S1x4x64x1024) ![0, 1, 0, 0] S1x1x64x1024.size inb_S1x4x64x1024_S1x1x64x1024_0_1_0_0).toLoadRect f3)
    (arg3.view.readAt (Elt F) (Rect.unit (s := S1x4x64x1024) ![0, 2, 0, 0] S1x1x64x1024.size inb_S1x4x64x1024_S1x1x64x1024_0_2_0_0).toLoadRect f3)
    (arg3.view.readAt (Elt F) (Rect.unit (s := S1x4x64x1024) ![0, 3, 0, 0] S1x1x64x1024.size inb_S1x4x64x1024_S1x1x64x1024_0_3_0_0).toLoadRect f3)

/-- The context keys, as the body loads them. -/
abbrev vk : Vec F S1x1x1x256x80 .bf16 :=
  arg4.view.readAt (Elt F) (Rect.unit (s := S1x1x1x256x80) ![0, 0, 0, 0, 0] S1x1x1x256x80.size inb_S1x1x1x256x80_S1x1x1x256x80_0_0_0_0_0).toLoadRect f4

/-- The context values, as the body loads them. -/
abbrev vv : Vec F S1x1x1x80x256 .bf16 :=
  arg5.view.readAt (Elt F) (Rect.unit (s := S1x1x1x80x256) ![0, 0, 0, 0, 0] S1x1x1x80x256.size inb_S1x1x1x80x256_S1x1x1x80x256_0_0_0_0_0).toLoadRect f5

/-- The running maximum before the context tile. -/
abbrev vm : Vec F S1x4096 .f32 :=
  arg11.view.readCov [⟨Rect.unit ![0, 0] S1x4096.size inb_S1x4096_S1x4096_0_0, k0_pay72⟩] (Rect.unit (s := S1x4096) ![0, 0] S1x4096.size inb_S1x4096_S1x4096_0_0).toLoadRect

/-- The second branch's stores into the maximum before its loop. -/
abbrev HM : List (View.Piece (Elt F) S1x4096 .f32) :=
  [⟨Rect.unit ![0, 0] S1x4096.size inb_S1x4096_S1x4096_0_0, k0_pay77 (k0_pay74 (vc arg3 f3) (vk arg4 f4) (vm arg11))⟩,
    ⟨Rect.unit ![0, 0] S1x4096.size inb_S1x4096_S1x4096_0_0, k0_pay72⟩]

/-- Its stores into the accumulator before its loop, above whatever was stored before. -/
abbrev HA (T : List (View.Piece (Elt F) S80x4096 .f32)) : List (View.Piece (Elt F) S80x4096 .f32) :=
  ⟨Rect.unit ![0, 0] S80x4096.size inb_S80x4096_S80x4096_0_0,
      k0_pay76 (k0_pay75 (vc arg3 f3) (vk arg4 f4) (vm arg11)
        (arg10.view.readCov (⟨Rect.unit ![0, 0] S80x4096.size inb_S80x4096_S80x4096_0_0, k0_pay71⟩ :: T) (Rect.unit (s := S80x4096) ![0, 0] S80x4096.size inb_S80x4096_S80x4096_0_0).toLoadRect)
        (vv arg5 f5))⟩ ::
    ⟨Rect.unit ![0, 0] S80x4096.size inb_S80x4096_S80x4096_0_0, k0_pay71⟩ :: T

/-- The maximum and the accumulator after the context tile. -/
theorem read_HM (g : BufTy.Contents (Elt F) arg11.view.ty) (T : List (View.Piece (Elt F) S80x4096 .f32)) (f : BufTy.Contents (Elt F) arg10.view.ty) :
    ((arg10.view.read (Elt F) (arg10.view.writes (Elt F) f (HA arg3 arg4 arg5 arg10 arg11 f3 f4 f5 T)), arg11.view.read (Elt F) (arg11.view.writes (Elt F) g (HM arg3 arg4 arg11 f3 f4)))
      : FVec F S80x4096 .f32 × FVec F S1x4096 .f32)
      = onlineStep (k0_pay70 (qcat (arg3.view.read (Elt F) f3))) (arg4.view.read (Elt F) f4) (arg5.view.read (Elt F) f5) (k0_pay71 (F := F), k0_pay72 (F := F)) := by
  refine Prod.ext ((View.read_writes_full (s := S80x4096) _ _ _ _ _).trans ?_) ((View.read_writes_full (s := S1x4096) _ _ _ _ _).trans ?_)
  · rw [View.readCov_full (s := S80x4096), vm, View.readCov_full (s := S1x4096), vk, View.readAt_full (s := S1x1x1x256x80), vv, View.readAt_full (s := S1x1x1x80x256)]
    rfl
  · rw [vm, View.readCov_full (s := S1x4096), vk, View.readAt_full (s := S1x1x1x256x80)]
    rfl

/-- What the second branch's stores and its loop leave in the accumulator. -/
theorem read_online (v72 : FVec F S1x4096 .f32) (v85 : FVec F S80x4096 .f32) (T : List (View.Piece (Elt F) S80x4096 .f32))
    (f : BufTy.Contents (Elt F) arg10.view.ty) (g : BufTy.Contents (Elt F) arg11.view.ty) :
    arg10.view.read (Elt F) (arg10.view.writes (Elt F) f
        ((pb_k0_t2 (F := F) 𝒱 c bd i arg3 harg3 arg4 harg4 arg5 harg5 arg6 harg6 arg7 harg7 arg8 harg8 arg9 harg9 arg10 harg10 arg11 harg11 (k0_pay70 (vc arg3 f3)) v72 v85 f6 f7
          (arg10.view.writes (Elt F) f (HA arg3 arg4 arg5 arg10 arg11 f3 f4 f5 T)) (arg11.view.writes (Elt F) g (HM arg3 arg4 arg11 f3 f4))
          (Scf.trips k0_t2_loop.lb k0_t2_loop.ub k0_t2_loop.st)).1 ++ HA arg3 arg4 arg5 arg10 arg11 f3 f4 f5 T))
      = onlineTot (arg3.view.read (Elt F) f3) (arg4.view.read (Elt F) f4) (arg5.view.read (Elt F) f5) (arg6.view.read (Elt F) f6) (arg7.view.read (Elt F) f7) := by
  rw [read_after2, read_HM]
  rfl

end Read

end Cert.KernelIdeal.Attn

end
-- ==== Proof.Pieces.lean ====
/-
  The output block of the two branches: sixteen stores, one for each query head of the group and each query chunk,
  each of the quotients' own piece.
-/
module

public import proofs.«01_k».proof.Proof.Reads

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F]

/-- The first branch's stores. -/
abbrev stores1 (A : FVec F S80x4096 .f32) : List (View.Piece (Elt F) S1x4x256x256 .bf16) :=
  [⟨Rect.unit (s := S1x4x256x256) ![0, 3, 192, 0] ![1, 1, 64, 256] inb_S1x4x256x256_S1x1x64x256_0_3_192_0, k0_pay9 (k0_pay20 A)⟩,
    ⟨Rect.unit (s := S1x4x256x256) ![0, 2, 192, 0] ![1, 1, 64, 256] inb_S1x4x256x256_S1x1x64x256_0_2_192_0, k0_pay8 (k0_pay20 A)⟩,
    ⟨Rect.unit (s := S1x4x256x256) ![0, 1, 192, 0] ![1, 1, 64, 256] inb_S1x4x256x256_S1x1x64x256_0_1_192_0, k0_pay7 (k0_pay20 A)⟩,
    ⟨Rect.unit (s := S1x4x256x256) ![0, 0, 192, 0] ![1, 1, 64, 256] inb_S1x4x256x256_S1x1x64x256_0_0_192_0, k0_pay6 (k0_pay20 A)⟩,
    ⟨Rect.unit (s := S1x4x256x256) ![0, 3, 128, 0] ![1, 1, 64, 256] inb_S1x4x256x256_S1x1x64x256_0_3_128_0, k0_pay5 (k0_pay33 (k0_pay20 A))⟩,
    ⟨Rect.unit (s := S1x4x256x256) ![0, 2, 128, 0] S1x1x64x256.size inb_S1x4x256x256_S1x1x64x256_0_2_128_0, k0_pay32 (k0_pay20 A)⟩,
    ⟨Rect.unit (s := S1x4x256x256) ![0, 1, 128, 0] S1x1x64x256.size inb_S1x4x256x256_S1x1x64x256_0_1_128_0, k0_pay31 (k0_pay20 A)⟩,
    ⟨Rect.unit (s := S1x4x256x256) ![0, 0, 128, 0] S1x1x64x256.size inb_S1x4x256x256_S1x1x64x256_0_0_128_0, k0_pay30 (k0_pay20 A)⟩,
    ⟨Rect.unit (s := S1x4x256x256) ![0, 3, 64, 0] S1x1x64x256.size inb_S1x4x256x256_S1x1x64x256_0_3_64_0, k0_pay29 (k0_pay20 A)⟩,
    ⟨Rect.unit (s := S1x4x256x256) ![0, 2, 64, 0] S1x1x64x256.size inb_S1x4x256x256_S1x1x64x256_0_2_64_0, k0_pay28 (k0_pay20 A)⟩,
    ⟨Rect.unit (s := S1x4x256x256) ![0, 1, 64, 0] S1x1x64x256.size inb_S1x4x256x256_S1x1x64x256_0_1_64_0, k0_pay27 (k0_pay26 A)⟩,
    ⟨Rect.unit (s := S1x4x256x256) ![0, 0, 64, 0] S1x1x64x256.size inb_S1x4x256x256_S1x1x64x256_0_0_64_0, k0_pay25 A⟩,
    ⟨Rect.unit (s := S1x4x256x256) ![0, 3, 0, 0] S1x1x64x256.size inb_S1x4x256x256_S1x1x64x256_0_3_0_0, k0_pay24 A⟩,
    ⟨Rect.unit (s := S1x4x256x256) ![0, 2, 0, 0] S1x1x64x256.size inb_S1x4x256x256_S1x1x64x256_0_2_0_0, k0_pay23 A⟩,
    ⟨Rect.unit (s := S1x4x256x256) ![0, 1, 0, 0] S1x1x64x256.size inb_S1x4x256x256_S1x1x64x256_0_1_0_0, k0_pay22 A⟩,
    ⟨Rect.unit (s := S1x4x256x256) ![0, 0, 0, 0] S1x1x64x256.size inb_S1x4x256x256_S1x1x64x256_0_0_0_0, k0_pay21 A⟩]

/-- They leave the output block. -/
theorem read_stores1 (m : Memref sig .tc .vmem S1x4x256x256 .bf16) (f : BufTy.Contents (Elt F) m.view.ty) (A : FVec F S80x4096 .f32) :
    m.view.read (Elt F) (m.view.writes (Elt F) f (stores1 A)) = outB A :=
  read_out m f A _
    (⟨fun x => piece_eq (k0_pay20 A) 3 3 3840 192 rfl rfl _ _ _ inb_S1x4x256x256_S1x1x64x256_0_3_192_0 x,
    ⟨fun x => piece_eq (k0_pay20 A) 3 2 3584 192 rfl rfl _ _ _ inb_S1x4x256x256_S1x1x64x256_0_2_192_0 x,
    ⟨fun x => piece_eq (k0_pay20 A) 3 1 3328 192 rfl rfl _ _ _ inb_S1x4x256x256_S1x1x64x256_0_1_192_0 x,
    ⟨fun x => piece_eq (k0_pay20 A) 3 0 3072 192 rfl rfl _ _ _ inb_S1x4x256x256_S1x1x64x256_0_0_192_0 x,
    ⟨fun x => piece_eq (k0_pay20 A) 2 3 2816 128 rfl rfl _ _ _ inb_S1x4x256x256_S1x1x64x256_0_3_128_0 x,
    ⟨fun x => piece_eq (k0_pay20 A) 2 2 2560 128 rfl rfl _ _ _ inb_S1x4x256x256_S1x1x64x256_0_2_128_0 x,
    ⟨fun x => piece_eq (k0_pay20 A) 2 1 2304 128 rfl rfl _ _ _ inb_S1x4x256x256_S1x1x64x256_0_1_128_0 x,
    ⟨fun x => piece_eq (k0_pay20 A) 2 0 2048 128 rfl rfl _ _ _ inb_S1x4x256x256_S1x1x64x256_0_0_128_0 x,
    ⟨fun x => piece_eq (k0_pay20 A) 1 3 1792 64 rfl rfl _ _ _ inb_S1x4x256x256_S1x1x64x256_0_3_64_0 x,
    ⟨fun x => piece_eq (k0_pay20 A) 1 2 1536 64 rfl rfl _ _ _ inb_S1x4x256x256_S1x1x64x256_0_2_64_0 x,
    ⟨fun x => piece_eq (k0_pay20 A) 1 1 1280 64 rfl rfl _ _ _ inb_S1x4x256x256_S1x1x64x256_0_1_64_0 x,
    ⟨fun x => piece_eq (k0_pay20 A) 1 0 1024 64 rfl rfl _ _ _ inb_S1x4x256x256_S1x1x64x256_0_0_64_0 x,
    ⟨fun x => piece_eq (k0_pay20 A) 0 3 768 0 rfl rfl _ _ _ inb_S1x4x256x256_S1x1x64x256_0_3_0_0 x,
    ⟨fun x => piece_eq (k0_pay20 A) 0 2 512 0 rfl rfl _ _ _ inb_S1x4x256x256_S1x1x64x256_0_2_0_0 x,
    ⟨fun x => piece_eq (k0_pay20 A) 0 1 256 0 rfl rfl _ _ _ inb_S1x4x256x256_S1x1x64x256_0_1_0_0 x,
    ⟨fun x => piece_eq (k0_pay20 A) 0 0 0 0 rfl rfl _ _ _ inb_S1x4x256x256_S1x1x64x256_0_0_0_0 x, trivial⟩⟩⟩⟩⟩⟩⟩⟩⟩⟩⟩⟩⟩⟩⟩⟩)
    (View.cover_of_tiled _ S1x1x64x256.size (by rfl))

/-- The second branch's stores. -/
abbrev stores2 (A : FVec F S80x4096 .f32) : List (View.Piece (Elt F) S1x4x256x256 .bf16) :=
  [⟨Rect.unit (s := S1x4x256x256) ![0, 3, 192, 0] ![1, 1, 64, 256] inb_S1x4x256x256_S1x1x64x256_0_3_192_0, k0_pay95 (k0_pay79 A)⟩,
    ⟨Rect.unit (s := S1x4x256x256) ![0, 2, 192, 0] S1x1x64x256.size inb_S1x4x256x256_S1x1x64x256_0_2_192_0, k0_pay94 (k0_pay79 A)⟩,
    ⟨Rect.unit (s := S1x4x256x256) ![0, 1, 192, 0] S1x1x64x256.size inb_S1x4x256x256_S1x1x64x256_0_1_192_0, k0_pay93 (k0_pay79 A)⟩,
    ⟨Rect.unit (s := S1x4x256x256) ![0, 0, 192, 0] S1x1x64x256.size inb_S1x4x256x256_S1x1x64x256_0_0_192_0, k0_pay92 (k0_pay79 A)⟩,
    ⟨Rect.unit (s := S1x4x256x256) ![0, 3, 128, 0] S1x1x64x256.size inb_S1x4x256x256_S1x1x64x256_0_3_128_0, k0_pay91 (k0_pay79 A)⟩,
    ⟨Rect.unit (s := S1x4x256x256) ![0, 2, 128, 0] S1x1x64x256.size inb_S1x4x256x256_S1x1x64x256_0_2_128_0, k0_pay90 (k0_pay79 A)⟩,
    ⟨Rect.unit (s := S1x4x256x256) ![0, 1, 128, 0] S1x1x64x256.size inb_S1x4x256x256_S1x1x64x256_0_1_128_0, k0_pay89 (k0_pay79 A)⟩,
    ⟨Rect.unit (s := S1x4x256x256) ![0, 0, 128, 0] S1x1x64x256.size inb_S1x4x256x256_S1x1x64x256_0_0_128_0, k0_pay88 (k0_pay79 A)⟩,
    ⟨Rect.unit (s := S1x4x256x256) ![0, 3, 64, 0] S1x1x64x256.size inb_S1x4x256x256_S1x1x64x256_0_3_64_0, k0_pay87 (k0_pay79 A)⟩,
    ⟨Rect.unit (s := S1x4x256x256) ![0, 2, 64, 0] S1x1x64x256.size inb_S1x4x256x256_S1x1x64x256_0_2_64_0, k0_pay86 (k0_pay79 A)⟩,
    ⟨Rect.unit (s := S1x4x256x256) ![0, 1, 64, 0] S1x1x64x256.size inb_S1x4x256x256_S1x1x64x256_0_1_64_0, k0_pay85 (k0_pay79 A)⟩,
    ⟨Rect.unit (s := S1x4x256x256) ![0, 0, 64, 0] S1x1x64x256.size inb_S1x4x256x256_S1x1x64x256_0_0_64_0, k0_pay84 (k0_pay79 A)⟩,
    ⟨Rect.unit (s := S1x4x256x256) ![0, 3, 0, 0] S1x1x64x256.size inb_S1x4x256x256_S1x1x64x256_0_3_0_0, k0_pay83 A⟩,
    ⟨Rect.unit (s := S1x4x256x256) ![0, 2, 0, 0] S1x1x64x256.size inb_S1x4x256x256_S1x1x64x256_0_2_0_0, k0_pay82 A⟩,
    ⟨Rect.unit (s := S1x4x256x256) ![0, 1, 0, 0] S1x1x64x256.size inb_S1x4x256x256_S1x1x64x256_0_1_0_0, k0_pay81 A⟩,
    ⟨Rect.unit (s := S1x4x256x256) ![0, 0, 0, 0] S1x1x64x256.size inb_S1x4x256x256_S1x1x64x256_0_0_0_0, k0_pay80 A⟩]

/-- They leave the output block. -/
theorem read_stores2 (m : Memref sig .tc .vmem S1x4x256x256 .bf16) (f : BufTy.Contents (Elt F) m.view.ty) (A : FVec F S80x4096 .f32) :
    m.view.read (Elt F) (m.view.writes (Elt F) f (stores2 A)) = outB A :=
  read_out m f A _
    (⟨fun x => piece_eq (k0_pay20 A) 3 3 3840 192 rfl rfl _ _ _ inb_S1x4x256x256_S1x1x64x256_0_3_192_0 x,
    ⟨fun x => piece_eq (k0_pay20 A) 3 2 3584 192 rfl rfl _ _ _ inb_S1x4x256x256_S1x1x64x256_0_2_192_0 x,
    ⟨fun x => piece_eq (k0_pay20 A) 3 1 3328 192 rfl rfl _ _ _ inb_S1x4x256x256_S1x1x64x256_0_1_192_0 x,
    ⟨fun x => piece_eq (k0_pay20 A) 3 0 3072 192 rfl rfl _ _ _ inb_S1x4x256x256_S1x1x64x256_0_0_192_0 x,
    ⟨fun x => piece_eq (k0_pay20 A) 2 3 2816 128 rfl rfl _ _ _ inb_S1x4x256x256_S1x1x64x256_0_3_128_0 x,
    ⟨fun x => piece_eq (k0_pay20 A) 2 2 2560 128 rfl rfl _ _ _ inb_S1x4x256x256_S1x1x64x256_0_2_128_0 x,
    ⟨fun x => piece_eq (k0_pay20 A) 2 1 2304 128 rfl rfl _ _ _ inb_S1x4x256x256_S1x1x64x256_0_1_128_0 x,
    ⟨fun x => piece_eq (k0_pay20 A) 2 0 2048 128 rfl rfl _ _ _ inb_S1x4x256x256_S1x1x64x256_0_0_128_0 x,
    ⟨fun x => piece_eq (k0_pay20 A) 1 3 1792 64 rfl rfl _ _ _ inb_S1x4x256x256_S1x1x64x256_0_3_64_0 x,
    ⟨fun x => piece_eq (k0_pay20 A) 1 2 1536 64 rfl rfl _ _ _ inb_S1x4x256x256_S1x1x64x256_0_2_64_0 x,
    ⟨fun x => piece_eq (k0_pay20 A) 1 1 1280 64 rfl rfl _ _ _ inb_S1x4x256x256_S1x1x64x256_0_1_64_0 x,
    ⟨fun x => piece_eq (k0_pay20 A) 1 0 1024 64 rfl rfl _ _ _ inb_S1x4x256x256_S1x1x64x256_0_0_64_0 x,
    ⟨fun x => piece_eq (k0_pay20 A) 0 3 768 0 rfl rfl _ _ _ inb_S1x4x256x256_S1x1x64x256_0_3_0_0 x,
    ⟨fun x => piece_eq (k0_pay20 A) 0 2 512 0 rfl rfl _ _ _ inb_S1x4x256x256_S1x1x64x256_0_2_0_0 x,
    ⟨fun x => piece_eq (k0_pay20 A) 0 1 256 0 rfl rfl _ _ _ inb_S1x4x256x256_S1x1x64x256_0_1_0_0 x,
    ⟨fun x => piece_eq (k0_pay20 A) 0 0 0 0 rfl rfl _ _ _ inb_S1x4x256x256_S1x1x64x256_0_0_0_0 x, trivial⟩⟩⟩⟩⟩⟩⟩⟩⟩⟩⟩⟩⟩⟩⟩⟩)
    (View.cover_of_tiled _ S1x1x64x256.size (by rfl))

end Cert.KernelIdeal.Attn

end
-- ==== Proof.Body.lean ====
/-
  The body of the attention kernel at one grid point: whatever the scratch buffers hold, it leaves its inputs as they
  are and writes the output block of `accOut`.
-/
module

public import proofs.«01_k».proof.Proof.Pieces

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Of a bit that is one, the first branch's test holds. -/
theorem branch_one : (Scalar.cmpi .ne (Scalar.extui (1#1) : BitVec 32) 0#32 : BitVec 1) = 1#1 := by decide
/-- Of a bit that is zero, it does not. -/
theorem branch_zero : ¬ (Scalar.cmpi .ne (Scalar.extui (0#1) : BitVec 32) 0#32 : BitVec 1) = 1#1 := by decide

/-- Of a bit that is one, the second branch's test fails. -/
theorem branch_not_one : ¬ (Scalar.cmpi .ne (Scalar.extui (Scalar.xori (1#1) 1#1) : BitVec 32) 0#32 : BitVec 1) = 1#1 := by decide
/-- Of a bit that is zero, it holds. -/
theorem branch_not_zero : (Scalar.cmpi .ne (Scalar.extui (Scalar.xori (0#1) 1#1) : BitVec 32) 0#32 : BitVec 1) = 1#1 := by decide
/-- The zero bit is not one. -/
theorem zero_ne_one_bit : ¬ (0#1 : BitVec 1) = 1#1 := by decide
/-- A bit is one or zero. -/
theorem bit_cases (b : BitVec 1) : b = 1#1 ∨ b = 0#1 := by revert b; decide

set_option maxHeartbeats 4000000 in
/-- THE BODY at a grid point. -/
theorem sound_kernel (c : Dev nD) (E : Set ℕ) (i : grid0.Coords)
  (arg3 : Memref sig .tc .vmem S1x4x64x1024 .bf16) (harg3 : arg3.IsWhole) (arg4 : Memref sig .tc .vmem S1x1x1x256x80 .bf16) (harg4 : arg4.IsWhole)
  (arg5 : Memref sig .tc .vmem S1x1x1x80x256 .bf16) (harg5 : arg5.IsWhole) (arg6 : Memref sig .tc .vmem S1x1x16x256x80 .bf16) (harg6 : arg6.IsWhole)
  (arg7 : Memref sig .tc .vmem S1x1x16x80x256 .bf16) (harg7 : arg7.IsWhole) (arg8 : Memref sig .tc .vmem S1x1x1x128 .f32) (harg8 : arg8.IsWhole)
  (arg9 : Memref sig .tc .vmem S1x4x256x256 .bf16) (harg9 : arg9.IsWhole) (arg10 : Memref sig .tc .vmem S80x4096 .f32) (harg10 : arg10.IsWhole)
  (arg11 : Memref sig .tc .vmem S1x4096 .f32) (harg11 : arg11.IsWhole)
  (x3 : S1x4x64x1024.Idx → Elt F .bf16) (x4 : S1x1x1x256x80.Idx → Elt F .bf16) (x5 : S1x1x1x80x256.Idx → Elt F .bf16)
  (x6 : S1x1x16x256x80.Idx → Elt F .bf16) (x7 : S1x1x16x80x256.Idx → Elt F .bf16) (x8 : S1x1x1x128.Idx → Elt F .f32)
  (K : PUnit → sProp 𝕄) :
  iprop(owns (c : Thread nD τ) arg3 fullShare x3 ∗ owns (c : Thread nD τ) arg4 fullShare x4 ∗ owns (c : Thread nD τ) arg5 fullShare x5 ∗ owns (c : Thread nD τ) arg6 fullShare x6
    ∗ owns (c : Thread nD τ) arg7 fullShare x7 ∗ owns (c : Thread nD τ) arg8 fullShare x8
    ∗ (∃ x, owns (c : Thread nD τ) arg9 fullShare x)
    ∗ (∃ x, owns (c : Thread nD τ) arg10 fullShare x) ∗ (∃ x, owns (c : Thread nD τ) arg11 fullShare x)
    ∗ ((owns (c : Thread nD τ) arg3 fullShare x3 ∗ owns (c : Thread nD τ) arg4 fullShare x4 ∗ owns (c : Thread nD τ) arg5 fullShare x5 ∗ owns (c : Thread nD τ) arg6 fullShare x6
      ∗ owns (c : Thread nD τ) arg7 fullShare x7 ∗ owns (c : Thread nD τ) arg8 fullShare x8
      ∗ owns (c : Thread nD τ) arg9 fullShare (outB (accOut x3 x4 x5 x6 x7 x8))
      ∗ (∃ x, owns (c : Thread nD τ) arg10 fullShare x) ∗ (∃ x, owns (c : Thread nD τ) arg11 fullShare x)) -∗ K ⟨⟩))
  ⊢ wp frame (wpE (defs₀ (F := F)) Variants.none (c : Thread nD τ) none) E
      (cc0_attention (F := F) i arg3 harg3 arg4 harg4 arg5 harg5 arg6 harg6 arg7 harg7 arg8 harg8 arg9 harg9 arg10 harg10 arg11 harg11) K := by
  simp only [cc0_attention_eq_skeleton]
  unfold cc0_attention_skel
  simp only [k0_part18_eq_skeleton, k0_part5_eq_skeleton, k0_part6_eq_skeleton, k0_part14_eq_skeleton, k0_part15_eq_skeleton, k0_part16_eq_skeleton, k0_part17_eq_skeleton]
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%x9, %f9, %e9, H9⟩, ⟨%x10, %f10, %e10, H10⟩, ⟨%x11, %f11, %e11, H11⟩, Hk⟩
  subst e3 e4 e5 e6 e7 e8
  sl_exec
  have hv : sound_kernel.sl.v45 c i arg3 harg3 arg4 harg4 arg5 harg5 arg6 harg6 arg7 harg7 arg8 harg8 arg9 harg9 arg10 harg10 arg11 harg11 f3 f4 f5 f6 f7 f8
      = View.ld (Val := Elt F) (e' := .f32) (shiftTot (arg3.view.read (Elt F) f3) (arg4.view.read (Elt F) f4) (arg5.view.read (Elt F) f5) (arg6.view.read (Elt F) f6) (arg7.view.read (Elt F) f7) (arg8.view.read (Elt F) f8)) (Rect.unit (s := S80x4096) ![64, 0] S1x4096.size inb_S80x4096_S1x4096_64_0) := by
    sl_unfold_run_names
    exact congrArg (fun Z : S80x4096.Idx → Elt F .f32 => View.ld (Val := Elt F) (e' := .f32) Z (Rect.unit (s := S80x4096) ![64, 0] S1x4096.size inb_S80x4096_S1x4096_64_0)) (read_shifted (F := F) Variants.none c none i arg3 harg3 arg4 harg4 arg5 harg5 arg6 harg6 arg7 harg7 arg8 harg8 arg9 harg9 arg10 harg10 arg11 harg11 f3 f4 f5 f6 f7 f8 arg10.view.junk)
  rw [hv]
  have hs : Scalar.cmpf .oge (k0_pay4 (View.ld (Val := Elt F) (e' := .f32) (shiftTot (arg3.view.read (Elt F) f3) (arg4.view.read (Elt F) f4) (arg5.view.read (Elt F) f5) (arg6.view.read (Elt F) f6) (arg7.view.read (Elt F) f7) (arg8.view.read (Elt F) f8)) (Rect.unit (s := S80x4096) ![64, 0] S1x4096.size inb_S80x4096_S1x4096_64_0))) (FloatOps.ofBits FTy.f32 394264576#32)
      = safeBit (shiftTot (arg3.view.read (Elt F) f3) (arg4.view.read (Elt F) f4) (arg5.view.read (Elt F) f5) (arg6.view.read (Elt F) f6) (arg7.view.read (Elt F) f7) (arg8.view.read (Elt F) f8)) := rfl
  rw [hs]
  rcases bit_cases (safeBit (shiftTot (arg3.view.read (Elt F) f3) (arg4.view.read (Elt F) f4) (arg5.view.read (Elt F) f5) (arg6.view.read (Elt F) f6) (arg7.view.read (Elt F) f7) (arg8.view.read (Elt F) f8))) with hb | hb
  · rw [hb, dif_pos branch_one, if_neg branch_not_one]
    have h56 : sound_kernel.sl.v56 c i arg3 harg3 arg4 harg4 arg5 harg5 arg6 harg6 arg7 harg7 arg8 harg8 arg9 harg9 arg10 harg10 arg11 harg11 f3 f4 f5 f6 f7 f8
        = shiftTot (arg3.view.read (Elt F) f3) (arg4.view.read (Elt F) f4) (arg5.view.read (Elt F) f5) (arg6.view.read (Elt F) f6) (arg7.view.read (Elt F) f7) (arg8.view.read (Elt F) f8) := by
      sl_unfold_run_names
      exact (readCov_read (S := S80x4096) _ _ _).trans (read_shifted (F := F) Variants.none c none i arg3 harg3 arg4 harg4 arg5 harg5 arg6 harg6 arg7 harg7 arg8 harg8 arg9 harg9 arg10 harg10 arg11 harg11 f3 f4 f5 f6 f7 f8 arg10.view.junk)
    sl_exec
    sl_step
    iapply Hk
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro
      rw [accOut, if_pos hb, ← h56]
      exact read_stores1 arg9 f9 _
    isplitl [H10]
    · iexists _, _; isplitr; swap; · iexact H10
      ipureintro; rfl
    iexists _, _; isplitr; swap; · iexact H11
    ipureintro; rfl
  · rw [hb, dif_neg branch_zero, if_pos branch_not_zero]
    sl_exec
    sl_step
    have h93 : sound_kernel.sl.v93 c i arg3 harg3 arg4 harg4 arg5 harg5 arg6 harg6 arg7 harg7 arg8 harg8 arg9 harg9 arg10 harg10 arg11 harg11 f3 f4 f5 f6 f7 f8
        = onlineTot (arg3.view.read (Elt F) f3) (arg4.view.read (Elt F) f4) (arg5.view.read (Elt F) f5) (arg6.view.read (Elt F) f6) (arg7.view.read (Elt F) f7) := by
      sl_unfold_run_names
      exact (readCov_read (S := S80x4096) _ _ _).trans (read_online (F := F) Variants.none c none i arg3 harg3 arg4 harg4 arg5 harg5 arg6 harg6 arg7 harg7 arg8 harg8 arg9 harg9 arg10 harg10 arg11 harg11 f3 f4 f5 f6 f7 _ _ _ arg10.view.junk arg11.view.junk)
    iapply Hk
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro
      rw [accOut, if_neg (hb ▸ zero_ne_one_bit), ← h93]
      exact read_stores2 arg9 f9 _
    isplitl [H10]
    · iexists _, _; isplitr; swap; · iexact H10
      ipureintro; rfl
    iexists _, _; isplitr; swap; · iexact H11
    ipureintro; rfl

end Cert.KernelIdeal.Attn

end
-- ==== Proof.Run.lean ====
/-
  The run of the program: at every grid point the pipeline hands the body its blocks, the body leaves the output block
  of `accOut` of them, and the program ends with its arguments as they were and its semaphores at zero.
-/
module

public import proofs.«01_k».proof.Proof.Body
public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block a grid point writes. -/
def outBlock (c : Dev nD) (t : Fin cfg0.N) : S1x4x256x256.Idx → Elt F .bf16 :=
  outB (accOut (iblk m c 0 t) (iblk m c 1 t) (iblk m c 2 t) (iblk m c 3 t) (iblk m c 4 t) (iblk m c 5 t))

/-- What each window holds after a grid point: an input its block, the output the point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock m c t
  Φ _ := Pipeline.ΦA spec0 c
  q _ := fullShare
  owed _ := 0

theorem A_eq (c : Dev nD) (w : Fin cfg0.W) : (dats m 0 c).A w = V m c (Pipeline.arrRef spec0 w) := rfl

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d
theorem before_5 (c : Dev nD) (t : Fin cfg0.N) (d) : (dats m 0 c).before 5 t d = iblk m c 5 t :=
  before0_5_of m (dats m 0 c) rfl (fun _ => rfl) t d

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The invariant between grid points: the two scratch buffers and the generator's register, at something. -/
theorem phi_eq (c : Dev nD) :
    (Pipeline.ΦA spec0 c : sProp 𝕄)
      = iprop(((∃ x, owns (c : Thread nD τ) (Memref.whole cc0_scratch0) fullShare x) ∗ (∃ x, owns (c : Thread nD τ) (Memref.whole cc0_scratch1) fullShare x)) ∗ (∃ r, prngReg c r)) := by
  unfold Pipeline.ΦA; rw [scopedRest0_eq]; simp only [owns_whole]; try rfl

set_option maxHeartbeats 2000000 in
/-- The body at any grid point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq]
  iintro ⟨⟨⟨HA, HM⟩, HP⟩, HO, ⟨%d0, H0⟩, ⟨%d1, H1⟩, ⟨%d2, H2⟩, ⟨%d3, H3⟩, ⟨%d4, H4⟩, ⟨%d5, H5⟩, ⟨%d6, H6⟩⟩
  iapply (sound_kernel (F := F) c Set.univ (grid0.coords t) _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HA]; · iexact HA
  isplitl [HM]; · iexact HM
  iintro ⟨H0, H1, H2, H3, H4, H5, H6, HA, HM⟩
  isplitl [HA HM HP]
  · isplitl [HA HM]
    · isplitl [HA]; · iexact HA
      iexact HM
    iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

/-- The body's obligation, at every grid point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 4000000 in
/-- THE RUN: it ends with the arrays the grid points leave, then the host operations after the region, and every
    semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

end Cert.KernelIdeal.Attn

end
-- ==== Proof.Frames.lean ====
/-
  The frames: every run of each program leaves its arguments as they were and its semaphores at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import Idealize.ShloMosaic.Lib.Claim

@[expose] public section

noncomputable section

namespace Cert.Proof

open Idealize.ShloMosaic Idealize.ShloMosaic.TcCoe Idealize.SL.Sem

/-- The kernel's frame, over any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  θ_run_and (Cert.KernelIdeal.Gen.frame_of m ρ (Cert.KernelIdeal.Attn.dats m) (Cert.KernelIdeal.Attn.A_eq m)
      ((θ_run Cert.KernelIdeal.defs _ _).mono (fun _ h => h.1) (Cert.KernelIdeal.Attn.run_main m ρ)))
    ((θ_run Cert.KernelIdeal.defs _ _).mono (fun _ h => h.2) (Cert.KernelIdeal.Attn.run_main m ρ))

/-- The idealized kernel's frame. -/
theorem frame_kernelIdeal : Cert.quiescent_KernelIdeal := fun m ρ _ => frame_any (F := Ideal) m ρ

section Same

variable {F : FTy → Type} [FloatOps F]

/-- The two programs print the same kernel function, so the same table of bodies. -/
theorem defs₀_same : @Cert.Kernel.defs₀ F _ _ = @Cert.KernelIdeal.defs₀ F _ _ :=
  congrArg Defs.onTc (funext fun l => funext fun a => match l, a with
    | 0, (_, _) => rfl)

/-- The same table with the pipeline's own labels. -/
theorem defs_same : @Cert.Kernel.defs F _ _ = @Cert.KernelIdeal.defs F _ _ :=
  congrArg (Pipeline.defs _) defs₀_same

set_option maxHeartbeats 8000000 in
/-- The two host functions print the same statements. -/
theorem part_same : @Cert.Kernel.main_part0 F _ _ = @Cert.KernelIdeal.main_part0 F _ _ := by
  funext d
  unfold Cert.Kernel.main_part0 Cert.KernelIdeal.main_part0
  rfl

/-- The two host functions are the same. -/
theorem main_same : @Cert.Kernel.main F _ _ = @Cert.KernelIdeal.main F _ _ := by
  funext d
  unfold Cert.Kernel.main Cert.KernelIdeal.main
  rw [part_same]
  rfl

end Same

/-- The kernel's frame: the two programs have the same text. -/
theorem frame_kernel : Cert.quiescent_Kernel := fun m ρ _ => by
  rw [defs_same, main_same]
  exact frame_any (F := Bits) m ρ

/-- The reference's frame: it is host code alone and has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.RealSums.lean ====
/-
  Facts on extended reals that are real: sums, maxima and powers of two of real numbers are real, sums over an index
  type and over a range, and the quotient of weighted sums of powers of two, which a shift of every exponent leaves.
-/
module

public import Idealize.ShloMosaic.Lib.Pointwise
public import Mathlib.Data.EReal.Inv
public import Mathlib.Analysis.SpecialFunctions.Pow.Real
public import Mathlib.Algebra.BigOperators.Intervals
public import Mathlib.Algebra.BigOperators.Field

@[expose] public section

noncomputable section

namespace Cert.Attn

open Idealize.ShloMosaic

/-- A finite sum of reals, summed as extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum over an index type of real terms given by a function of the index's number. -/
theorem sum_fin {n : ℕ} (f : Fin n → EReal) (g : ℕ → ℝ) (h : ∀ i : Fin n, f i = (g i.val : EReal)) :
    ∑ i, f i = ((∑ i ∈ Finset.range n, g i : ℝ) : EReal) := by
  rw [Finset.sum_congr rfl fun i _ => h i, coe_sum, Finset.sum_range]

/-- The largest of a nonempty family of reals, folded from minus infinity, is one of them. -/
theorem fold_max_real {ι : Type*} [Fintype ι] [Nonempty ι] (f : ι → EReal) (g : ι → ℝ) (h : ∀ i, f i = (g i : EReal)) :
    ∃ i, Finset.univ.fold max (⊥ : EReal) f = (g i : EReal) := by
  have e : Finset.univ.fold max (⊥ : EReal) f = Finset.univ.sup f := rfl
  obtain ⟨i, -, hi⟩ := Finset.exists_mem_eq_sup (Finset.univ : Finset ι) Finset.univ_nonempty f
  exact ⟨i, by rw [e, hi, h]⟩

/-- The word of minus infinity reads the least extended real. -/
theorem ofBits_negInf : Ideal.ofBits FTy.f32 4286578688#32 = (⊥ : EReal) := by
  simp [Ideal.ofBits, Ideal.ieee]

/-- Two to a real power, as the ideal operation reads it. -/
theorem exp2_real (r : ℝ) : FloatOps.exp2 (F := Ideal) (φ := .f32) ((r : ℝ) : EReal) = (((2 : ℝ) ^ r : ℝ) : EReal) := by
  show Ideal.exp2 _ = _
  rw [Ideal.exp2_coe]; rfl

/-- The ideal quotient of two reals, the second positive. -/
theorem div_real {x y : ℝ} (hy : 0 < y) : Ideal.div (x : EReal) (y : EReal) = ((x / y : ℝ) : EReal) := by
  unfold Ideal.div
  rw [if_neg (by exact_mod_cast hy.ne'), ← EReal.coe_inv, ← EReal.coe_mul, div_eq_mul_inv]

/-- Weighted sums of `2^(S k - B)`: the shift `B` cancels in the quotient by the unweighted sum. -/
theorem quot_shift (n : ℕ) (v S : ℕ → ℝ) (B : ℝ) :
    (∑ k ∈ Finset.range n, v k * (2 : ℝ) ^ (S k - B)) / (∑ k ∈ Finset.range n, (2 : ℝ) ^ (S k - B))
      = (∑ k ∈ Finset.range n, v k * (2 : ℝ) ^ S k) / (∑ k ∈ Finset.range n, (2 : ℝ) ^ S k) := by
  have h2 : (0 : ℝ) < 2 := by norm_num
  have e1 : (∑ k ∈ Finset.range n, v k * (2 : ℝ) ^ (S k - B)) = (∑ k ∈ Finset.range n, v k * (2 : ℝ) ^ S k) / 2 ^ B := by
    rw [Finset.sum_div]; exact Finset.sum_congr rfl fun k _ => by rw [Real.rpow_sub h2, mul_div_assoc]
  have e2 : (∑ k ∈ Finset.range n, (2 : ℝ) ^ (S k - B)) = (∑ k ∈ Finset.range n, (2 : ℝ) ^ S k) / 2 ^ B := by
    rw [Finset.sum_div]; exact Finset.sum_congr rfl fun k _ => by rw [Real.rpow_sub h2]
  rw [e1, e2, div_div_div_cancel_right₀ (Real.rpow_pos_of_pos h2 B).ne']

/-- A nonempty sum of powers of two is positive. -/
theorem sum_pow_pos (n : ℕ) (hn : 0 < n) (S : ℕ → ℝ) : 0 < ∑ k ∈ Finset.range n, (2 : ℝ) ^ S k :=
  Finset.sum_pos (fun k _ => Real.rpow_pos_of_pos (by norm_num) _) ⟨0, Finset.mem_range.mpr hn⟩

end Cert.Attn

end
-- ==== Proof.BlockValue.lean ====
/-
  One grid point's block over the reals. When the staged queries, keys and values are real numbers, both accumulators
  hold weighted sums of powers of two of the scores, each with its own shift, and the quotient the kernel takes of
  either is the softmax-weighted mean of the values, so which of the two the kernel chooses does not matter.
-/
module

public import proofs.«01_k».proof.Proof.OutBlock
public import proofs.«01_k».proof.Proof.RealSums

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.Attn

/-- A key row as staged: 64 coordinates, then a one, then zeros. -/
def keyE (KR : ℕ → ℕ → ℝ) (k d : ℕ) : ℝ := if d < 64 then KR k d else if d = 64 then 1 else 0

/-- The score of key `k` against a column of 80 query entries. -/
def scoreE (KE : ℕ → ℕ → ℝ) (Q : ℕ → ℝ) (k : ℕ) : ℝ := ∑ d ∈ Finset.range 80, KE k d * Q d

/-- The score of key `k` against a query of 64 coordinates. -/
def score (KR : ℕ → ℕ → ℝ) (Q : ℕ → ℝ) (k : ℕ) : ℝ := ∑ d ∈ Finset.range 64, KR k d * Q d

/-- A query column as staged: 64 coordinates, then `-B`, then zeros. -/
def queryE (Q : ℕ → ℝ) (B : ℝ) (d : ℕ) : ℝ := if d < 64 then Q d else if d = 64 then -B else 0

/-- The staged rows' score is the score of the coordinates, less the shift. -/
theorem scoreE_eq (KR : ℕ → ℕ → ℝ) (Q : ℕ → ℝ) (B : ℝ) (k : ℕ) : scoreE (keyE KR) (queryE Q B) k = score KR Q k - B := by
  unfold scoreE score
  rw [show (80 : ℕ) = 64 + 1 + 15 from rfl, Finset.sum_range_add, Finset.sum_range_add]
  have h1 : ∑ x ∈ Finset.range 64, keyE KR k x * queryE Q B x = ∑ d ∈ Finset.range 64, KR k d * Q d :=
    Finset.sum_congr rfl fun x hx => by
      have := Finset.mem_range.mp hx
      simp only [keyE, queryE, if_pos this]
  have h3 : ∑ x ∈ Finset.range 15, keyE KR k (64 + 1 + x) * queryE Q B (64 + 1 + x) = 0 :=
    Finset.sum_eq_zero fun x _ => by
      simp only [keyE]
      rw [if_neg (by omega), if_neg (by omega), zero_mul]
  rw [h1, h3]
  simp [keyE, queryE, sub_eq_add_neg]

/-- Row `r` of an accumulator over the first `n` keys at shift `B`. -/
def accR (VE : ℕ → ℕ → ℝ) (S : ℕ → ℝ) (B : ℝ) (n r : ℕ) : ℝ := ∑ k ∈ Finset.range n, VE k r * (2 : ℝ) ^ (S k - B)

/-- Another tile's keys add their own terms. -/
theorem accR_add (VE : ℕ → ℕ → ℝ) (S : ℕ → ℝ) (B : ℝ) (n m r : ℕ) :
    accR VE S B (n + m) r = accR VE S B n r + ∑ k ∈ Finset.range m, VE (n + k) r * (2 : ℝ) ^ (S (n + k) - B) :=
  Finset.sum_range_add _ _ _

/-- Moving the shift scales the accumulator. -/
theorem accR_shift (VE : ℕ → ℕ → ℝ) (S : ℕ → ℝ) (B B' : ℝ) (n r : ℕ) :
    accR VE S B' n r = (2 : ℝ) ^ (B - B') * accR VE S B n r := by
  unfold accR
  rw [Finset.mul_sum]
  refine Finset.sum_congr rfl fun k _ => ?_
  rw [show S k - B' = (B - B') + (S k - B) by ring, Real.rpow_add (by norm_num)]; ring

variable {KE VE : ℕ → ℕ → ℝ} {Q : ℕ → ℝ} {c : Fin 4096} {o : ℕ}
  {qs : FVec Ideal S80x4096 .bf16} {K : Vec Ideal S1x1x1x256x80 .bf16} {V : Vec Ideal S1x1x1x80x256 .bf16}

/-- A tile's scores are real. -/
theorem tile_score (hq : ∀ d : Fin 80, qs (ix2 d c) = (Q d.val : EReal))
    (hK : ∀ (k : Fin 256) (d : Fin 80), K (ix5 0 0 0 k d) = (KE (o + k.val) d.val : EReal)) (k : Fin 256) :
    (∑ d : Fin 80, K (ix5 0 0 0 k d) * qs (ix2 d c) : EReal) = (scoreE KE Q (o + k.val) : EReal) :=
  sum_fin _ (fun d => KE (o + k.val) d * Q d) fun d => by rw [hq, hK, ← EReal.coe_mul]

/-- One tile of the shifted accumulator. -/
theorem shiftStep_real (hq : ∀ d : Fin 80, qs (ix2 d c) = (Q d.val : EReal))
    (hK : ∀ (k : Fin 256) (d : Fin 80), K (ix5 0 0 0 k d) = (KE (o + k.val) d.val : EReal))
    (hV : ∀ (r : Fin 80) (k : Fin 256), V (ix5 0 0 0 r k) = (VE (o + k.val) r.val : EReal))
    (A : FVec Ideal S80x4096 .f32) (r : Fin 80) (hA : A (ix2 r c) = (accR VE (scoreE KE Q) 0 o r.val : EReal)) :
    shiftStep qs K V A (ix2 r c) = (accR VE (scoreE KE Q) 0 (o + 256) r.val : EReal) := by
  have e : shiftStep qs K V A (ix2 r c) = (A (ix2 r c) + ∑ x : Fin 256, V (ix5 0 0 0 r x)
      * FloatOps.exp2 (F := Ideal) (φ := .f32) (∑ d : Fin 80, K (ix5 0 0 0 x d) * qs (ix2 d c)) : EReal) := by
    unfold shiftStep
    pointwise [k0_pay2]
  rw [e, hA, accR_add, EReal.coe_add]
  refine congrArg _ (sum_fin _ (fun k => VE (o + k) r.val * (2 : ℝ) ^ (scoreE KE Q (o + k) - 0)) fun k => ?_)
  rw [tile_score hq hK, exp2_real, hV, EReal.coe_mul, sub_zero]

/-- The online state at column `c` over the first `n` keys: a real maximum, and the accumulator at that shift. -/
def OnlineAt (VE : ℕ → ℕ → ℝ) (S : ℕ → ℝ) (c : Fin 4096) (n : ℕ) (s : FVec Ideal S80x4096 .f32 × FVec Ideal S1x4096 .f32) : Prop :=
  ∃ M : ℝ, s.2 (ix2 0 c) = (M : EReal) ∧ ∀ r : Fin 80, s.1 (ix2 r c) = (accR VE S M n r.val : EReal)

/-- What an online step computes, at an index. -/
theorem onlineStep_apply (s : FVec Ideal S80x4096 .f32 × FVec Ideal S1x4096 .f32) :
    (onlineStep qs K V s).2 (ix2 0 c) = (max (s.2 (ix2 0 c)) (Finset.univ.fold max (⊥ : EReal)
        (fun x : Fin 256 => (∑ d : Fin 80, K (ix5 0 0 0 x d) * qs (ix2 d c) : EReal))) : EReal)
    ∧ ∀ r : Fin 80, (onlineStep qs K V s).1 (ix2 r c)
      = (FloatOps.exp2 (F := Ideal) (φ := .f32) (s.2 (ix2 0 c) - (onlineStep qs K V s).2 (ix2 0 c) : EReal) * s.1 (ix2 r c)
        + ∑ x : Fin 256, V (ix5 0 0 0 r x)
          * FloatOps.exp2 (F := Ideal) (φ := .f32) ((∑ d : Fin 80, K (ix5 0 0 0 x d) * qs (ix2 d c)) - (onlineStep qs K V s).2 (ix2 0 c) : EReal) : EReal) := by
  have h34 : ∀ k : Fin 256, k0_pay34 qs K (ix2 k c) = (∑ d : Fin 80, K (ix5 0 0 0 k d) * qs (ix2 d c) : EReal) := fun k => by
    pointwise [k0_pay34]
  have h35 : k0_pay35 qs K s.2 (ix2 0 c) = (onlineStep qs K V s).2 (ix2 0 c) := by
    unfold onlineStep
    pointwise [k0_pay37, k0_pay35]
  refine ⟨?_, fun r => ?_⟩
  · rw [← ofBits_negInf]
    unfold onlineStep
    pointwise [k0_pay37, k0_pay35, k0_pay34]
  · rw [← h35]
    simp only [← h34]
    unfold onlineStep
    pointwise [k0_pay36]

/-- One tile of the online pair, from a real maximum. -/
theorem onlineStep_real (hq : ∀ d : Fin 80, qs (ix2 d c) = (Q d.val : EReal))
    (hK : ∀ (k : Fin 256) (d : Fin 80), K (ix5 0 0 0 k d) = (KE (o + k.val) d.val : EReal))
    (hV : ∀ (r : Fin 80) (k : Fin 256), V (ix5 0 0 0 r k) = (VE (o + k.val) r.val : EReal))
    (s : FVec Ideal S80x4096 .f32 × FVec Ideal S1x4096 .f32) (hs : OnlineAt VE (scoreE KE Q) c o s) :
    OnlineAt VE (scoreE KE Q) c (o + 256) (onlineStep qs K V s) := by
  obtain ⟨M, hM, hA⟩ := hs
  obtain ⟨e2, e1⟩ := onlineStep_apply (qs := qs) (K := K) (V := V) (c := c) s
  obtain ⟨i, hM1⟩ := fold_max_real _ (fun k : Fin 256 => scoreE KE Q (o + k.val)) fun k => tile_score hq hK k
  generalize scoreE KE Q (o + i.val) = M1 at hM1
  have e2' : (onlineStep qs K V s).2 (ix2 0 c) = ((max M M1 : ℝ) : EReal) := by
    rw [e2, hM, hM1]; exact (EReal.coe_strictMono.monotone.map_max).symm
  refine ⟨max M M1, e2', fun r => ?_⟩
  rw [e1 r, e2', hM, hA r, accR_add, accR_shift VE _ M (max M M1), EReal.coe_add, EReal.coe_mul, ← EReal.coe_sub, exp2_real]
  refine congrArg _ (sum_fin _ (fun k => VE (o + k) r.val * (2 : ℝ) ^ (scoreE KE Q (o + k) - max M M1)) fun k => ?_)
  rw [tile_score hq hK, ← EReal.coe_sub, exp2_real, hV, EReal.coe_mul]

/-- The first tile of the online pair, from minus infinity and an empty accumulator. -/
theorem onlineStep_first (hq : ∀ d : Fin 80, qs (ix2 d c) = (Q d.val : EReal))
    (hK : ∀ (k : Fin 256) (d : Fin 80), K (ix5 0 0 0 k d) = (KE k.val d.val : EReal))
    (hV : ∀ (r : Fin 80) (k : Fin 256), V (ix5 0 0 0 r k) = (VE k.val r.val : EReal))
    (s : FVec Ideal S80x4096 .f32 × FVec Ideal S1x4096 .f32) (hs : s.2 (ix2 0 c) = (⊥ : EReal)) (hA : ∀ r : Fin 80, s.1 (ix2 r c) = (0 : EReal)) :
    OnlineAt VE (scoreE KE Q) c 256 (onlineStep qs K V s) := by
  have hK' : ∀ (k : Fin 256) (d : Fin 80), K (ix5 0 0 0 k d) = (KE (0 + k.val) d.val : EReal) := by simpa using hK
  obtain ⟨e2, e1⟩ := onlineStep_apply (qs := qs) (K := K) (V := V) (c := c) s
  obtain ⟨i, hM1⟩ := fold_max_real _ (fun k : Fin 256 => scoreE KE Q (0 + k.val)) fun k => tile_score hq hK' k
  generalize scoreE KE Q (0 + i.val) = M1 at hM1
  have e2' : (onlineStep qs K V s).2 (ix2 0 c) = (M1 : EReal) := by
    rw [e2, hs, hM1]; exact max_eq_right bot_le
  refine ⟨M1, e2', fun r => ?_⟩
  rw [e1 r, e2', hA r, mul_zero, zero_add]
  refine sum_fin _ (fun k => VE k r.val * (2 : ℝ) ^ (scoreE KE Q k - M1)) fun k => ?_
  rw [tile_score hq hK', ← EReal.coe_sub, exp2_real, hV, EReal.coe_mul, Nat.zero_add]

/-! ## All the tiles -/

theorem ktile_apply (X : S1x1x16x256x80.Idx → Elt Ideal .bf16) (n : Fin 16) (k : Fin 256) (d : Fin 80) :
    ktile X n.val (ix5 0 0 0 k d) = X (ix5 0 0 n k d) := by
  pointwise [ktile]
  exact congrArg (fun z => X (ix5 0 0 z k d)) (Fin.ext (Nat.mod_eq_of_lt n.isLt))

theorem vtile_apply (X : S1x1x16x80x256.Idx → Elt Ideal .bf16) (n : Fin 16) (r : Fin 80) (k : Fin 256) :
    vtile X n.val (ix5 0 0 0 r k) = X (ix5 0 0 n r k) := by
  pointwise [vtile]
  exact congrArg (fun z => X (ix5 0 0 z r k)) (Fin.ext (Nat.mod_eq_of_lt n.isLt))

variable {x4 : S1x1x1x256x80.Idx → Elt Ideal .bf16} {x5 : S1x1x1x80x256.Idx → Elt Ideal .bf16}
  {x6 : S1x1x16x256x80.Idx → Elt Ideal .bf16} {x7 : S1x1x16x80x256.Idx → Elt Ideal .bf16}

/-- The staged keys and values of a point are real: the context tile first, the sixteen latent tiles after it. -/
structure Staged (KE VE : ℕ → ℕ → ℝ) (x4 : S1x1x1x256x80.Idx → Elt Ideal .bf16) (x5 : S1x1x1x80x256.Idx → Elt Ideal .bf16)
    (x6 : S1x1x16x256x80.Idx → Elt Ideal .bf16) (x7 : S1x1x16x80x256.Idx → Elt Ideal .bf16) : Prop where
  ck : ∀ (k : Fin 256) (d : Fin 80), x4 (ix5 0 0 0 k d) = (KE k.val d.val : EReal)
  cv : ∀ (r : Fin 80) (k : Fin 256), x5 (ix5 0 0 0 r k) = (VE k.val r.val : EReal)
  lk : ∀ (n : Fin 16) (k : Fin 256) (d : Fin 80), x6 (ix5 0 0 n k d) = (KE (256 * (n.val + 1) + k.val) d.val : EReal)
  lv : ∀ (n : Fin 16) (r : Fin 80) (k : Fin 256), x7 (ix5 0 0 n r k) = (VE (256 * (n.val + 1) + k.val) r.val : EReal)

/-- The shifted accumulator after the first `n` latent tiles. -/
theorem shiftAcc_real (h : Staged KE VE x4 x5 x6 x7) (hq : ∀ d : Fin 80, qs (ix2 d c) = (Q d.val : EReal))
    (A : FVec Ideal S80x4096 .f32) (r : Fin 80) (hA : A (ix2 r c) = (accR VE (scoreE KE Q) 0 256 r.val : EReal)) :
    ∀ n ≤ 16, shiftAcc qs x6 x7 A n (ix2 r c) = (accR VE (scoreE KE Q) 0 (256 * (n + 1)) r.val : EReal)
  | 0, _ => hA
  | n + 1, hn => shiftStep_real hq (fun k d => (ktile_apply x6 ⟨n, hn⟩ k d).trans (h.lk ⟨n, hn⟩ k d))
      (fun r k => (vtile_apply x7 ⟨n, hn⟩ r k).trans (h.lv ⟨n, hn⟩ r k)) _ r (shiftAcc_real h hq A r hA n (Nat.le_of_succ_le hn))

/-- The online pair after the first `n` latent tiles. -/
theorem onlineAcc_real (h : Staged KE VE x4 x5 x6 x7) (hq : ∀ d : Fin 80, qs (ix2 d c) = (Q d.val : EReal))
    (s : FVec Ideal S80x4096 .f32 × FVec Ideal S1x4096 .f32) (hs : OnlineAt VE (scoreE KE Q) c 256 s) :
    ∀ n ≤ 16, OnlineAt VE (scoreE KE Q) c (256 * (n + 1)) (onlineAcc qs x6 x7 s n)
  | 0, _ => hs
  | n + 1, hn => onlineStep_real hq (fun k d => (ktile_apply x6 ⟨n, hn⟩ k d).trans (h.lk ⟨n, hn⟩ k d))
      (fun r k => (vtile_apply x7 ⟨n, hn⟩ r k).trans (h.lv ⟨n, hn⟩ r k)) _ (onlineAcc_real h hq s hs n (Nat.le_of_succ_le hn))

/-! ## The staged queries -/

variable {x3 : S1x4x64x1024.Idx → Elt Ideal .bf16} {x8 : S1x1x1x128.Idx → Elt Ideal .f32}

/-- The four heads' queries side by side: column `c` is query `c % 1024` of head `c / 1024` of the group. -/
theorem qcat_real (qR : ℕ → ℕ → ℕ → ℝ) (hx : ∀ (g : Fin 4) (d : Fin 64) (l : Fin 1024), x3 (ix4 0 g d l) = (qR g.val d.val l.val : EReal))
    (r : Fin 64) (c : Fin 4096) : qcat x3 (ix2 r c) = (qR (c.val / 1024) r.val (c.val % 1024) : EReal) := by
  have hc := c.isLt
  have key : ∀ (g : Fin 4) (l : Fin 1024), g.val = c.val / 1024 → l.val = c.val % 1024 →
      x3 (ix4 0 g r l) = (qR (c.val / 1024) r.val (c.val % 1024) : EReal) := fun g l hg hl => by rw [hx, hg, hl]
  pointwise [qcat, qrow, k0_pay96]
  split_ifs <;> refine key _ _ ?_ ?_ <;> simp <;> omega

theorem qp_real (hx : ∀ d : Fin 64, qcat x3 (ix2 d c) = (Q d.val : EReal)) (d : Fin 80) :
    k0_pay70 (qcat x3) (ix2 d c) = (queryE Q 0 d.val : EReal) := by
  have e : k0_pay70 (qcat x3) (ix2 d c) = (if h : d.val < 64 then qcat x3 (ix2 (⟨d.val, h⟩ : Fin 64) c) else (0 : EReal)) := by
    pointwise [k0_pay70]
  rw [e]
  unfold queryE
  split_ifs with h h'
  · exact hx ⟨d.val, h⟩
  · simp
  · simp

theorem qshift_real (hx : ∀ d : Fin 64, qcat x3 (ix2 d c) = (Q d.val : EReal)) (km : ℝ) (hk : x8 (ix4 0 0 0 0) = (km : EReal)) :
    ∃ B : ℝ, ∀ d : Fin 80, qshift x3 x8 (ix2 d c) = (queryE Q B d.val : EReal) := by
  refine ⟨Real.sqrt (∑ x ∈ Finset.range 64, Q x * Q x) * (km * (65 / 64)), fun d => ?_⟩
  have e : qshift x3 x8 (ix2 d c) = (if h : d.val < 64 then qcat x3 (ix2 (⟨d.val, h⟩ : Fin 64) c)
      else if _h : d.val - 64 < 1 then 0 - Ideal.sqrt (∑ x : Fin 64, qcat x3 (ix2 x c) * qcat x3 (ix2 x c)) * (x8 (ix4 0 0 0 0) * Ideal.ofBits FTy.f32 1065484288#32)
      else (0 : EReal) : EReal) := by
    unfold qshift qcat
    pointwise [k0_pay97]
  have hw : Ideal.ofBits FTy.f32 1065484288#32 = ((65 / 64 : ℝ) : EReal) := by
    simp [Ideal.ofBits, Ideal.ieee]
    rw [← EReal.coe_mul]
    norm_num
  have hsum : (∑ x : Fin 64, qcat x3 (ix2 x c) * qcat x3 (ix2 x c) : EReal) = ((∑ x ∈ Finset.range 64, Q x * Q x : ℝ) : EReal) :=
    sum_fin _ (fun x => Q x * Q x) fun x => by rw [hx, ← EReal.coe_mul]
  have hnn : ¬ (∑ x ∈ Finset.range 64, Q x * Q x : ℝ) < 0 := not_lt.mpr (Finset.sum_nonneg fun x _ => mul_self_nonneg _)
  rw [e, hsum, hk, hw, Ideal.sqrt_coe, if_neg hnn]
  unfold queryE
  by_cases h : d.val < 64
  · rw [dif_pos h, if_pos h]; exact hx ⟨d.val, h⟩
  · rw [dif_neg h, if_neg h]
    by_cases h' : d.val = 64
    · rw [dif_pos (by omega), if_pos h', ← EReal.coe_mul, ← EReal.coe_mul, EReal.coe_neg, zero_sub]
    · rw [dif_neg (by omega), if_neg h']; simp

/-! ## The quotient -/

/-- The softmax-weighted mean of the first `n` values with scores `S` in powers of two. -/
def mean2 (v S : ℕ → ℝ) (n : ℕ) : ℝ := (∑ k ∈ Finset.range n, v k * (2 : ℝ) ^ S k) / (∑ k ∈ Finset.range n, (2 : ℝ) ^ S k)

/-- A value column as staged: 64 coordinates, then a one, then zeros. -/
theorem quot_of_acc (VR : ℕ → ℕ → ℝ) (S : ℕ → ℝ) (B : ℝ) (A : FVec Ideal S80x4096 .f32)
    (hA : ∀ r : Fin 80, A (ix2 r c) = (accR (keyE VR) S B 4352 r.val : EReal)) (d : Fin 64) :
    k0_pay20 (F := Ideal) A (ix2 d c) = (mean2 (fun k => VR k d.val) S 4352 : EReal) := by
  have e : k0_pay20 (F := Ideal) A (ix2 d c) = (Ideal.div (A (ix2 (⟨d.val, by omega⟩ : Fin 80) c)) (A (ix2 (64 : Fin 80) c)) : EReal) := by
    pointwise [k0_pay20]
  have h64 : accR (keyE VR) S B 4352 (64 : Fin 80).val = ∑ k ∈ Finset.range 4352, (2 : ℝ) ^ (S k - B) := by
    unfold accR
    exact Finset.sum_congr rfl fun k _ => by simp [keyE]
  have hd : accR (keyE VR) S B 4352 d.val = ∑ k ∈ Finset.range 4352, VR k d.val * (2 : ℝ) ^ (S k - B) := by
    unfold accR
    exact Finset.sum_congr rfl fun k _ => by simp [keyE, d.isLt]
  rw [e, hA, hA, h64, hd, div_real (sum_pow_pos 4352 (by decide) fun k => S k - B), quot_shift]
  rfl

/-- The quotient a grid point writes: at coordinate `d` of column `c`, the softmax-weighted mean of the values. -/
theorem accOut_real (qR : ℕ → ℕ → ℕ → ℝ) (KR VR : ℕ → ℕ → ℝ) (km : ℝ) (h : Staged (keyE KR) (keyE VR) x4 x5 x6 x7)
    (hx : ∀ (g : Fin 4) (d : Fin 64) (l : Fin 1024), x3 (ix4 0 g d l) = (qR g.val d.val l.val : EReal))
    (hk : x8 (ix4 0 0 0 0) = (km : EReal)) (d : Fin 64) (c : Fin 4096) :
    k0_pay20 (F := Ideal) (accOut x3 x4 x5 x6 x7 x8) (ix2 d c)
      = (mean2 (fun k => VR k d.val) (score KR fun e => qR (c.val / 1024) e (c.val % 1024)) 4352 : EReal) := by
  have hQ : ∀ d : Fin 64, qcat x3 (ix2 d c) = ((fun e => qR (c.val / 1024) e (c.val % 1024)) d.val : EReal) := fun d => qcat_real qR hx d c
  obtain ⟨B, hB⟩ := qshift_real (Q := fun e => qR (c.val / 1024) e (c.val % 1024)) hQ km hk
  have hsc : ∀ B, scoreE (keyE KR) (queryE (fun e => qR (c.val / 1024) e (c.val % 1024)) B)
      = fun k => score KR (fun e => qR (c.val / 1024) e (c.val % 1024)) k - B := fun B => funext fun k => scoreE_eq KR _ B k
  have hS : ∀ r : Fin 80, shiftTot x3 x4 x5 x6 x7 x8 (ix2 r c)
      = (accR (keyE VR) (score KR fun e => qR (c.val / 1024) e (c.val % 1024)) B 4352 r.val : EReal) := fun r => by
    have h0 : k0_pay1 (k0_pay98 (F := Ideal)) (ix2 r c) = ((accR (keyE VR) (scoreE (keyE KR) (queryE (fun e => qR (c.val / 1024) e (c.val % 1024)) B)) 0 0 r.val : ℝ) : EReal) := by
      rw [show accR (keyE VR) (scoreE (keyE KR) (queryE (fun e => qR (c.val / 1024) e (c.val % 1024)) B)) 0 0 r.val = 0 from rfl, EReal.coe_zero]
      pointwise [k0_pay98, k0_pay1]
    have h1 := shiftStep_real (KE := keyE KR) (VE := keyE VR) (o := 0) hB (fun k d => by rw [Nat.zero_add]; exact h.ck k d)
      (fun r k => by rw [Nat.zero_add]; exact h.cv r k) _ r h0
    have h2 := shiftAcc_real h hB _ r h1 16 le_rfl
    refine h2.trans ?_
    rw [hsc]
    unfold accR
    simp only [sub_zero]
  have hO : OnlineAt (keyE VR) (score KR fun e => qR (c.val / 1024) e (c.val % 1024)) c 4352
      (onlineAcc (k0_pay70 (qcat x3)) x6 x7 (onlineStep (k0_pay70 (qcat x3)) x4 x5 (k0_pay71 (F := Ideal), k0_pay72 (F := Ideal))) 16) := by
    have hq := qp_real (Q := fun e => qR (c.val / 1024) e (c.val % 1024)) hQ
    have h1 := onlineStep_first (KE := keyE KR) (VE := keyE VR) hq h.ck h.cv (k0_pay71 (F := Ideal), k0_pay72 (F := Ideal))
      (by rw [← ofBits_negInf]; show k0_pay72 (F := Ideal) (ix2 0 c) = _; pointwise [k0_pay72])
      (fun r => by show k0_pay71 (F := Ideal) (ix2 r c) = _; pointwise [k0_pay71])
    have h2 := onlineAcc_real h hq _ h1 16 le_rfl
    rw [hsc] at h2
    simpa only [sub_zero] using h2
  unfold accOut
  split_ifs
  · exact quot_of_acc VR _ B _ hS d
  · obtain ⟨M, -, hM⟩ := hO
    exact quot_of_acc VR _ M _ hM d

end Cert.KernelIdeal.Attn

end
-- ==== Proof.HostReads.lean ====
/-
  What the host hands the kernel, over the reals: from real arguments the scaled queries, the keys and values with a
  one and zeros beneath them, and the bound of the keys' norms are real, each the arguments' element at a computed
  index.
-/
module

public import proofs.«01_k».proof.Proof.Run
public import proofs.«01_k».proof.Proof.BlockValue
public import Idealize.ShloMosaic.Lib.Pipeline.ValueKit
public import Idealize.ShloMosaic.Lib.StableHlo.RunRead

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.Attn

variable (m : (ℓ : Loc nD τ sig) → Buf (Elt Ideal) ℓ)

/-- The arguments are real: queries `q b l h d`, keys `k b l g d`, values `v b l g d`, and the context's keys and values. -/
structure RealArgs (c : Dev nD) (q k v kc vc : ℕ → ℕ → ℕ → ℕ → ℝ) : Prop where
  q : ∀ (b : Fin 8) (l : Fin 4096) (h : Fin 8) (d : Fin 64),
    (m (c, Proc.devRef .tc main_arg0) : S8x4096x8x64.Idx → EReal) (ix4 b l h d) = (q b.val l.val h.val d.val : EReal)
  k : ∀ (b : Fin 8) (l : Fin 4096) (g : Fin 2) (d : Fin 64),
    (m (c, Proc.devRef .tc main_arg1) : S8x4096x2x64.Idx → EReal) (ix4 b l g d) = (k b.val l.val g.val d.val : EReal)
  v : ∀ (b : Fin 8) (l : Fin 4096) (g : Fin 2) (d : Fin 64),
    (m (c, Proc.devRef .tc main_arg2) : S8x4096x2x64.Idx → EReal) (ix4 b l g d) = (v b.val l.val g.val d.val : EReal)
  kc : ∀ (b : Fin 8) (l : Fin 256) (g : Fin 2) (d : Fin 64),
    (m (c, Proc.devRef .tc main_arg3) : S8x256x2x64.Idx → EReal) (ix4 b l g d) = (kc b.val l.val g.val d.val : EReal)
  vc : ∀ (b : Fin 8) (l : Fin 256) (g : Fin 2) (d : Fin 64),
    (m (c, Proc.devRef .tc main_arg4) : S8x256x2x64.Idx → EReal) (ix4 b l g d) = (vc b.val l.val g.val d.val : EReal)

/-- The keys (or values) of batch `b` and group `g` in order: the 256 of the context, then the latent ones. -/
def rowsOf (kc k : ℕ → ℕ → ℕ → ℕ → ℝ) (b g n d : ℕ) : ℝ := if n < 256 then kc b n g d else k b (n - 256) g d

theorem rowsOf_lat (kc k : ℕ → ℕ → ℕ → ℕ → ℝ) (b g j n d : ℕ) : rowsOf kc k b g (256 * (j + 1) + n) d = k b (256 * j + n) g d := by
  unfold rowsOf
  rw [if_neg (by omega), show 256 * (j + 1) + n - 256 = 256 * j + n by omega]

variable {m} {c : Dev nD} {q k v kc vc : ℕ → ℕ → ℕ → ℕ → ℝ}

theorem V_eq (m : (ℓ : Loc nD τ sig) → Buf (Elt Ideal) ℓ) (c : Dev nD) (b : Ref sig .tc) :
    V m c b = StableHlo.after hostOps0 (fun b => m (c, b)) (Proc.devRef .tc b) := by
  unfold V V0; rw [List.flatten_cons, List.flatten_nil, List.append_nil]

/-- The scaled queries. -/
theorem queries_real (h : RealArgs m c q k v kc vc) (b : Fin 8) (hd : Fin 8) (d : Fin 64) (l : Fin 4096) :
    (V m c main_v5 : S8x8x64x4096.Idx → Elt Ideal .bf16) (ix4 b hd d l)
      = ((q b.val l.val hd.val d.val * (1 / 8 / Real.log 2) : ℝ) : EReal) := by
  have h2 : Ideal.ofBits FTy.f32 1073741824#32 = ((2 : ℝ) : EReal) := by
    simp [Ideal.ofBits, Ideal.ieee]
    rw [← EReal.coe_mul]; norm_num
  have h8 : Ideal.ofBits FTy.f32 1040187392#32 = ((1 / 8 : ℝ) : EReal) := by
    simp [Ideal.ofBits, Ideal.ieee]
    rw [← EReal.coe_mul]; norm_num
  rw [V_eq]; after_reads_simp; pointwise
  rw [h2, h8, Ideal.log_coe, if_neg (by norm_num), div_real (Real.log_pos (by norm_num)), EReal.coe_mul]
  exact congrArg (· * _) (h.q b l hd d)

theorem keyE_lt {KR : ℕ → ℕ → ℝ} {n d : ℕ} (h : d < 64) : keyE KR n d = KR n d := if_pos h
theorem keyE_one {KR : ℕ → ℕ → ℝ} {n d : ℕ} (h : ¬ d < 64) (h' : d - 64 < 1) : keyE KR n d = 1 := by
  unfold keyE; rw [if_neg h, if_pos (by omega)]
theorem keyE_zero {KR : ℕ → ℕ → ℝ} {n d : ℕ} (h : ¬ d < 64) (h' : ¬ d - 64 < 1) : keyE KR n d = 0 := by
  unfold keyE; rw [if_neg h, if_neg (by omega)]

/-- The context keys' tile. -/
theorem ckeys_real (h : RealArgs m c q k v kc vc) (b : Fin 8) (g : Fin 2) (n : Fin 256) (d : Fin 80) :
    (V m c main_v11 : S8x2x1x256x80.Idx → Elt Ideal .bf16) (ix5 b g 0 n d) = (keyE (rowsOf kc k b.val g.val) n.val d.val : EReal) := by
  rw [V_eq]; after_reads_simp; pointwise
  by_cases h1 : d.val < 64
  · rw [dif_pos h1]; after_reads_simp; pointwise
    refine (h.kc b n g (⟨d.val, h1⟩ : Fin 64)).trans ?_
    rw [keyE_lt h1, rowsOf, if_pos n.isLt]
  rw [dif_neg h1]
  by_cases h2 : d.val - 64 < 1
  · rw [dif_pos h2]; after_reads_simp; pointwise
    rw [keyE_one h1 h2]; simp
  · rw [dif_neg h2]; after_reads_simp; pointwise
    rw [keyE_zero h1 h2]; simp

/-- The latent keys' tiles. -/
theorem lkeys_real (h : RealArgs m c q k v kc vc) (b : Fin 8) (g : Fin 2) (j : Fin 16) (n : Fin 256) (d : Fin 80) :
    (V m c main_v23 : S8x2x16x256x80.Idx → Elt Ideal .bf16) (ix5 b g j n d)
      = (keyE (rowsOf kc k b.val g.val) (256 * (j.val + 1) + n.val) d.val : EReal) := by
  rw [V_eq]; after_reads_simp; pointwise
  by_cases h1 : d.val < 64
  · rw [dif_pos h1]; after_reads_simp; pointwise
    refine (h.k b (⟨j.val * 256 + n.val, by omega⟩ : Fin 4096) g (⟨d.val, h1⟩ : Fin 64)).trans ?_
    show ((k b.val (j.val * 256 + n.val) g.val d.val : ℝ) : EReal) = _
    rw [keyE_lt h1, rowsOf_lat, Nat.mul_comm]
  rw [dif_neg h1]
  by_cases h2 : d.val - 64 < 1
  · rw [dif_pos h2]; after_reads_simp; pointwise
    rw [keyE_one h1 h2]; simp
  · rw [dif_neg h2]; after_reads_simp; pointwise
    rw [keyE_zero h1 h2]; simp

/-- The context values' tile. -/
theorem cvals_real (h : RealArgs m c q k v kc vc) (b : Fin 8) (g : Fin 2) (n : Fin 256) (d : Fin 80) :
    (V m c main_v17 : S8x2x1x80x256.Idx → Elt Ideal .bf16) (ix5 b g 0 d n) = (keyE (rowsOf vc v b.val g.val) n.val d.val : EReal) := by
  rw [V_eq]; after_reads_simp; pointwise
  by_cases h1 : d.val < 64
  · rw [dif_pos h1]; after_reads_simp; pointwise
    refine (h.vc b n g (⟨d.val, h1⟩ : Fin 64)).trans ?_
    rw [keyE_lt h1, rowsOf, if_pos n.isLt]
  rw [dif_neg h1]
  by_cases h2 : d.val - 64 < 1
  · rw [dif_pos h2]; after_reads_simp; pointwise
    rw [keyE_one h1 h2]; simp
  · rw [dif_neg h2]; after_reads_simp; pointwise
    rw [keyE_zero h1 h2]; simp

/-- The latent values' tiles. -/
theorem lvals_real (h : RealArgs m c q k v kc vc) (b : Fin 8) (g : Fin 2) (j : Fin 16) (n : Fin 256) (d : Fin 80) :
    (V m c main_v29 : S8x2x16x80x256.Idx → Elt Ideal .bf16) (ix5 b g j d n)
      = (keyE (rowsOf vc v b.val g.val) (256 * (j.val + 1) + n.val) d.val : EReal) := by
  rw [V_eq]; after_reads_simp; pointwise
  by_cases h1 : d.val < 64
  · rw [dif_pos h1]; after_reads_simp; pointwise
    refine (h.v b (⟨j.val * 256 + n.val, by omega⟩ : Fin 4096) g (⟨d.val, h1⟩ : Fin 64)).trans ?_
    show ((v b.val (j.val * 256 + n.val) g.val d.val : ℝ) : EReal) = _
    rw [keyE_lt h1, rowsOf_lat, Nat.mul_comm]
  rw [dif_neg h1]
  by_cases h2 : d.val - 64 < 1
  · rw [dif_pos h2]; after_reads_simp; pointwise
    rw [keyE_one h1 h2]; simp
  · rw [dif_neg h2]; after_reads_simp; pointwise
    rw [keyE_zero h1 h2]; simp

/-- The bound of the keys' norms, of the two staged key arrays. -/
def kmaxOf (X : Vec Ideal S8x2x1x256x80 .bf16) (Y : Vec Ideal S8x2x16x256x80 .bf16) : FVec Ideal S8x2x1x128 .f32 :=
  broadcastInDim S8x2x1x128 ![0, 1, 2, 3] bcast_S8x2x1x1_S8x2x1x128_0_1_2_3
    (broadcastInDim S8x2x1x1 ![0, 1] bcast_S8x2_S8x2x1x1_0_1
      (Host.sqrt
        (maximumf
          (Host.reduce FloatOps.maximumf
            (Host.reduceAdd
              (mulf (extf FTy.f32 (extractStridedSlice S8x2x1x256x64 ![0, 0, 0, 0, 0] X slices_S8x2x1x256x80_S8x2x1x256x64_0_0_0_0_0) bitsLt_bf16_f32)
                (extf FTy.f32 (extractStridedSlice S8x2x1x256x64 ![0, 0, 0, 0, 0] X slices_S8x2x1x256x80_S8x2x1x256x64_0_0_0_0_0) bitsLt_bf16_f32))
              (constant S_ FTy.f32 0#32) reducesTo_S8x2x1x256x64_S8x2x1x256_d4 h_S_)
            (constant S_ FTy.f32 4286578688#32) reducesTo_S8x2x1x256_S8x2_d2_3 h_S_)
          (Host.reduce FloatOps.maximumf
            (Host.reduceAdd
              (mulf (extf FTy.f32 (extractStridedSlice S8x2x16x256x64 ![0, 0, 0, 0, 0] Y slices_S8x2x16x256x80_S8x2x16x256x64_0_0_0_0_0) bitsLt_bf16_f32)
                (extf FTy.f32 (extractStridedSlice S8x2x16x256x64 ![0, 0, 0, 0, 0] Y slices_S8x2x16x256x80_S8x2x16x256x64_0_0_0_0_0) bitsLt_bf16_f32))
              (constant S_ FTy.f32 0#32) reducesTo_S8x2x16x256x64_S8x2x16x256_d4 h_S_)
            (constant S_ FTy.f32 4286578688#32) reducesTo_S8x2x16x256_S8x2_d2_3 h_S_))))

theorem kmax_eq (c : Dev nD) : (V m c main_v43 : S8x2x1x128.Idx → Elt Ideal .f32) = kmaxOf (V m c main_v11) (V m c main_v23) := by
  rw [V_eq, V_eq, V_eq]; after_reads_simp; rfl

/-- The bound of real keys is a real number. -/
theorem kmaxOf_real (X : Vec Ideal S8x2x1x256x80 .bf16) (Y : Vec Ideal S8x2x16x256x80 .bf16) (KR : ℕ → ℕ → ℝ) (b : Fin 8) (g : Fin 2) (z : Fin 128)
    (hX : ∀ (n : Fin 256) (d : Fin 80), X (ix5 b g 0 n d) = (keyE KR n.val d.val : EReal))
    (hY : ∀ (j : Fin 16) (n : Fin 256) (d : Fin 80), Y (ix5 b g j n d) = (keyE KR (256 * (j.val + 1) + n.val) d.val : EReal)) :
    ∃ km : ℝ, kmaxOf X Y (ix4 b g 0 z) = (km : EReal) := by
  have e : kmaxOf X Y (ix4 b g 0 z) = (Ideal.sqrt (max
      (Finset.univ.fold max (⊥ : EReal) (fun x : Fin 1 × Fin 256 => ∑ e : Fin 64, X (ix5 b g 0 x.2 (⟨e.val, by omega⟩ : Fin 80)) * X (ix5 b g 0 x.2 (⟨e.val, by omega⟩ : Fin 80))))
      (Finset.univ.fold max (⊥ : EReal) (fun x : Fin 16 × Fin 256 => ∑ e : Fin 64, Y (ix5 b g x.1 x.2 (⟨e.val, by omega⟩ : Fin 80)) * Y (ix5 b g x.1 x.2 (⟨e.val, by omega⟩ : Fin 80))))) : EReal) := by
    rw [← ofBits_negInf]
    pointwise [kmaxOf]
  obtain ⟨i, hi⟩ := fold_max_real _ (fun x : Fin 1 × Fin 256 => ∑ e ∈ Finset.range 64, keyE (KR) x.2.val e * keyE (KR) x.2.val e)
    fun x => sum_fin (fun e : Fin 64 => X (ix5 b g 0 x.2 (⟨e.val, by omega⟩ : Fin 80)) * X (ix5 b g 0 x.2 (⟨e.val, by omega⟩ : Fin 80)))
      (fun e => keyE (KR) x.2.val e * keyE (KR) x.2.val e) fun e => by rw [hX, ← EReal.coe_mul]
  obtain ⟨j, hj⟩ := fold_max_real _ (fun x : Fin 16 × Fin 256 => ∑ e ∈ Finset.range 64, keyE (KR) (256 * (x.1.val + 1) + x.2.val) e * keyE (KR) (256 * (x.1.val + 1) + x.2.val) e)
    fun x => sum_fin (fun e : Fin 64 => Y (ix5 b g x.1 x.2 (⟨e.val, by omega⟩ : Fin 80)) * Y (ix5 b g x.1 x.2 (⟨e.val, by omega⟩ : Fin 80)))
      (fun e => keyE (KR) (256 * (x.1.val + 1) + x.2.val) e * keyE (KR) (256 * (x.1.val + 1) + x.2.val) e) fun e => by rw [hY, ← EReal.coe_mul]
  rw [e, hi, hj, ← EReal.coe_strictMono.monotone.map_max, Ideal.sqrt_coe,
    if_neg (not_lt.mpr (le_max_of_le_left (Finset.sum_nonneg fun x _ => mul_self_nonneg _)))]
  exact ⟨_, rfl⟩

/-- The bound is a real number. -/
theorem kmax_real (h : RealArgs m c q k v kc vc) (b : Fin 8) (g : Fin 2) (z : Fin 128) :
    ∃ km : ℝ, (V m c main_v43 : S8x2x1x128.Idx → Elt Ideal .f32) (ix4 b g 0 z) = (km : EReal) := by
  rw [kmax_eq]
  exact kmaxOf_real _ _ (rowsOf kc k b.val g.val) b g z (ckeys_real h b g) (lkeys_real h b g)

end Cert.KernelIdeal.Attn

end
-- ==== Proof.Finite.lean ====
/-
  The precondition: every element of the five arrays is a finite number, so each array is one of real numbers.
-/
module

public import proofs.«01_k».proof.Defs
public import proofs.«01_k».proof.Proof.HostReads
public import Idealize.ShloMosaic.Lib.ReduceAll

@[expose] public section

noncomputable section

namespace Cert.Attn

open Idealize.ShloMosaic Idealize.ShloMosaic.TcCoe Idealize.ShloMosaic.Tactic

/-- The precondition's shape relations. -/
theorem finite_facts : Cert.Pre_finite.Facts :=
  ⟨by decide, by decide, by decide, by decide, by decide, by decide, by decide⟩

/-- The bit pattern of the precondition's bound is +∞. -/
theorem ofBits_posInf : Ideal.ofBits FTy.f32 0x7F800000#32 = (⊤ : EReal) := by
  simp [Ideal.ofBits, Ideal.ieee]

/-- A value below +∞ in absolute value is a real number. -/
theorem real_of_abs_lt {x : EReal} (h : max x (-x) < ⊤) : x = (x.toReal : EReal) := by
  refine (EReal.coe_toReal ?_ ?_).symm
  · rintro rfl; simp at h
  · rintro rfl; simp at h

/-- One array's part of the precondition: the conjunction over all elements of `|x| < +∞`. -/
theorem real_of_all {s : Shape} (x : FVec Ideal s .f32) (hb : Cert.Pre_finite.S_.BroadcastsInDim s (![] : Fin 0 → Fin s.rank))
    {axes : List (Fin s.rank)} (hr : s.ReducesTo axes Cert.Pre_finite.S_) (h0 : 0 < Cert.Pre_finite.S_.numel) (j : Cert.Pre_finite.S_.Idx)
    (e : Host.reduce IntOp.andi (cmpf .olt (Host.absf x) (broadcastInDim s ![] hb (constant Cert.Pre_finite.S_ .f32 0x7F800000#32)))
      (constantI Cert.Pre_finite.S_ 1 1#1) hr h0 j = 1#1) (i : s.Idx) : (x i : EReal) = ((x i : EReal).toReal : EReal) := by
  have h := Host.reduce_andi_all _ _ _ _ j e i
  have h' : Ideal.cmp .olt (max (x i : EReal) (-(x i : EReal))) (Ideal.ofBits FTy.f32 0x7F800000#32) = 1#1 := h
  rw [ofBits_posInf] at h'
  refine real_of_abs_lt ?_
  by_contra hn
  simp [Ideal.cmp, hn] at h'

/-- Two bits whose conjunction is one are both one. -/
theorem both_of_andi {x y : BitVec 1} (h : IntOp.andi x y = 1#1) : x = 1#1 ∧ y = 1#1 := by
  revert x y; decide

/-- The precondition makes the five arrays real. -/
theorem all_real [Cert.Pre_finite.Facts] (x0 : FVec Ideal Cert.Pre_finite.S8x4096x8x64 .f32) (x1 x2 : FVec Ideal Cert.Pre_finite.S8x4096x2x64 .f32)
    (x3 x4 : FVec Ideal Cert.Pre_finite.S8x256x2x64 .f32) (h : Cert.Pre_finite.fn (F := Ideal) x0 x1 x2 x3 x4 = fun _ => 1#1) :
    (∀ i, (x0 i : EReal) = ((x0 i : EReal).toReal : EReal)) ∧ (∀ i, (x1 i : EReal) = ((x1 i : EReal).toReal : EReal))
      ∧ (∀ i, (x2 i : EReal) = ((x2 i : EReal).toReal : EReal)) ∧ (∀ i, (x3 i : EReal) = ((x3 i : EReal).toReal : EReal))
      ∧ (∀ i, (x4 i : EReal) = ((x4 i : EReal).toReal : EReal)) := by
  have e := congrFun h ix0
  unfold Cert.Pre_finite.fn Cert.Pre_finite.fn_part1 at e
  obtain ⟨e1, e2⟩ := both_of_andi e
  obtain ⟨a0, e1⟩ := both_of_andi e1
  obtain ⟨a1, a2⟩ := both_of_andi e1
  obtain ⟨a3, a4⟩ := both_of_andi e2
  exact ⟨real_of_all x0 _ _ _ _ a0, real_of_all x1 _ _ _ _ a1, real_of_all x2 _ _ _ _ a2, real_of_all x3 _ _ _ _ a3, real_of_all x4 _ _ _ _ a4⟩

/-- A real array read at natural coordinates (zero outside). -/
def natOf {n0 n1 n2 n3 : ℕ} (x : (⟨4, ![n0, n1, n2, n3]⟩ : Shape).Idx → EReal) (a b c d : ℕ) : ℝ :=
  if h : a < n0 ∧ b < n1 ∧ c < n2 ∧ d < n3 then (x (ix4 ⟨a, h.1⟩ ⟨b, h.2.1⟩ ⟨c, h.2.2.1⟩ ⟨d, h.2.2.2⟩)).toReal else 0

theorem natOf_at {n0 n1 n2 n3 : ℕ} (x : (⟨4, ![n0, n1, n2, n3]⟩ : Shape).Idx → EReal) (h : ∀ i, x i = ((x i).toReal : EReal))
    (a : Fin n0) (b : Fin n1) (c : Fin n2) (d : Fin n3) : x (ix4 a b c d) = (natOf x a.val b.val c.val d.val : EReal) := by
  unfold natOf
  rw [dif_pos ⟨a.isLt, b.isLt, c.isLt, d.isLt⟩]
  exact h _

/-- The kernel's arguments under the precondition. -/
theorem realArgs [Cert.Pre_finite.Facts]
    (m : (ℓ : Loc Cert.KernelIdeal.nD Cert.KernelIdeal.τ Cert.KernelIdeal.sig) → Buf (Elt Ideal) ℓ) (h : Cert.Pre_KernelIdeal_finite m)
    (c : Dev Cert.KernelIdeal.nD) : ∃ q k v kc vc : ℕ → ℕ → ℕ → ℕ → ℝ, Cert.KernelIdeal.Attn.RealArgs m c q k v kc vc := by
  obtain ⟨h0, h1, h2, h3, h4⟩ := all_real _ _ _ _ _ (h c)
  exact ⟨_, _, _, _, _, ⟨natOf_at _ h0, natOf_at _ h1, natOf_at _ h2, natOf_at _ h3, natOf_at _ h4⟩⟩

end Cert.Attn

end
-- ==== Proof.Value.lean ====
/-
  The kernel's result array over the reals: element `(b, t, w, s)` of the array the grid points write is the
  softmax-weighted mean of the values of batch `b` for head `w / 64`, query `256 t + s`, coordinate `w % 64`.
-/
module

public import proofs.«01_k».proof.Proof.HostReads

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.Attn

/-- The blocks each grid point reads and writes: point `t` is batch `t / 8`, group `t / 4 % 2`, query block `t % 4`. -/
theorem idx : ∀ t : Fin cfg0.N, win0_0.index t = ![t.val / 8, t.val / 4 % 2, 0, t.val % 4]
    ∧ win0_1.index t = ![t.val / 8, t.val / 4 % 2, 0, 0, 0] ∧ win0_2.index t = ![t.val / 8, t.val / 4 % 2, 0, 0, 0]
    ∧ win0_3.index t = ![t.val / 8, t.val / 4 % 2, 0, 0, 0] ∧ win0_4.index t = ![t.val / 8, t.val / 4 % 2, 0, 0, 0]
    ∧ win0_5.index t = ![t.val / 8, t.val / 4 % 2, 0, 0] ∧ win0_6.index t = ![t.val / 8, t.val % 4, t.val / 4 % 2, 0]
    ∧ t.val < 64 :=
  (by decide +kernel : ∀ t : Fin grid0.N, _)

theorem N64 (t : Fin cfg0.N) : t.val < 64 := (idx t).2.2.2.2.2.2.2

variable {m : (ℓ : Loc nD τ sig) → Buf (Elt Ideal) ℓ} {c : Dev nD} {q k v kc vc : ℕ → ℕ → ℕ → ℕ → ℝ}

/-- The batch of a grid point. -/
def pb (t : Fin cfg0.N) : Fin 8 := ⟨t.val / 8, by have := N64 t; omega⟩
/-- The key-value group of a grid point. -/
def pg (t : Fin cfg0.N) : Fin 2 := ⟨t.val / 4 % 2, by omega⟩

theorem iblk0 (t : Fin cfg0.N) (g : Fin 4) (d : Fin 64) (l : Fin 1024) :
    (iblk m c 0 t : S1x4x64x1024.Idx → Elt Ideal .bf16) (ix4 0 g d l)
      = (V m c main_v5 : S8x8x64x4096.Idx → Elt Ideal .bf16)
          (ix4 (pb t) (⟨4 * (t.val / 4 % 2) + g.val, by omega⟩ : Fin 8) d (⟨1024 * (t.val % 4) + l.val, by omega⟩ : Fin 4096)) := by
  unfold pb
  blk_ext [iblk, idx t]

theorem iblk1 (t : Fin cfg0.N) (n : Fin 256) (d : Fin 80) :
    (iblk m c 1 t : S1x1x1x256x80.Idx → Elt Ideal .bf16) (ix5 0 0 0 n d)
      = (V m c main_v11 : S8x2x1x256x80.Idx → Elt Ideal .bf16) (ix5 (pb t) (pg t) 0 n d) := by
  unfold pb pg
  blk_ext [iblk, idx t]

theorem iblk2 (t : Fin cfg0.N) (n : Fin 256) (d : Fin 80) :
    (iblk m c 2 t : S1x1x1x80x256.Idx → Elt Ideal .bf16) (ix5 0 0 0 d n)
      = (V m c main_v17 : S8x2x1x80x256.Idx → Elt Ideal .bf16) (ix5 (pb t) (pg t) 0 d n) := by
  unfold pb pg
  blk_ext [iblk, idx t]

theorem iblk3 (t : Fin cfg0.N) (j : Fin 16) (n : Fin 256) (d : Fin 80) :
    (iblk m c 3 t : S1x1x16x256x80.Idx → Elt Ideal .bf16) (ix5 0 0 j n d)
      = (V m c main_v23 : S8x2x16x256x80.Idx → Elt Ideal .bf16) (ix5 (pb t) (pg t) j n d) := by
  unfold pb pg
  blk_ext [iblk, idx t]

theorem iblk4 (t : Fin cfg0.N) (j : Fin 16) (n : Fin 256) (d : Fin 80) :
    (iblk m c 4 t : S1x1x16x80x256.Idx → Elt Ideal .bf16) (ix5 0 0 j d n)
      = (V m c main_v29 : S8x2x16x80x256.Idx → Elt Ideal .bf16) (ix5 (pb t) (pg t) j d n) := by
  unfold pb pg
  blk_ext [iblk, idx t]

theorem iblk5 (t : Fin cfg0.N) :
    (iblk m c 5 t : S1x1x1x128.Idx → Elt Ideal .f32) (ix4 0 0 0 0)
      = (V m c main_v43 : S8x2x1x128.Idx → Elt Ideal .f32) (ix4 (pb t) (pg t) 0 0) := by
  unfold pb pg
  blk_ext [iblk, idx t]

/-- Softmax attention with scores in powers of two: batch `b`, head `h`, query `l`, coordinate `d`. -/
def attn2 (q k v kc vc : ℕ → ℕ → ℕ → ℕ → ℝ) (b h l d : ℕ) : ℝ :=
  mean2 (fun n => rowsOf vc v b (h / 4) n d) (score (rowsOf kc k b (h / 4)) fun e => q b l h e * (1 / 8 / Real.log 2)) 4352

/-- The written block at an index is the accumulated quotient at its coordinate and column. -/
theorem outB_at (A : FVec Ideal S80x4096 .f32) (y1 : Fin 4) (y2 : Fin 256) (y3 : Fin 256) :
    outB A (ix4 0 y1 y2 y3) = k0_pay20 (F := Ideal) A
      (ix2 (⟨y2.val % 64, Nat.mod_lt _ (by decide)⟩ : Fin 64) (⟨1024 * (y2.val / 64) + 256 * y1.val + y3.val, by omega⟩ : Fin 4096)) :=
  rfl

/-- What a grid point writes. -/
theorem point_real (h : RealArgs m c q k v kc vc) (t : Fin cfg0.N) (y1 : Fin 4) (y2 : Fin 256) (y3 : Fin 256) :
    outBlock m c t (ix4 0 y1 y2 y3)
      = (attn2 q k v kc vc (t.val / 8) ((t.val / 4 % 2 * 256 + y2.val) / 64) (256 * (t.val % 4 * 4 + y1.val) + y3.val)
          ((t.val / 4 % 2 * 256 + y2.val) % 64) : EReal) := by
  obtain ⟨km, hkm⟩ := kmax_real h (pb t) (pg t) 0
  have hst : Staged (keyE (rowsOf kc k (t.val / 8) (t.val / 4 % 2))) (keyE (rowsOf vc v (t.val / 8) (t.val / 4 % 2)))
      (iblk m c 1 t) (iblk m c 2 t) (iblk m c 3 t) (iblk m c 4 t) :=
    ⟨fun n d => (iblk1 t n d).trans (ckeys_real h (pb t) (pg t) n d), fun d n => (iblk2 t n d).trans (cvals_real h (pb t) (pg t) n d),
      fun j n d => (iblk3 t j n d).trans (lkeys_real h (pb t) (pg t) j n d), fun j d n => (iblk4 t j n d).trans (lvals_real h (pb t) (pg t) j n d)⟩
  have e := accOut_real (fun g e l => q (t.val / 8) (1024 * (t.val % 4) + l) (4 * (t.val / 4 % 2) + g) e * (1 / 8 / Real.log 2))
    (rowsOf kc k (t.val / 8) (t.val / 4 % 2)) (rowsOf vc v (t.val / 8) (t.val / 4 % 2)) km hst
    (fun g d l => (iblk0 t g d l).trans (queries_real h _ _ _ _)) ((iblk5 t).trans hkm)
    (⟨y2.val % 64, Nat.mod_lt _ (by decide)⟩ : Fin 64) (⟨1024 * (y2.val / 64) + 256 * y1.val + y3.val, by omega⟩ : Fin 4096)
  refine (outB_at _ y1 y2 y3).trans (e.trans ?_)
  have h1 : (1024 * (y2.val / 64) + 256 * y1.val + y3.val) / 1024 = y2.val / 64 := by omega
  have h2 : (1024 * (y2.val / 64) + 256 * y1.val + y3.val) % 1024 = 256 * y1.val + y3.val := by omega
  have h3 : (t.val / 4 % 2 * 256 + y2.val) / 64 = 4 * (t.val / 4 % 2) + y2.val / 64 := by omega
  have h4 : (t.val / 4 % 2 * 256 + y2.val) % 64 = y2.val % 64 := by omega
  have h5 : 256 * (t.val % 4 * 4 + y1.val) + y3.val = 1024 * (t.val % 4) + (256 * y1.val + y3.val) := by omega
  have h6 : (4 * (t.val / 4 % 2) + y2.val / 64) / 4 = t.val / 4 % 2 := by omega
  unfold attn2
  rw [h3, h4, h5, h6]
  simp only [h1, h2]

/-- The array the grid points write. -/
theorem final (h : RealArgs m c q k v kc vc) :
    (dats m 0 c).arrAt 6 cfg0.N = fun i : S8x16x512x256.Idx =>
      ((attn2 q k v kc vc (i 0).val ((i 2).val / 64) (256 * (i 1).val + (i 3).val) ((i 2).val % 64) : ℝ) : EReal) := by
  refine (dats m 0 c).arrAt_eq_of_covers 6 _ (by decide +kernel) fun t hf y => ?_
  blk_simp
  show outBlock m c t _ = _
  idx_vars y
  obtain rfl : y0 = 0 := Subsingleton.elim _ _
  refine (point_real h t y1 y2 y3).trans ?_
  obtain ⟨-, -, -, -, -, -, e6, -⟩ := idx t
  rw [e6]
  show _ = ((attn2 q k v kc vc (t.val / 8) ((t.val / 4 % 2 * 256 + y2.val) / 64) (256 * (t.val % 4 * 4 + y1.val) + (0 * 256 + y3.val))
          ((t.val / 4 % 2 * 256 + y2.val) % 64) : ℝ) : EReal)
  rw [Nat.zero_mul, Nat.zero_add]

end Cert.KernelIdeal.Attn

end
-- ==== Proof.Result.lean ====
/-
  The kernel's result: every run ends with element `(b, l, w)` of the result equal to softmax attention of batch `b`,
  head `w / 64`, query `l`, coordinate `w % 64`.
-/
module

public import proofs.«01_k».proof.Proof.Value

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem
open Cert.Attn

variable {m : (ℓ : Loc nD τ sig) → Buf (Elt Ideal) ℓ} {c : Dev nD} {q k v kc vc : ℕ → ℕ → ℕ → ℕ → ℝ}

/-- Softmax attention as one array of the result's shape. -/
def attnArr (q k v kc vc : ℕ → ℕ → ℕ → ℕ → ℝ) : S8x4096x512.Idx → EReal :=
  fun i => ((attn2 q k v kc vc (i 0).val ((i 2).val / 64) (i 1).val ((i 2).val % 64) : ℝ) : EReal)

/-- The two host operations after the call put query block and query together. -/
theorem tail_real (h : RealArgs m c q k v kc vc) :
    (Pipeline.afterTail₀ cfgs (dats m) 0 (V0 m) [hostOps1] c main_v46 : S8x4096x512.Idx → EReal) = attnArr q k v kc vc := by
  funext i
  idx_vars i
  unfold Pipeline.afterTail₀
  have hw : Pipeline.withArrays spec0 c (V0 m c) (fun w => (dats m 0 c).arrAt w cfg0.N) (Proc.devRef .tc main_v44)
      = (dats m 0 c).arrAt 6 cfg0.N := Pipeline.withArrays_arr spec0 launch0.win.arr_inj c (V0 m c) _ 6
  rw [List.flatten_cons, List.flatten_nil, List.append_nil]
  after_reads_simp
  rw [show Pipeline.withArrays (cfgs 0).spec c (V0 m c) (fun w => (dats m 0 c).arrAt w (cfgs 0).N) (Proc.devRef .tc main_v44) = _ from hw,
    final h]
  pointwise [attnArr]
  rw [Nat.div_add_mod]

end Cert.KernelIdeal.Attn

end
-- ==== Proof.RefValue.lean ====
/-
  The reference over the reals: on real arrays, element `(b, l, w)` of its result is softmax attention of batch `b`, head
  `w / 64`, query `l`, coordinate `w % 64`, the weights written as powers of two.
-/
module

public import proofs.«01_k».proof.Proof.Result
public import proofs.«01_k».proof.Proof.Gen.ReferenceIdeal.Read
public import Idealize.ShloMosaic.Lib.Pipeline.ValueKit

@[expose] public section

set_option maxRecDepth 16384

noncomputable section

namespace Cert.Attn

open Cert.ReferenceIdeal Cert.ReferenceIdeal.Gen Cert.ReferenceIdeal.Read
open Idealize.ShloMosaic Idealize.ShloMosaic.TcCoe Idealize.ShloMosaic.Tactic
open Cert.KernelIdeal.Attn (rowsOf attn2 attnArr mean2 score)

variable {x0 : FVec Ideal S8x4096x8x64 .f32} {x1 x2 : FVec Ideal S8x4096x2x64 .f32} {x3 x4 : FVec Ideal S8x256x2x64 .f32}
variable {q k v kc vc : ℕ → ℕ → ℕ → ℕ → ℝ}

/-- Context rows and latent rows in one array. -/
theorem rows_real (h : ∀ b l g d, (x1 (ix4 b l g d) : EReal) = (k b.val l.val g.val d.val : EReal))
    (hc : ∀ b l g d, (x3 (ix4 b l g d) : EReal) = (kc b.val l.val g.val d.val : EReal)) (b : Fin 8) (n : Fin 4352) (g : Fin 2) (d : Fin 64) :
    (val_main_v0 (F := Ideal) x1 x3 (ix4 b n g d) : EReal) = (rowsOf kc k b.val g.val n.val d.val : EReal) := by
  pointwise [val_main_v0]
  by_cases hn : n.val < 256
  · rw [dif_pos hn, rowsOf, if_pos hn]; exact hc b ⟨n.val, hn⟩ g d
  · rw [dif_neg hn, rowsOf, if_neg hn]; exact h b ⟨n.val - 256, by omega⟩ g d

/-- The values' array is the keys' with the other arguments. -/
theorem vals_same : val_main_v1 (F := Ideal) x2 x4 = val_main_v0 (F := Ideal) x2 x4 := rfl

/-- The queries grouped by key-value head. -/
theorem grouped_at (b : Fin 8) (l : Fin 4096) (g : Fin 2) (r : Fin 4) (d : Fin 64) :
    val_main_v2 (F := Ideal) x0 (ix5 b l g r d) = x0 (ix4 b l (⟨4 * g.val + r.val, by omega⟩ : Fin 8) d) := by
  pointwise [val_main_v2]
  exact congrArg x0 (congrArg (fun h => ix4 b l h d) (Fin.ext (congrArg (· + r.val) (Nat.mul_comm g.val 4))))

/-- The one-eighth the scores are scaled by. -/
theorem ofBits_eighth : Ideal.ofBits FTy.f32 1040187392#32 = ((1 / 8 : ℝ) : EReal) := by
  simp [Ideal.ofBits, Ideal.ieee]
  rw [← EReal.coe_mul]; norm_num

/-- The score of a query against a row. -/
def refScore (q k kc : ℕ → ℕ → ℕ → ℕ → ℝ) (b g r l n : ℕ) : ℝ :=
  (∑ d ∈ Finset.range 64, rowsOf kc k b g n d * q b l (4 * g + r) d) * (1 / 8)

theorem score_real (hq : ∀ b l g d, (x0 (ix4 b l g d) : EReal) = (q b.val l.val g.val d.val : EReal))
    (hk : ∀ b l g d, (x1 (ix4 b l g d) : EReal) = (k b.val l.val g.val d.val : EReal))
    (hc : ∀ b l g d, (x3 (ix4 b l g d) : EReal) = (kc b.val l.val g.val d.val : EReal))
    (b : Fin 8) (g : Fin 2) (r : Fin 4) (l : Fin 4096) (n : Fin 4352) :
    (val_main_v6 (F := Ideal) x0 x1 x3 (ix5 b g r l n) : EReal) = (refScore q k kc b.val g.val r.val l.val n.val : EReal) := by
  rw [val_main_v6_apply, val_main_v4_apply, val_main_v3_apply, val_main_v5_apply, val_main_cst_apply]
  have e : ∑ d : Fin 64, (val_main_v0 (F := Ideal) x1 x3 (ix4 b n g d) : EReal) * (val_main_v2 (F := Ideal) x0 (ix5 b l g r d) : EReal)
      = ((∑ d ∈ Finset.range 64, rowsOf kc k b.val g.val n.val d * q b.val l.val (4 * g.val + r.val) d : ℝ) : EReal) :=
    sum_fin _ (fun d => rowsOf kc k b.val g.val n.val d * q b.val l.val (4 * g.val + r.val) d) fun d => by
      rw [rows_real hk hc, grouped_at, EReal.coe_mul]
      exact congrArg (_ * ·) (hq b l _ d)
  unfold refScore
  rw [EReal.coe_mul, ← ofBits_eighth, ← e]
  show (∑ d : Fin 64, (val_main_v0 (F := Ideal) x1 x3 _ : EReal) * (val_main_v2 (F := Ideal) x0 _ : EReal)) * _ = _
  refine congrArg (· * _) (Finset.sum_congr rfl fun d _ => congrArg₂ (fun i j => (val_main_v0 (F := Ideal) x1 x3 i : EReal) * (val_main_v2 (F := Ideal) x0 j : EReal)) ?_ ?_)
  · funext a; fin_cases a <;> rfl
  · funext a; fin_cases a <;> rfl

theorem max_real (S : Fin 4352 → ℝ) (b : Fin 8) (g : Fin 2) (r : Fin 4) (l : Fin 4096)
    (h : ∀ n, (val_main_v6 (F := Ideal) x0 x1 x3 (ix5 b g r l n) : EReal) = (S n : EReal)) :
    ∃ M : ℝ, (val_main_v9 (F := Ideal) x0 x1 x3 (ix4 b g r l) : EReal) = (M : EReal) := by
  rw [val_main_v9_apply, val_main_v8_apply, val_main_cst_1_apply]
  unfold val_main_v7
  pointwise
  rw [ofBits_negInf, show val_main_cst_0 (F := Ideal) (Shape.Idx.first h_S_) = (⊥ : EReal) from ofBits_negInf]
  obtain ⟨i, hi⟩ := fold_max_real (fun n : Fin 4352 => (val_main_v6 (F := Ideal) x0 x1 x3 (ix5 b g r l n) : EReal)) S h
  exact ⟨S i, (max_eq_right bot_le).trans hi⟩

theorem weight_real (S : ℕ → ℝ) (b : Fin 8) (g : Fin 2) (r : Fin 4) (l : Fin 4096)
    (h : ∀ n : Fin 4352, (val_main_v6 (F := Ideal) x0 x1 x3 (ix5 b g r l n) : EReal) = (S n.val : EReal)) :
    ∃ M : ℝ, ∀ n : Fin 4352, (val_main_v17 (F := Ideal) x0 x1 x3 (ix5 b g r l n) : EReal)
      = (Real.exp (S n.val - M) / ∑ k ∈ Finset.range 4352, Real.exp (S k - M) : ℝ) := by
  obtain ⟨M, hM⟩ := max_real (fun n => S n.val) b g r l h
  refine ⟨M, fun n => ?_⟩
  have e13 : ∀ n : Fin 4352, (val_main_v13 (F := Ideal) x0 x1 x3 (ix5 b g r l n) : EReal) = (Real.exp (S n.val - M) : EReal) := by
    intro n
    rw [val_main_v13_apply, val_main_v12_apply, val_main_v11_apply, val_main_v10_apply]
    rw [show idx_main_v10 (idx_main_v11 (ix5 b g r l n)) = ix4 b g r l by funext a; fin_cases a <;> rfl]
    show Ideal.exp ((val_main_v6 (F := Ideal) x0 x1 x3 (ix5 b g r l n) : EReal) - (val_main_v9 (F := Ideal) x0 x1 x3 (ix4 b g r l) : EReal)) = _
    rw [h, hM, ← EReal.coe_sub, Ideal.exp_coe]
  rw [val_main_v17_apply, val_main_v16_apply, val_main_v15_apply, val_main_v14_apply, val_main_cst_2_apply]
  have e14 : (∑ k : Fin 4352, (val_main_v13 (F := Ideal) x0 x1 x3 (idx_main_v14 (idx_main_v15 (idx_main_v16 (ix5 b g r l n))) k) : EReal))
      = ((∑ k ∈ Finset.range 4352, Real.exp (S k - M) : ℝ) : EReal) := sum_fin _ (fun k => Real.exp (S k - M)) fun k => by
    rw [show idx_main_v14 (idx_main_v15 (idx_main_v16 (ix5 b g r l n))) k = ix5 b g r l k by funext a; fin_cases a <;> rfl]
    exact e13 k
  show Ideal.div (val_main_v13 (F := Ideal) x0 x1 x3 (ix5 b g r l n) : EReal) (Ideal.ofBits FTy.f32 0#32 + (∑ k : Fin 4352, (val_main_v13 (F := Ideal) x0 x1 x3 (idx_main_v14 (idx_main_v15 (idx_main_v16 (ix5 b g r l n))) k) : EReal))) = _
  rw [e13, e14, show Ideal.ofBits FTy.f32 0#32 = (0 : EReal) by simp [Ideal.ofBits, Ideal.ieee], zero_add]
  exact div_real (Finset.sum_pos (fun k _ => Real.exp_pos _) ⟨0, by decide⟩)

/-- The softmax-weighted mean does not depend on the base of the powers nor on the shift. -/
theorem mean_exp (v : ℕ → ℝ) (S T : ℕ → ℝ) (M : ℝ) (n : ℕ) (hT : ∀ k, T k = S k / Real.log 2) :
    ∑ k ∈ Finset.range n, v k * (Real.exp (S k - M) / ∑ j ∈ Finset.range n, Real.exp (S j - M)) = mean2 v T n := by
  have h2 : Real.log 2 ≠ 0 := (Real.log_pos (by norm_num)).ne'
  have e : ∀ k, Real.exp (S k - M) = (2 : ℝ) ^ (T k - M / Real.log 2) := fun k => by
    rw [Real.rpow_def_of_pos (by norm_num), hT]; congr 1; field_simp
  simp only [e]
  unfold mean2
  rw [← quot_shift n v T (M / Real.log 2), Finset.sum_div]
  exact Finset.sum_congr rfl fun k _ => (mul_div_assoc _ _ _).symm

/-- The value element the second product reads. -/
theorem left_at (b : Fin 8) (l : Fin 4096) (g : Fin 2) (r : Fin 4) (d : Fin 64) (n : Fin 4352) :
    lidx_main_v18 (idx_main_v19 (ix5 b l g r d)) n = ix4 b n g d := by
  funext a; fin_cases a <;> rfl

/-- The weight the second product reads. -/
theorem right_at (b : Fin 8) (l : Fin 4096) (g : Fin 2) (r : Fin 4) (d : Fin 64) (n : Fin 4352) :
    ridx_main_v18 (idx_main_v19 (ix5 b l g r d)) n = ix5 b g r l n := by
  funext a; fin_cases a <;> rfl

/-- Head and coordinate of a result column. -/
theorem merged_at (y : FVec Ideal S8x4096x2x4x64 .f32) (b : Fin 8) (l : Fin 4096) (w : Fin 512) :
    shapeCast S8x4096x512 y shapeCasts_S8x4096x2x4x64_S8x4096x512 (ix3 b l w)
      = y (ix5 b l (⟨w.val / 256, by omega⟩ : Fin 2) (⟨w.val / 64 % 4, by omega⟩ : Fin 4) (⟨w.val % 64, by omega⟩ : Fin 64)) := by
  pointwise

theorem ref_real (hq : ∀ b l g d, (x0 (ix4 b l g d) : EReal) = (q b.val l.val g.val d.val : EReal))
    (hk : ∀ b l g d, (x1 (ix4 b l g d) : EReal) = (k b.val l.val g.val d.val : EReal))
    (hv : ∀ b l g d, (x2 (ix4 b l g d) : EReal) = (v b.val l.val g.val d.val : EReal))
    (hkc : ∀ b l g d, (x3 (ix4 b l g d) : EReal) = (kc b.val l.val g.val d.val : EReal))
    (hvc : ∀ b l g d, (x4 (ix4 b l g d) : EReal) = (vc b.val l.val g.val d.val : EReal)) :
    (val_main_v21 (F := Ideal) x0 x1 x2 x3 x4 : S8x4096x512.Idx → EReal) = attnArr q k v kc vc := by
  funext i
  idx_vars i
  rw [val_main_v21_apply, show val_main_v20 (F := Ideal) x0 x1 x2 x3 x4 (ix3 i0 i1 i2) = _ from merged_at _ i0 i1 i2, val_main_v19_apply, val_main_v18_apply]
  set g : Fin 2 := ⟨i2.val / 256, by omega⟩ with hg
  set r : Fin 4 := ⟨i2.val / 64 % 4, by omega⟩ with hr
  set d : Fin 64 := ⟨i2.val % 64, by omega⟩ with hd
  obtain ⟨M, hM⟩ := weight_real (refScore q k kc i0.val g.val r.val i1.val) i0 g r i1 fun n => score_real hq hk hkc i0 g r i1 n
  have e : ∑ n : Fin 4352, (val_main_v1 (F := Ideal) x2 x4 (ix4 i0 n g d) : EReal) * (val_main_v17 (F := Ideal) x0 x1 x3 (ix5 i0 g r i1 n) : EReal)
      = _ := sum_fin _ (fun n => rowsOf vc v i0.val g.val n d.val * (Real.exp (refScore q k kc i0.val g.val r.val i1.val n - M)
        / ∑ j ∈ Finset.range 4352, Real.exp (refScore q k kc i0.val g.val r.val i1.val j - M))) fun n => by
      rw [hM, vals_same, rows_real hv hvc, EReal.coe_mul]
  refine Eq.trans (b := ∑ n : Fin 4352, (val_main_v1 (F := Ideal) x2 x4 (ix4 i0 n g d) : EReal) * (val_main_v17 (F := Ideal) x0 x1 x3 (ix5 i0 g r i1 n) : EReal)) ?_ ?_
  · refine Finset.sum_congr rfl fun n _ => congrArg₂ (fun i j => (val_main_v1 (F := Ideal) x2 x4 i : EReal) * (val_main_v17 (F := Ideal) x0 x1 x3 j : EReal)) ?_ ?_
    · exact left_at i0 i1 g r d n
    · exact right_at i0 i1 g r d n
  · rw [e]
    refine congrArg _ ((mean_exp (fun n => rowsOf vc v i0.val g.val n d.val) (refScore q k kc i0.val g.val r.val i1.val)
      (score (rowsOf kc k i0.val g.val) fun e => q i0.val i1.val (4 * g.val + r.val) e * (1 / 8 / Real.log 2)) M 4352 fun n => ?_).trans ?_)
    · unfold score refScore
      rw [mul_div_assoc, Finset.sum_mul]
      exact Finset.sum_congr rfl fun e _ => (mul_assoc _ _ _).symm
    · show _ = attn2 q k v kc vc i0.val (i2.val / 64) i1.val (i2.val % 64)
      unfold attn2
      rw [show i2.val / 64 / 4 = g.val by rw [hg]; show _ = i2.val / 256; omega, show i2.val / 64 = 4 * g.val + r.val by
        rw [hg, hr]; show _ = 4 * (i2.val / 256) + i2.val / 64 % 4; omega]

end Cert.Attn

end
-- ==== Proof.Algebraic.lean ====
/-
  The value claim: over the reals the kernel and the reference end with the same result, softmax attention.
-/
module

public import proofs.«01_k».proof.Proof.Frames
public import proofs.«01_k».proof.Proof.Finite
public import proofs.«01_k».proof.Proof.RefValue

@[expose] public section

set_option maxRecDepth 16384

noncomputable section

namespace Cert.Proof

open Idealize.ShloMosaic Idealize.ShloMosaic.TcCoe Idealize.SL.Sem
open Cert.KernelIdeal.Attn (attnArr RealArgs)

/-- The reference's result on the kernel's real arguments. -/
theorem ref_result {m : (ℓ : Loc Cert.KernelIdeal.nD Cert.KernelIdeal.τ Cert.KernelIdeal.sig) → Buf (Elt Ideal) ℓ} {c : Dev Cert.KernelIdeal.nD}
    {q k v kc vc : ℕ → ℕ → ℕ → ℕ → ℝ} (h : RealArgs m c q k v kc vc) :
    (Cert.ReferenceIdeal.Read.val_main_v21 (F := Ideal) (m (c, Proc.devRef .tc Cert.KernelIdeal.main_arg0)) (m (c, Proc.devRef .tc Cert.KernelIdeal.main_arg1))
      (m (c, Proc.devRef .tc Cert.KernelIdeal.main_arg2)) (m (c, Proc.devRef .tc Cert.KernelIdeal.main_arg3))
      (m (c, Proc.devRef .tc Cert.KernelIdeal.main_arg4)) : Cert.ReferenceIdeal.S8x4096x512.Idx → EReal) = attnArr q k v kc vc :=
  Cert.Attn.ref_real h.q h.k h.v h.kc h.vc

/-- On finite arguments the kernel's attention is the reference's. -/
theorem algebraic [Cert.Pre_finite.Facts] : Cert.algebraic_KernelIdeal_ReferenceIdeal_pre_finite := by
  intro m g m' g' hpre hagree
  refine ⟨fun c => Pipeline.afterTail₀ Cert.KernelIdeal.cfgs (Cert.KernelIdeal.Attn.dats m) 0 (Cert.KernelIdeal.Gen.V0 m) [Cert.KernelIdeal.Gen.hostOps1] c Cert.KernelIdeal.main_v46, ?_, ?_⟩
  · exact (θ_run Cert.KernelIdeal.defs _ _).mono
      (fun r h c => ⟨(h.2.1 c).2 Cert.KernelIdeal.main_v46 (Pipeline.mem_restRefs_of _ (by decide) (by decide)), h.1.1 c⟩)
      (θ_run_and (frame_any (F := Ideal) m g) (Cert.KernelIdeal.Attn.run_main m g))
  · refine (θ_run Cert.ReferenceIdeal.defs _ _).mono (fun r h c => ⟨(h c).1.trans ?_, (h c).2⟩) (Cert.ReferenceIdeal.Value.run (F := Ideal) m' g')
    obtain ⟨q, k, v, kc, vc, hr⟩ := Cert.Attn.realArgs m hpre c
    obtain ⟨a0, a1, a2, a3, a4⟩ := hagree c
    refine (Cert.ReferenceIdeal.Read.val_main_v21_eq _ _ _ _ _).trans ?_
    rw [a0, a1, a2, a3, a4]
    exact (ref_result hr).trans (Cert.KernelIdeal.Attn.tail_real hr).symm

end Cert.Proof

end
-- ==== Proof.FfnPre.lean ====
/-
  The experts' preconditions, read element by element: the two experts of every tile are in range, at least one tile is in
  use, and, in the second, the two experts of a tile differ.
-/
module

public import proofs.«01_k».proof.Defs
public import proofs.«01_k».proof.Proof.Finite
public import Idealize.ShloMosaic.Lib.ReduceAll

@[expose] public section

noncomputable section

namespace Cert.Moe

open Idealize.ShloMosaic Idealize.ShloMosaic.TcCoe Idealize.ShloMosaic.Tactic

/-- The preconditions' shape relations. -/
theorem range_facts : Cert.Pre_in_range.Facts := ⟨by decide, by decide, by decide, by decide, by decide⟩
theorem routed_facts : Cert.Pre_routed.Facts := ⟨by decide, by decide, by decide, by decide, by decide⟩

theorem sge_word {x y : BitVec 32} (h : IntOp.cmpi .sge x y = 1#1) : y.toInt ≤ x.toInt := by
  by_contra hn
  have : IntOp.cmpi .sge x y = BitVec.ofBool (y.sle x) := rfl
  rw [this, BitVec.sle, decide_eq_false hn] at h
  exact absurd h (by decide)

theorem slt_word {x y : BitVec 32} (h : IntOp.cmpi .slt x y = 1#1) : x.toInt < y.toInt := by
  by_contra hn
  have : IntOp.cmpi .slt x y = BitVec.ofBool (x.slt y) := rfl
  rw [this, BitVec.slt, decide_eq_false hn] at h
  exact absurd h (by decide)

theorem ne_word {x y : BitVec 32} (h : IntOp.cmpi .ne x y = 1#1) : x ≠ y := by
  rintro rfl
  have : IntOp.cmpi .ne x x = BitVec.ofBool (x != x) := rfl
  rw [this, bne_self_eq_false] at h
  exact absurd h (by decide)

/-- The five inequalities the first precondition states. -/
theorem range_all [Cert.Pre_in_range.Facts] {F : FTy → Type} [FloatOps F] (x0 x1 : IVec Cert.Pre_in_range.S160 32) (x2 : IVec Cert.Pre_in_range.S1 32)
    (x3 : IVec Cert.Pre_in_range.S40960x640 32) (x4 x5 : FVec F Cert.Pre_in_range.S16x1024x512 .f32) (x6 : FVec F Cert.Pre_in_range.S16x512x1024 .f32)
    (h : Cert.Pre_in_range.fn (F := F) x0 x1 x2 x3 x4 x5 x6 = fun _ => 1#1) :
    (∀ i, 0 ≤ (x0 i).toInt ∧ (x0 i).toInt < 16) ∧ (∀ i, 0 ≤ (x1 i).toInt ∧ (x1 i).toInt < 16) ∧ (∀ i, 1 ≤ (x2 i).toInt) := by
  have e := congrFun h ix0
  unfold Cert.Pre_in_range.fn Cert.Pre_in_range.fn_part1 at e
  obtain ⟨e1, a4⟩ := Cert.Attn.both_of_andi e
  obtain ⟨e2, e3⟩ := Cert.Attn.both_of_andi e1
  obtain ⟨a0, a1⟩ := Cert.Attn.both_of_andi e2
  obtain ⟨a2, a3⟩ := Cert.Attn.both_of_andi e3
  exact ⟨fun i => ⟨sge_word (Host.reduce_andi_all _ _ _ _ _ a0 i), slt_word (Host.reduce_andi_all _ _ _ _ _ a1 i)⟩,
    fun i => ⟨sge_word (Host.reduce_andi_all _ _ _ _ _ a2 i), slt_word (Host.reduce_andi_all _ _ _ _ _ a3 i)⟩,
    fun i => sge_word (Host.reduce_andi_all _ _ _ _ _ a4 i)⟩

/-- The second precondition adds that the experts of a tile differ. -/
theorem routed_all [Cert.Pre_routed.Facts] {F : FTy → Type} [FloatOps F] (x0 x1 : IVec Cert.Pre_routed.S160 32) (x2 : IVec Cert.Pre_routed.S1 32)
    (x3 : IVec Cert.Pre_routed.S40960x640 32) (x4 x5 : FVec F Cert.Pre_routed.S16x1024x512 .f32) (x6 : FVec F Cert.Pre_routed.S16x512x1024 .f32)
    (h : Cert.Pre_routed.fn (F := F) x0 x1 x2 x3 x4 x5 x6 = fun _ => 1#1) :
    (∀ i, 0 ≤ (x0 i).toInt ∧ (x0 i).toInt < 16) ∧ (∀ i, 0 ≤ (x1 i).toInt ∧ (x1 i).toInt < 16) ∧ (∀ i, 1 ≤ (x2 i).toInt)
      ∧ (∀ i, x0 i ≠ x1 i) := by
  have e := congrFun h ix0
  unfold Cert.Pre_routed.fn Cert.Pre_routed.fn_part1 at e
  obtain ⟨e0, a5⟩ := Cert.Attn.both_of_andi e
  obtain ⟨e1, a4⟩ := Cert.Attn.both_of_andi e0
  obtain ⟨e2, e3⟩ := Cert.Attn.both_of_andi e1
  obtain ⟨a0, a1⟩ := Cert.Attn.both_of_andi e2
  obtain ⟨a2, a3⟩ := Cert.Attn.both_of_andi e3
  exact ⟨fun i => ⟨sge_word (Host.reduce_andi_all _ _ _ _ _ a0 i), slt_word (Host.reduce_andi_all _ _ _ _ _ a1 i)⟩,
    fun i => ⟨sge_word (Host.reduce_andi_all _ _ _ _ _ a2 i), slt_word (Host.reduce_andi_all _ _ _ _ _ a3 i)⟩,
    fun i => sge_word (Host.reduce_andi_all _ _ _ _ _ a4 i), fun i => ne_word (Host.reduce_andi_all _ _ _ _ _ a5 i)⟩

end Cert.Moe

end
-- ==== Proof.FfnBody.lean ====
/-
  The body of the experts' kernel at one grid point: it leaves its inputs as they are and writes one block of the output,
  the weighted sum of two experts on the tile's rows where the tile is in use, zeros where it is not.
-/
module

public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Exec
public import Idealize.ShloMosaic.Lib.Tactic
public import Idealize.ShloMosaic.Lib.VecWindow
public import Idealize.ShloMosaic.Lib.Pipeline.FrameSuffix

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The upper or lower half of an expert's gate or up matrix, as the body loads it: rows `o` to `o + 511`. -/
def half (X : S1x1024x512.Idx → Elt F .bf16) (o : ℕ) (h : ∀ a, (![0, o, 0] : Fin 3 → ℕ) a + S1x512x512.size a ≤ S1x1024x512.size a) :
    Vec F S1x512x512 .bf16 := View.ld X (Rect.unit (s := S1x1024x512) ![0, o, 0] S1x512x512.size h)

/-- The block written where the tile is in use, of the rows' words and the two experts' matrices. -/
def liveBlk (x4 : S256x640.Idx → Elt F .i32) (x5 x6 : S1x1024x512.Idx → Elt F .bf16) (x7 : S1x512x1024.Idx → Elt F .bf16)
    (x8 x9 : S1x1024x512.Idx → Elt F .bf16) (x10 : S1x512x1024.Idx → Elt F .bf16) : FVec F S256x1024 .bf16 :=
  k0_pay1 (k0_pay4 x4) (k0_pay5 x4) (k0_pay6 x4)
    (k0_pay7 x4 (half x5 0 inb_S1x1024x512_S1x512x512_0_0_0) (half x5 512 inb_S1x1024x512_S1x512x512_0_512_0)
      (half x6 0 inb_S1x1024x512_S1x512x512_0_0_0) (half x6 512 inb_S1x1024x512_S1x512x512_0_512_0) x7)
    (half x8 0 inb_S1x1024x512_S1x512x512_0_0_0) (half x8 512 inb_S1x1024x512_S1x512x512_0_512_0)
    (half x9 0 inb_S1x1024x512_S1x512x512_0_0_0) (half x9 512 inb_S1x1024x512_S1x512x512_0_512_0) x10

/-- The tile count's word. -/
def countOf (n : S1.Idx → Elt F .i32) : BitVec 32 := n fun a => ⟨0, by fin_cases a; decide⟩

/-- The block a grid point writes. -/
def outBlk (i : grid0.Coords) (n : S1.Idx → Elt F .i32) (x4 : S256x640.Idx → Elt F .i32) (x5 x6 : S1x1024x512.Idx → Elt F .bf16)
    (x7 : S1x512x1024.Idx → Elt F .bf16) (x8 x9 : S1x1024x512.Idx → Elt F .bf16) (x10 : S1x512x1024.Idx → Elt F .bf16) :
    S256x1024.Idx → Elt F .bf16 :=
  if k0_cond1 i (countOf n) = 1#1 then liveBlk x4 x5 x6 x7 x8 x9 x10 else k0_pay2 (F := F)

/-- Exactly one of the body's two conditions holds. -/
theorem cond2_iff (i : grid0.Coords) (v : BitVec 32) : k0_cond2 i v = 1#1 ↔ ¬ k0_cond1 i v = 1#1 := by
  unfold k0_cond1 k0_cond2
  simp only
  generalize (Scalar.cmpi .slt (BitVec.ofNat 32 (i 0).val) v : BitVec 1) = b
  revert b; decide

set_option maxHeartbeats 1000000 in
/-- THE BODY at a grid point. -/
theorem sound_kernel (c : Dev nD) (E : Set ℕ) (i : grid0.Coords) (q : PosShare TreeShare)
  (arg1 : Memref sig .tc .smem S160 .i32) (harg1 : arg1.IsWhole) (arg2 : Memref sig .tc .smem S160 .i32) (harg2 : arg2.IsWhole)
  (arg3 : Memref sig .tc .smem S1 .i32) (harg3 : arg3.IsWhole) (arg4 : Memref sig .tc .vmem S256x640 .i32) (harg4 : arg4.IsWhole)
  (arg5 : Memref sig .tc .vmem S1x1024x512 .bf16) (harg5 : arg5.IsWhole) (arg6 : Memref sig .tc .vmem S1x1024x512 .bf16) (harg6 : arg6.IsWhole)
  (arg7 : Memref sig .tc .vmem S1x512x1024 .bf16) (harg7 : arg7.IsWhole) (arg8 : Memref sig .tc .vmem S1x1024x512 .bf16) (harg8 : arg8.IsWhole)
  (arg9 : Memref sig .tc .vmem S1x1024x512 .bf16) (harg9 : arg9.IsWhole) (arg10 : Memref sig .tc .vmem S1x512x1024 .bf16) (harg10 : arg10.IsWhole)
  (arg11 : Memref sig .tc .vmem S256x1024 .bf16) (harg11 : arg11.IsWhole)
  (x3 : S1.Idx → Elt F .i32) (x4 : S256x640.Idx → Elt F .i32) (x5 x6 : S1x1024x512.Idx → Elt F .bf16) (x7 : S1x512x1024.Idx → Elt F .bf16)
  (x8 x9 : S1x1024x512.Idx → Elt F .bf16) (x10 : S1x512x1024.Idx → Elt F .bf16) (K : PUnit → sProp 𝕄) :
  iprop(owns (c : Thread nD τ) arg3 q x3 ∗ owns (c : Thread nD τ) arg4 fullShare x4 ∗ owns (c : Thread nD τ) arg5 fullShare x5
    ∗ owns (c : Thread nD τ) arg6 fullShare x6 ∗ owns (c : Thread nD τ) arg7 fullShare x7 ∗ owns (c : Thread nD τ) arg8 fullShare x8
    ∗ owns (c : Thread nD τ) arg9 fullShare x9 ∗ owns (c : Thread nD τ) arg10 fullShare x10
    ∗ (∃ x, owns (c : Thread nD τ) arg11 fullShare x)
    ∗ ((owns (c : Thread nD τ) arg3 q x3 ∗ owns (c : Thread nD τ) arg4 fullShare x4 ∗ owns (c : Thread nD τ) arg5 fullShare x5
      ∗ owns (c : Thread nD τ) arg6 fullShare x6 ∗ owns (c : Thread nD τ) arg7 fullShare x7 ∗ owns (c : Thread nD τ) arg8 fullShare x8
      ∗ owns (c : Thread nD τ) arg9 fullShare x9 ∗ owns (c : Thread nD τ) arg10 fullShare x10
      ∗ owns (c : Thread nD τ) arg11 fullShare (outBlk i x3 x4 x5 x6 x7 x8 x9 x10)) -∗ K ⟨⟩))
  ⊢ wp frame (wpE (defs₀ (F := F)) Variants.none (c : Thread nD τ) none) E
      (cc0_moe_experts (F := F) i arg1 harg1 arg2 harg2 arg3 harg3 arg4 harg4 arg5 harg5 arg6 harg6 arg7 harg7 arg8 harg8 arg9 harg9 arg10 harg10 arg11 harg11) K := by
  simp only [cc0_moe_experts_eq_skeleton]
  unfold cc0_moe_experts_skel
  simp only [k0_part1_eq_skeleton]
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%x11, %f11, %e11, H11⟩, Hk⟩
  subst e3 e4 e5 e6 e7 e8 e9 e10
  sl_exec
  sl_step
  iapply Hk
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  iexists _; isplitr; swap; · iexact H11
  ipureintro
  have hn : sound_kernel.sl.r c arg3 f3 = countOf (arg3.view.read (Elt F) f3) := by
    unfold sound_kernel.sl.r countOf
    exact congrArg (arg3.view.read (Elt F) f3) (funext fun a => Fin.ext (by fin_cases a; rfl))
  rw [hn]
  unfold outBlk
  by_cases h1 : k0_cond1 i (countOf (arg3.view.read (Elt F) f3)) = 1#1
  · have h2 : ¬ k0_cond2 i (countOf (arg3.view.read (Elt F) f3)) = 1#1 := fun h => (cond2_iff _ _).1 h h1
    rw [dif_neg h2, dif_pos h1, if_pos h1, View.read_writes_full]
    unfold sound_kernel.sl.r_1 sound_kernel.sl.r_2 sound_kernel.sl.r_3 sound_kernel.sl.r_4
    unfold liveBlk
    rw [show View.readAt (Elt F) arg4.view (Rect.unit (s := S256x640) ![0, 0] S256x640.size inb_S256x640_S256x640_0_0).toLoadRect f4 = arg4.view.read (Elt F) f4 from View.readAt_full _ _ _,
      show View.readAt (Elt F) arg7.view (Rect.unit (s := S1x512x1024) ![0, 0, 0] S1x512x1024.size inb_S1x512x1024_S1x512x1024_0_0_0).toLoadRect f7 = arg7.view.read (Elt F) f7 from View.readAt_full _ _ _,
      show View.readAt (Elt F) arg10.view (Rect.unit (s := S1x512x1024) ![0, 0, 0] S1x512x1024.size inb_S1x512x1024_S1x512x1024_0_0_0).toLoadRect f10 = arg10.view.read (Elt F) f10 from View.readAt_full _ _ _,
      show View.readAt (Elt F) arg5.view (Rect.unit (s := S1x1024x512) ![0, 0, 0] S1x512x512.size inb_S1x1024x512_S1x512x512_0_0_0).toLoadRect f5 = half (arg5.view.read (Elt F) f5) 0 inb_S1x1024x512_S1x512x512_0_0_0 from rfl,
      show View.readAt (Elt F) arg5.view (Rect.unit (s := S1x1024x512) ![0, 512, 0] S1x512x512.size inb_S1x1024x512_S1x512x512_0_512_0).toLoadRect f5 = half (arg5.view.read (Elt F) f5) 512 inb_S1x1024x512_S1x512x512_0_512_0 from rfl,
      show View.readAt (Elt F) arg6.view (Rect.unit (s := S1x1024x512) ![0, 0, 0] S1x512x512.size inb_S1x1024x512_S1x512x512_0_0_0).toLoadRect f6 = half (arg6.view.read (Elt F) f6) 0 inb_S1x1024x512_S1x512x512_0_0_0 from rfl,
      show View.readAt (Elt F) arg6.view (Rect.unit (s := S1x1024x512) ![0, 512, 0] S1x512x512.size inb_S1x1024x512_S1x512x512_0_512_0).toLoadRect f6 = half (arg6.view.read (Elt F) f6) 512 inb_S1x1024x512_S1x512x512_0_512_0 from rfl,
      show View.readAt (Elt F) arg8.view (Rect.unit (s := S1x1024x512) ![0, 0, 0] S1x512x512.size inb_S1x1024x512_S1x512x512_0_0_0).toLoadRect f8 = half (arg8.view.read (Elt F) f8) 0 inb_S1x1024x512_S1x512x512_0_0_0 from rfl,
      show View.readAt (Elt F) arg8.view (Rect.unit (s := S1x1024x512) ![0, 512, 0] S1x512x512.size inb_S1x1024x512_S1x512x512_0_512_0).toLoadRect f8 = half (arg8.view.read (Elt F) f8) 512 inb_S1x1024x512_S1x512x512_0_512_0 from rfl,
      show View.readAt (Elt F) arg9.view (Rect.unit (s := S1x1024x512) ![0, 0, 0] S1x512x512.size inb_S1x1024x512_S1x512x512_0_0_0).toLoadRect f9 = half (arg9.view.read (Elt F) f9) 0 inb_S1x1024x512_S1x512x512_0_0_0 from rfl,
      show View.readAt (Elt F) arg9.view (Rect.unit (s := S1x1024x512) ![0, 512, 0] S1x512x512.size inb_S1x1024x512_S1x512x512_0_512_0).toLoadRect f9 = half (arg9.view.read (Elt F) f9) 512 inb_S1x1024x512_S1x512x512_0_512_0 from rfl]
  · have h2 : k0_cond2 i (countOf (arg3.view.read (Elt F) f3)) = 1#1 := (cond2_iff _ _).2 h1
    rw [dif_pos h2, if_neg h1, View.read_writes_full]

end Cert.ExpertsIdeal.Ffn

end
-- ==== Proof.FfnTables.lean ====
/-
  The tables the experts' call prefetches: the two experts of each tile, looked up by the host at the tile the grid point
  fetches (the point's own where it is in use, else the last one in use), and the tile count.
-/
module

public import proofs.«01_k».proof.Proof.FfnBody
public import Idealize.ShloMosaic.Lib.Tactic
public import Idealize.ShloMosaic.Lib.StableHlo.RunRead
public import Idealize.ShloMosaic.Lib.StableHlo.Predicate

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic

variable {F : FTy → Type} [FloatOps F]
variable (m : (ℓ : Loc nD τ sig) → Buf (Elt F) ℓ)

/-- Every buffer after the host operations before the call. -/
def V0 (c : Dev nD) : Valuation τ sig (Elt F) := StableHlo.after ([hostOps0 (F := F)].flatten) (fun b => m (c, b))

/-- A TensorCore buffer after them. -/
def V (c : Dev nD) (b : Ref sig .tc) : b.ty.Contents (Elt F) := V0 m c (Proc.devRef .tc b)

theorem V_eq (c : Dev nD) (b : Ref sig .tc) :
    V m c b = StableHlo.after hostOps0 (fun b => m (c, b)) (Proc.devRef .tc b) := by
  unfold V V0; rw [List.flatten_cons, List.flatten_nil, List.append_nil]

/-- The tile a grid point fetches, of the tile count `n`. -/
def fetchWord (n : BitVec 32) (j : ℕ) : BitVec 32 := Scalar.minsi (BitVec.ofNat 32 j) (Scalar.subi n 1#32)

theorem fetchWord_eq {n : BitVec 32} (hn : 1 ≤ n.toInt) {j : ℕ} (hj : j < 160) : fetchWord n j = BitVec.ofNat 32 (min j (n.toNat - 1)) := by
  have hlt : n.toNat < 2147483648 := by
    by_contra h
    have := BitVec.toInt_eq_toNat_cond n
    have := n.isLt
    rw [if_neg (by omega)] at *
    omega
  have h1 : 1 ≤ n.toNat := by
    rw [BitVec.toInt_eq_toNat_of_lt (by omega)] at hn; omega
  have hs : n - 1#32 = BitVec.ofNat 32 (n.toNat - 1) := by
    apply BitVec.eq_of_toNat_eq
    simp only [BitVec.toNat_sub, BitVec.toNat_ofNat]
    omega
  unfold fetchWord Scalar.minsi Scalar.subi
  simp only [IntOp.minsi, IntOp.subi, hs]
  have e1 : (BitVec.ofNat 32 j).toInt = j := by
    rw [BitVec.toInt_eq_toNat_of_lt (by simp only [BitVec.toNat_ofNat]; omega)]; simp only [BitVec.toNat_ofNat]; omega
  have e2 : (BitVec.ofNat 32 (n.toNat - 1)).toInt = (n.toNat - 1 : ℕ) := by
    rw [BitVec.toInt_eq_toNat_of_lt (by simp only [BitVec.toNat_ofNat]; omega)]; simp only [BitVec.toNat_ofNat]; omega
  by_cases h : j < n.toNat - 1
  · rw [min_eq_left h.le, if_pos (by rw [BitVec.slt, e1, e2]; exact decide_eq_true (by exact_mod_cast h))]
  · rw [min_eq_right (by omega), if_neg (by rw [BitVec.slt, e1, e2]; simpa using h)]

/-- The tile each grid point fetches, as the host computes it. -/
abbrev fetchTable (y : S1.Idx → BitVec 32) : S160.Idx → BitVec 32 :=
  minsi (iotaInDim S160 32 0)
    (broadcastInDim S160 ![] bcast_S_S160 (subi (fun i => shapeCast main_v4.ty.shape y shapeCasts_S1_S_ i) (constantI S_ 32 1#32)))

theorem fetchTable_at (y : S1.Idx → BitVec 32) (j : Fin 160) :
    fetchTable y (Shape.Idx.ofFin j) = fetchWord (countOf (F := F) y) j.val := by
  have e : shapeCast main_v4.ty.shape y shapeCasts_S1_S_ = fun _ => countOf (F := F) y := by
    funext i
    unfold shapeCast countOf
    exact congrArg y (funext fun a => by
      have : a = 0 := Subsingleton.elim _ _
      subst this
      exact Subsingleton.elim (α := Fin 1) _ _)
  unfold fetchTable
  simp only [e]
  rfl

/-- A table after the host's look-up, at a grid point. -/
theorem gathered (x z : S160.Idx → BitVec 32) (n : BitVec 32) (hn : 1 ≤ n.toInt) (j : Fin 160)
    (hz : z (Shape.Idx.ofFin j) = fetchWord n j.val) :
    Host.gather gather_S160_S160x1_S160_n_0_n_n_0_1_1 x
      (broadcastInDim S160x1 ![0] bcast_S160_S160x1_0
        (select (cmpi CmpIPredicate.slt z (broadcastInDim S160 ![] bcast_S_S160 (constantI S_ 32 0#32)))
          (addi z (broadcastInDim S160 ![] bcast_S_S160 (constantI S_ 32 160#32))) z))
      (Shape.Idx.ofFin j) = x (Shape.Idx.ofFin ⟨min j.val (n.toNat - 1), by omega⟩) := by
  refine (StableHlo.Predicate.gather_take _ rfl rfl rfl rfl x _ j (by decide)).trans ?_
  congr 2
  apply Fin.ext
  have e : broadcastInDim S160x1 ![0] bcast_S160_S160x1_0
        (select (cmpi CmpIPredicate.slt z (broadcastInDim S160 ![] bcast_S_S160 (constantI S_ 32 0#32)))
          (addi z (broadcastInDim S160 ![] bcast_S_S160 (constantI S_ 32 160#32))) z) (StableHlo.Predicate.ixP j)
      = Scalar.select (Scalar.cmpi .slt (z (Shape.Idx.ofFin j)) 0#32) (Scalar.addi (z (Shape.Idx.ofFin j)) 160#32) (z (Shape.Idx.ofFin j)) := by
    refine congrArg (fun i => Scalar.select (Scalar.cmpi .slt (z i) 0#32) (Scalar.addi (z i) 160#32) (z i)) ?_
    funext a
    have : a = 0 := Subsingleton.elim _ _
    subst this
    rfl
  dsimp only
  rw [e, hz, fetchWord_eq hn j.isLt]
  have hk : min j.val (n.toNat - 1) < 160 := by omega
  generalize min j.val (n.toNat - 1) = k at hk
  have e1 : (BitVec.ofNat 32 k).toInt = k := by
    rw [BitVec.toInt_eq_toNat_of_lt (by simp only [BitVec.toNat_ofNat]; omega)]; simp only [BitVec.toNat_ofNat]; omega
  have e2 : (BitVec.ofNat 32 k).slt 0#32 = false := by
    rw [BitVec.slt, e1]; simp
  have e3 : Scalar.cmpi .slt (BitVec.ofNat 32 k) 0#32 = 0#1 := by
    show BitVec.ofBool ((BitVec.ofNat 32 k).slt 0#32) = 0#1
    rw [e2]; rfl
  rw [e3]
  show min (BitVec.ofNat 32 k).toInt.toNat 159 = k
  rw [e1]; omega

/-- The tile count's word. -/
abbrev count (c : Dev nD) : BitVec 32 := countOf (F := F) (m (c, Proc.devRef .tc main_arg2))

/-- The tile a grid point fetches. -/
def tileOf (n : BitVec 32) (j : Fin 160) : Fin 160 := ⟨min j.val (n.toNat - 1), by omega⟩

/-- The first experts' table as the call finds it. -/
theorem V_first (c : Dev nD) (hn : 1 ≤ (count m c).toInt) (j : Fin 160) :
    V m c main_v14 (Shape.Idx.ofFin j) = (m (c, Proc.devRef .tc main_arg0) : S160.Idx → BitVec 32) (Shape.Idx.ofFin (tileOf (count m c) j)) := by
  rw [V_eq]; after_reads_simp
  exact gathered _ _ _ hn j (fetchTable_at (F := F) _ j)

/-- The second experts' table as the call finds it. -/
theorem V_second (c : Dev nD) (hn : 1 ≤ (count m c).toInt) (j : Fin 160) :
    V m c main_v21 (Shape.Idx.ofFin j) = (m (c, Proc.devRef .tc main_arg1) : S160.Idx → BitVec 32) (Shape.Idx.ofFin (tileOf (count m c) j)) := by
  rw [V_eq]; after_reads_simp
  exact gathered _ _ _ hn j (fetchTable_at (F := F) _ j)

/-- The tile count and the rows are as launched. -/
theorem V_count (c : Dev nD) : V m c main_arg2 = m (c, Proc.devRef .tc main_arg2) := by
  rw [V_eq]; after_reads_simp
theorem V_rows (c : Dev nD) : V m c main_arg3 = m (c, Proc.devRef .tc main_arg3) := by
  rw [V_eq]; after_reads_simp

/-- The tables' contents at the call. -/
def tab : pre0.Contents (Elt F) := fun k => V m 0 (pre0.ref k)

/-- What the precondition says of the tables: two of the sixteen experts at every tile, and at least one tile. -/
structure Routed (ea eb : S160.Idx → BitVec 32) (n : BitVec 32) : Prop where
  first : ∀ i, 0 ≤ (ea i).toInt ∧ (ea i).toInt < 16
  second : ∀ i, 0 ≤ (eb i).toInt ∧ (eb i).toInt < 16
  pos : 1 ≤ n.toInt

end Cert.ExpertsIdeal.Ffn

end
-- ==== Proof.FfnOk.lean ====
/-
  Under the precondition the tables name blocks inside the arrays: at grid point `i` the rows' block is the tile the point
  fetches and the matrices' blocks are that tile's two experts.
-/
module

public import proofs.«01_k».proof.Proof.FfnTables

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic

variable {F : FTy → Type} [FloatOps F]
variable (m : (ℓ : Loc nD τ sig) → Buf (Elt F) ℓ)

/-- The first experts' table, the second experts' one and the count, as launched on the one device. -/
abbrev firstT : S160.Idx → BitVec 32 := m ((0 : Dev nD), Proc.devRef .tc main_arg0)
abbrev secondT : S160.Idx → BitVec 32 := m ((0 : Dev nD), Proc.devRef .tc main_arg1)

/-- The first and second expert at a grid point, and the tile it fetches. -/
def expA (i : grid0.Coords) : ℕ := (firstT m (Shape.Idx.ofFin (tileOf (count m 0) (i 0)))).toNat
def expB (i : grid0.Coords) : ℕ := (secondT m (Shape.Idx.ofFin (tileOf (count m 0) (i 0)))).toNat
def rowT (i : grid0.Coords) : ℕ := min (i 0).val ((count m 0).toNat - 1)

variable {m}

theorem word_lt {w : BitVec 32} (h0 : 0 ≤ w.toInt) (h1 : w.toInt < 16) : w.toNat < 16 := by
  have hc := BitVec.toInt_eq_toNat_cond w
  have := w.isLt
  split at hc <;> omega

theorem expA_lt (h : Routed (firstT m) (secondT m) (count m 0)) (i : grid0.Coords) : expA m i < 16 :=
  word_lt (h.first _).1 (h.first _).2
theorem expB_lt (h : Routed (firstT m) (secondT m) (count m 0)) (i : grid0.Coords) : expB m i < 16 :=
  word_lt (h.second _).1 (h.second _).2

/-- The table's element an index map reads at a grid point. -/
theorem emb_tile (i : grid0.Coords) (h : 0 < S1.numel) :
    (Rect.unit (s := S160) (k0_off1 i) S1.size (k0_off1_inb i)).emb (Shape.Idx.first h) = Shape.Idx.ofFin (i 0) := by
  funext a
  have : a = 0 := Subsingleton.elim _ _
  subst this
  apply Fin.ext
  have hi : (i 0).val < 160 := (i 0).isLt
  show (BitVec.ofNat 32 (i 0).val).toNat + 1 * 0 = (i 0).val
  rw [BitVec.toNat_ofNat]
  omega

theorem ix_first (h : Routed (firstT m) (secondT m) (count m 0)) (i : grid0.Coords) :
    cc0_transform_1 k0_off1_inb numel1_S1 (tab m) i = ![expA m i, 0, 0] := by
  exact congrArg (fun w : BitVec 32 => ![w.toNat, 0, 0])
    ((congrArg (V m 0 main_v14 : S160.Idx → BitVec 32) (emb_tile i (numel1_S1.symm ▸ Nat.one_pos))).trans (V_first m 0 h.pos (i 0)))

theorem ix_second (h : Routed (firstT m) (secondT m) (count m 0)) (i : grid0.Coords) :
    cc0_transform_4 k0_off1_inb numel1_S1 (tab m) i = ![expB m i, 0, 0] := by
  exact congrArg (fun w : BitVec 32 => ![w.toNat, 0, 0])
    ((congrArg (V m 0 main_v21 : S160.Idx → BitVec 32) (emb_tile i (numel1_S1.symm ▸ Nat.one_pos))).trans (V_second m 0 h.pos (i 0)))

theorem ix_rows (h : Routed (firstT m) (secondT m) (count m 0)) (i : grid0.Coords) :
    cc0_transform_0 inb_S1_S1_0 numel1_S1 (tab m) i = ![rowT m i, 0] := by
  have hi : (i 0).val < 160 := (i 0).isLt
  have e : (tab m).at 2 (Rect.unit (s := S1) ![0] S1.size inb_S1_S1_0) numel1_S1 = count m 0 := by
    have hs : ∀ x : S1.Idx → BitVec 32, ∀ j k : S1.Idx, x j = x k := fun x j k => congrArg x (funext fun a => by
      have : a = 0 := Subsingleton.elim _ _
      subst this
      exact Subsingleton.elim (α := Fin 1) _ _)
    exact (congrFun (V_count m 0) _).trans (hs _ _ _)
  show ![(fetchWord ((tab m).at 2 (Rect.unit (s := S1) ![0] S1.size inb_S1_S1_0) numel1_S1) (i 0).val).toNat, 0] = _
  rw [e, fetchWord_eq h.pos hi, BitVec.toNat_ofNat]
  unfold rowT
  rw [Nat.mod_eq_of_lt (by omega)]

/-- The side condition on the tables' contents. -/
theorem tab_ok (h : Routed (firstT m) (secondT m) (count m 0)) : ok0 (tab m) := by
  have hw : ∀ (T : grid0.Coords → Fin 3 → ℕ) (n : grid0.Coords → ℕ), (∀ i, T i = ![n i, 0, 0]) → (∀ i, n i < 16) → ∀ i,
      ∃ h : (∀ a, (T i a + 1) * S1x1024x512.size a ≤ S16x1024x512.size a),
        EltTy.bits .bf16 = 32 ∨ (Rect.block (s := S16x1024x512) S1x1024x512.size (T i) h).WholeWords (EltTy.packing .bf16) := by
    intro T n hT hn i
    refine ⟨fun a => ?_, .inr (Affine.block_words_dvd (of_decide_eq_true rfl) (by decide))⟩
    have := hn i
    rw [hT]
    fin_cases a
    · show (n i + 1) * 1 ≤ 16; omega
    · show (0 + 1) * 1024 ≤ 1024; omega
    · show (0 + 1) * 512 ≤ 512; omega
  have hd : ∀ (T : grid0.Coords → Fin 3 → ℕ) (n : grid0.Coords → ℕ), (∀ i, T i = ![n i, 0, 0]) → (∀ i, n i < 16) → ∀ i,
      ∃ h : (∀ a, (T i a + 1) * S1x512x1024.size a ≤ S16x512x1024.size a),
        EltTy.bits .bf16 = 32 ∨ (Rect.block (s := S16x512x1024) S1x512x1024.size (T i) h).WholeWords (EltTy.packing .bf16) := by
    intro T n hT hn i
    refine ⟨fun a => ?_, .inr (Affine.block_words_dvd (of_decide_eq_true rfl) (by decide))⟩
    have := hn i
    rw [hT]
    fin_cases a
    · show (n i + 1) * 1 ≤ 16; omega
    · show (0 + 1) * 512 ≤ 512; omega
    · show (0 + 1) * 1024 ≤ 1024; omega
  refine ⟨fun i => ⟨fun a => ?_, .inl rfl⟩, hw _ _ (ix_first h) (expA_lt h), hw _ _ (ix_first h) (expA_lt h), hd _ _ (ix_first h) (expA_lt h),
    hw _ _ (ix_second h) (expB_lt h), hw _ _ (ix_second h) (expB_lt h), hd _ _ (ix_second h) (expB_lt h)⟩
  have hi : (i 0).val < 160 := (i 0).isLt
  rw [ix_rows h]
  fin_cases a
  · show (min (i 0).val _ + 1) * 256 ≤ 40960; omega
  · show (0 + 1) * 640 ≤ 640; omega

end Cert.ExpertsIdeal.Ffn

end
-- ==== Proof.FfnDat.lean ====
/-
  The run of the experts' program: at every grid point the pipeline hands the body its blocks and keeps the tables at hand,
  the body leaves the output block of `outBlk` of them, and the program ends with its semaphores at zero.
-/
module

public import proofs.«01_k».proof.Proof.FfnOk
public import proofs.«01_k».proof.Proof.Gen.ExpertsIdeal.Launch
public import Idealize.ShloMosaic.Lib.Pipeline.FrameBody
public import Idealize.ShloMosaic.Lib.Pipeline.FrameSuffix
public import Idealize.ShloMosaic.Lib.Ring
public import Idealize.ShloMosaic.Lib.WordCmp

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-- The tables of the one call. -/
abbrev adm : (p : Fin 1) → (pcfgs (F := F) p).Adm := fun _ => a

/-- The call at these tables. -/
abbrev cfgT : Cfg sig Λ₀ := cfg0 a

/-- The block of a window's array a grid point is on. -/
def iblk (c : Dev nD) (w : Fin (cfgT a).W) (t : Fin (cfgT a).N) :
    (((cfgT a).win w).xblock ((cfgT a).grid.coords t)).Idx → Elt F ((cfgT a).win w).elt :=
  (((cfgT a).win w).blk t).view.read (Elt F) (V m c (Pipeline.arrRef spec0 w))

/-- The block a grid point writes. -/
def outBlock (c : Dev nD) (t : Fin (cfgT a).N) : S256x1024.Idx → Elt F .bf16 :=
  outBlk (grid0.coords t) (a.1 2) (iblk m a c 0 t) (iblk m a c 1 t) (iblk m a c 2 t) (iblk m a c 3 t) (iblk m a c 4 t) (iblk m a c 5 t) (iblk m a c 6 t)

/-- What each window holds after a grid point: an input its block, the output the point's. -/
def dats (_ : Fin 1) (c : Dev nD) : Dat τ (Elt F) Unit ℕ (UR sig nD τ) ℕ (cfgT a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => iblk m a c 6 t
    | ⟨7, _⟩ => outBlock m a c t
  Φ _ := iprop(Pipeline.ΦA spec0 c ∗ Pipeline.ΦT pre0 a.1 c)
  q := Pipeline.shareOf spec0
  owed _ := 0

theorem A_eq (c : Dev nD) (w : Fin (cfgT a).W) : (dats m a 0 c).A w = V m c (Pipeline.arrRef spec0 w) := rfl

theorem before_0 (c : Dev nD) (t : Fin (cfgT a).N) (d) : (dats m a 0 c).before 0 t d = iblk m a c 0 t :=
  ((dats m a 0 c).before_in_eq_fetched 0 rfl (fun _ => rfl) (fun _ _ _ => rfl) (fun _ => rfl) t d).trans rfl
theorem before_1 (c : Dev nD) (t : Fin (cfgT a).N) (d) : (dats m a 0 c).before 1 t d = iblk m a c 1 t :=
  ((dats m a 0 c).before_in_eq_fetched 1 rfl (fun _ => rfl) (fun _ _ _ => rfl) (fun _ => rfl) t d).trans rfl
theorem before_2 (c : Dev nD) (t : Fin (cfgT a).N) (d) : (dats m a 0 c).before 2 t d = iblk m a c 2 t :=
  ((dats m a 0 c).before_in_eq_fetched 2 rfl (fun _ => rfl) (fun _ _ _ => rfl) (fun _ => rfl) t d).trans rfl
theorem before_3 (c : Dev nD) (t : Fin (cfgT a).N) (d) : (dats m a 0 c).before 3 t d = iblk m a c 3 t :=
  ((dats m a 0 c).before_in_eq_fetched 3 rfl (fun _ => rfl) (fun _ _ _ => rfl) (fun _ => rfl) t d).trans rfl
theorem before_4 (c : Dev nD) (t : Fin (cfgT a).N) (d) : (dats m a 0 c).before 4 t d = iblk m a c 4 t :=
  ((dats m a 0 c).before_in_eq_fetched 4 rfl (fun _ => rfl) (fun _ _ _ => rfl) (fun _ => rfl) t d).trans rfl
theorem before_5 (c : Dev nD) (t : Fin (cfgT a).N) (d) : (dats m a 0 c).before 5 t d = iblk m a c 5 t :=
  ((dats m a 0 c).before_in_eq_fetched 5 rfl (fun _ => rfl) (fun _ _ _ => rfl) (fun _ => rfl) t d).trans rfl
theorem before_6 (c : Dev nD) (t : Fin (cfgT a).N) (d) : (dats m a 0 c).before 6 t d = iblk m a c 6 t :=
  ((dats m a 0 c).before_in_eq_fetched 6 rfl (fun _ => rfl) (fun _ _ _ => rfl) (fun _ => rfl) t d).trans rfl

/-- The three tables' contents at the call. -/
abbrev tabA : S160.Idx → Elt F .i32 := a.1 0
abbrev tabB : S160.Idx → Elt F .i32 := a.1 1
abbrev tabN : S1.Idx → Elt F .i32 := a.1 2

/-- The kernel body at a grid point. -/
abbrev bodyAt (t : Fin (cfgT a).N) : Prog (TpuEff nD τ sig (Elt F) Λ₀ .tc) PUnit :=
  cc0_moe_experts (grid0.coords t) (Memref.whole main_v14) (Memref.isWhole_whole _) (Memref.whole main_v21) (Memref.isWhole_whole _) (Memref.whole main_arg2) (Memref.isWhole_whole _) (spec0_0.stage ((cfgT a).slots t 0)) (hstage0_0 (((cfgT a).slots t 0).cast nbuf0_0)) (spec0_1.stage ((cfgT a).slots t 1)) (hstage0_1 (((cfgT a).slots t 1).cast nbuf0_1)) (spec0_2.stage ((cfgT a).slots t 2)) (hstage0_2 (((cfgT a).slots t 2).cast nbuf0_2)) (spec0_3.stage ((cfgT a).slots t 3)) (hstage0_3 (((cfgT a).slots t 3).cast nbuf0_3)) (spec0_4.stage ((cfgT a).slots t 4)) (hstage0_4 (((cfgT a).slots t 4).cast nbuf0_4)) (spec0_5.stage ((cfgT a).slots t 5)) (hstage0_5 (((cfgT a).slots t 5).cast nbuf0_5)) (spec0_6.stage ((cfgT a).slots t 6)) (hstage0_6 (((cfgT a).slots t 6).cast nbuf0_6)) (spec0_7.stage ((cfgT a).slots t 7)) (hstage0_7 (((cfgT a).slots t 7).cast nbuf0_7))

/-- What the body is called with at a grid point. -/
def bodyPre (c : Dev nD) (t : Fin (cfgT a).N) : sProp 𝕄 :=
  iprop((dats m a 0 c).Φ t.castSucc ∗ (dats m a 0 c).owesAt () t.castSucc
    ∗ (∃ d, owns (c : Thread nD τ) (spec0_0.stage ((cfgT a).slots t 0)) fullShare ((dats m a 0 c).before 0 t d))
    ∗ (∃ d, owns (c : Thread nD τ) (spec0_1.stage ((cfgT a).slots t 1)) fullShare ((dats m a 0 c).before 1 t d))
    ∗ (∃ d, owns (c : Thread nD τ) (spec0_2.stage ((cfgT a).slots t 2)) fullShare ((dats m a 0 c).before 2 t d))
    ∗ (∃ d, owns (c : Thread nD τ) (spec0_3.stage ((cfgT a).slots t 3)) fullShare ((dats m a 0 c).before 3 t d))
    ∗ (∃ d, owns (c : Thread nD τ) (spec0_4.stage ((cfgT a).slots t 4)) fullShare ((dats m a 0 c).before 4 t d))
    ∗ (∃ d, owns (c : Thread nD τ) (spec0_5.stage ((cfgT a).slots t 5)) fullShare ((dats m a 0 c).before 5 t d))
    ∗ (∃ d, owns (c : Thread nD τ) (spec0_6.stage ((cfgT a).slots t 6)) fullShare ((dats m a 0 c).before 6 t d))
    ∗ (∃ d, owns (c : Thread nD τ) (spec0_7.stage ((cfgT a).slots t 7)) fullShare ((dats m a 0 c).before 7 t d)))

/-- What it returns. -/
def bodyPost (c : Dev nD) (t : Fin (cfgT a).N) : sProp 𝕄 :=
  iprop((dats m a 0 c).Φ t.succ ∗ (dats m a 0 c).owesAt () t.succ
    ∗ owns (c : Thread nD τ) (spec0_0.stage ((cfgT a).slots t 0)) fullShare ((dats m a 0 c).after 0 t)
    ∗ owns (c : Thread nD τ) (spec0_1.stage ((cfgT a).slots t 1)) fullShare ((dats m a 0 c).after 1 t)
    ∗ owns (c : Thread nD τ) (spec0_2.stage ((cfgT a).slots t 2)) fullShare ((dats m a 0 c).after 2 t)
    ∗ owns (c : Thread nD τ) (spec0_3.stage ((cfgT a).slots t 3)) fullShare ((dats m a 0 c).after 3 t)
    ∗ owns (c : Thread nD τ) (spec0_4.stage ((cfgT a).slots t 4)) fullShare ((dats m a 0 c).after 4 t)
    ∗ owns (c : Thread nD τ) (spec0_5.stage ((cfgT a).slots t 5)) fullShare ((dats m a 0 c).after 5 t)
    ∗ owns (c : Thread nD τ) (spec0_6.stage ((cfgT a).slots t 6)) fullShare ((dats m a 0 c).after 6 t)
    ∗ owns (c : Thread nD τ) (spec0_7.stage ((cfgT a).slots t 7)) fullShare ((dats m a 0 c).after 7 t))

/-- The invariant between grid points: nothing but the generator's register and the three tables at a half share. -/
theorem phi_eq (c : Dev nD) :
    (iprop(Pipeline.ΦA spec0 c ∗ Pipeline.ΦT pre0 a.1 c) : sProp 𝕄)
      = iprop((emp ∗ (∃ r, prngReg c r)) ∗ owns (c : Thread nD τ) (Memref.whole main_v14) fullShare.right (tabA a)
        ∗ owns (c : Thread nD τ) (Memref.whole main_v21) fullShare.right (tabB a)
        ∗ owns (c : Thread nD τ) (Memref.whole main_arg2) fullShare.right (tabN a)) := by
  unfold Pipeline.ΦA; rw [scopedRest0_eq]; simp only [owns_whole]
  unfold Pipeline.ΦT Pipeline.prefHeld
  rw [show (bigSep Finset.univ fun k : Fin pre0.K => (((c.tc : Thread nD τ).loc (pre0.ref k)) ↦{fullShare.right} (a.1 k) : sProp 𝕄)) = _
    from bigSep_univ_eq_bigSepL [(0 : Fin 3), (1 : Fin 3), (2 : Fin 3)] (by decide) (by decide) _]
  rfl

theorem defs₀_row (t : Fin (cfgT a).N) :
    defs₀ (F := F) .tc (cfgT a).body ((cfgT a).bodyArgs t ((cfgT a).slots t)) = bodyAt a t := by
  unfold defs₀; rw [Defs.onTc_tc]

theorem idle_word (i : grid0.Coords) (x : Elt F .i32) : (!(k0_cond1 i x == 1#1) && !(k0_cond2 i x == 1#1)) = false := by
  by_cases h : k0_cond1 i x = 1#1
  · rw [h]; rfl
  · rw [(cond2_iff i x).2 h]; exact Bool.and_false _

theorem idle_table (pf : pre0.Contents (Elt F)) (i : grid0.Coords) : idle0 pf 7 i = false := idle_word (F := F) i _

/-- The output window is written at every grid point. -/
theorem idle_out (i : grid0.Coords) : (cfgT a).idle 7 i = false := idle_table a.1 i

end Cert.ExpertsIdeal.Ffn

end
-- ==== Proof.FfnRun.lean ====
/-
  The run of the experts' program: at every grid point the pipeline hands the body its blocks and keeps the tables at hand,
  the body leaves the output block of `outBlk` of them, and the program ends with its semaphores at zero.
-/
module

public import proofs.«01_k».proof.Proof.FfnDat
public import Idealize.ShloMosaic.Lib.Pipeline.FrameBody
public import Idealize.ShloMosaic.Lib.Pipeline.FrameSuffix
public import Idealize.ShloMosaic.Lib.Ring
public import Idealize.ShloMosaic.Lib.WordCmp

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

set_option maxHeartbeats 2000000 in
/-- The body at any grid point. -/
theorem sound_body (c : Dev nD) (t : Fin (cfgT a).N) :
    bodyPre m a c t ⊢ wp frame (wpE (defs₀ (F := F)) Variants.none (c : Thread nD τ) none) Set.univ (bodyAt a t) (fun _ => bodyPost m a c t) := by
  unfold bodyPre bodyPost bodyAt
  simp only [before_0, before_1, before_2, before_3, before_4, before_5, before_6]
  rw [show (dats m a 0 c).Φ t.succ = (dats m a 0 c).Φ t.castSucc from rfl,
    show (dats m a 0 c).owesAt () t.succ = (dats m a 0 c).owesAt () t.castSucc from rfl,
    show (dats m a 0 c).Φ t.castSucc = iprop(Pipeline.ΦA spec0 c ∗ Pipeline.ΦT pre0 a.1 c) from rfl, phi_eq]
  iintro ⟨⟨HP, HT0, HT1, HT2⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel (F := F) c Set.univ (grid0.coords t) fullShare.right _ _ _ _ _ _ _ _ _ _ _ _ _ _ _ _ _ _ _ _ _ _
    (tabN a) (iblk m a c 0 t) (iblk m a c 1 t) (iblk m a c 2 t) (iblk m a c 3 t) (iblk m a c 4 t) (iblk m a c 5 t) (iblk m a c 6 t) _)
  isplitl [HT2]; · iexact HT2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨HT2, H0, H1, H2, H3, H4, H5, H6, H7⟩
  isplitl [HP HT0 HT1 HT2]
  · isplitl [HP]; · iexact HP
    isplitl [HT0]; · iexact HT0
    isplitl [HT1]; · iexact HT1
    iexact HT2
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's obligation, at every grid point. -/
theorem body_obligation (c : Dev nD) : BodyObligation (dats m a 0 c) (defs₀ (F := F)) Variants.none () Set.univ := fun t => by
  rw [bigSep_W0, bigSep_W0, defs₀_row, idle_out]
  exact triple_restated (sound_body m a c t) rfl .rfl fun _ => .rfl

theorem hostOps0_fresh : (hostOps0 : List (HloOp τ sig (Elt F))).Forall fun op => op.fresh = ∅ := by
  simp only [List.Forall]; repeat' constructor

/-- The host's lines, then the call. -/
theorem hmain : Pipeline.HMainPK (Ix := Unit) (Name := ℕ) (U := UR sig nD τ) (Lvl := ℕ) pcfgs 0 defs₀ Variants.none m (main (F := F)) (V m)
      (fun _ => Pipeline.chain (([] : List (List (HloOp τ sig (Elt F)))).map StableHlo.seq)) :=
  Pipeline.hmainP_around pcfgs 0 defs₀ Variants.none m main [hostOps0] [] (by simp only [List.Forall]; exact hostOps0_sub)
    (by simp only [List.Forall]; exact hostOps0_fresh) main_chain

set_option backward.isDefEq.respectTransparency.types false in
set_option maxHeartbeats 4000000 in
/-- THE RUN: it ends with the arrays the grid points leave and every semaphore at zero. -/
theorem run_main (ha : ∀ c k, V m c (pre0.ref k) = a.1 k) : θ_run defs (onTc (τ := τ) (main (F := F))) (s₀ m ρ)
    (fun r => Pipeline.FramePost (Pipeline.pin pcfgs (adm a)) (dats m a) 0 (Pipeline.afterTail pcfgs (adm a) (dats m a) 0 (V0 m) []) r
      ∧ r.2.sem = fun _ => 0) :=
  Pipeline.θ_run_frameP_around_track_shared (Q' := _) pcfgs (adm a) (dats m a) (0 : Fin 1) launch₀0 defs₀ Variants.none m ρ main
    (hbody := fun c => (body_obligation m a c).loose) (hq := fun _ _ _ => rfl) (howed := fun _ _ => rfl)
    (V₀ := V0 m) (opss := []) (hsub := fun _ h => absurd h (List.not_mem_nil)) (hfresh := fun _ h => absurd h (List.not_mem_nil))
    (hkeep := fun _ h => absurd h (List.not_mem_nil))
    (hmain := hmain m) (hA := A_eq m a) (hpf := ha) (hin := fun _ => .rfl)
    (hout := fun c => (show (iprop(Pipeline.ΦA spec0 c ∗ Pipeline.ΦT pre0 a.1 c) : sProp 𝕄) ⊢ Pipeline.ΦA spec0 c from by iintro ⟨H, -⟩; iexact H))

end Cert.ExpertsIdeal.Ffn

end
-- ==== Proof.FfnFrame.lean ====
/-
  What a run of the experts' program leaves: its arguments as they were, the output array as the grid points write it.
-/
module

public import proofs.«01_k».proof.Proof.FfnRun
public import Idealize.ShloMosaic.Lib.Claim

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg) (a : (pcfg0 (F := F)).Adm)

theorem V_arg0 (c : Dev nD) : V m c main_arg0 = m (c, Proc.devRef .tc main_arg0) := by rw [V_eq]; after_reads_simp
theorem V_arg1 (c : Dev nD) : V m c main_arg1 = m (c, Proc.devRef .tc main_arg1) := by rw [V_eq]; after_reads_simp
theorem V_arg4 (c : Dev nD) : V m c main_arg4 = m (c, Proc.devRef .tc main_arg4) := by rw [V_eq]; after_reads_simp
theorem V_arg5 (c : Dev nD) : V m c main_arg5 = m (c, Proc.devRef .tc main_arg5) := by rw [V_eq]; after_reads_simp
theorem V_arg6 (c : Dev nD) : V m c main_arg6 = m (c, Proc.devRef .tc main_arg6) := by rw [V_eq]; after_reads_simp

/-- A buffer no window is on: the call leaves it as the host's lines did. -/
theorem tail_of_ne (c : Dev nD) (b : Ref sig .tc) (hb : ∀ w, Pipeline.arrRef spec0 w ≠ b) :
    Pipeline.afterTail pcfgs (adm a) (dats m a) 0 (V0 m) [] c b = V m c b := by
  unfold Pipeline.afterTail V
  rw [List.flatten_nil, StableHlo.after]
  exact Pipeline.withArrays_of_ne spec0 c (V0 m c) _ b hb

/-- THE RUN'S END: the output array as written, the arguments unchanged, the semaphores at zero. -/
theorem run_end (ha : ∀ c k, V m c (pre0.ref k) = a.1 k) :
    θ_run (defs (F := F)) (onTc (τ := τ) (main (F := F))) ⟨m, fun _ => 0, ρ⟩ (fun r => (∀ c : Dev nD,
      r.2.mem ((c.tc : Thread nD τ).loc main_v22) = (dats m a 0 c).arrAt 7 (cfgT a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run_main m ρ a ha)
  have hr := (h.1 c).2
  have hn : ∀ b : Ref sig .tc, b ∈ Pipeline.restRefs sig spec0 → (∀ w, Pipeline.arrRef spec0 w ≠ b) →
      r.2.mem ((c.tc : Thread nD τ).loc b) = V m c b := fun b h1 h2 => (hr b h1).trans (tail_of_ne m a c b h2)
  refine ⟨(h.1 c).1 7, ?_, ?_, ?_, ?_, ?_, ?_, ?_⟩
  · exact (hn main_arg0 (Pipeline.mem_restRefs_of _ (by decide) (by decide)) (by decide)).trans (V_arg0 m c)
  · exact (hn main_arg1 (Pipeline.mem_restRefs_of _ (by decide) (by decide)) (by decide)).trans (V_arg1 m c)
  · exact (hn main_arg2 (Pipeline.mem_restRefs_of _ (by decide) (by decide)) (by decide)).trans (V_count m c)
  · exact ((h.1 c).1 0).trans (((dats m a 0 c).arrAt_in 0 rfl _).trans (V_rows m c))
  · exact (hn main_arg4 (Pipeline.mem_restRefs_of _ (by decide) (by decide)) (by decide)).trans (V_arg4 m c)
  · exact (hn main_arg5 (Pipeline.mem_restRefs_of _ (by decide) (by decide)) (by decide)).trans (V_arg5 m c)
  · exact (hn main_arg6 (Pipeline.mem_restRefs_of _ (by decide) (by decide)) (by decide)).trans (V_arg6 m c)

/-- The tables the host makes, which the precondition makes admissible. -/
abbrev admOf (h : Routed (firstT m) (secondT m) (count m 0)) : (pcfg0 (F := F)).Adm := ⟨tab m, tab_ok h⟩

theorem admOf_eq (h : Routed (firstT m) (secondT m) (count m 0)) (c : Dev nD) (k : Fin pre0.K) : V m c (pre0.ref k) = (admOf m h).1 k := by
  rw [Subsingleton.elim c 0]; rfl

end Cert.ExpertsIdeal.Ffn

end
-- ==== Proof.FfnSame.lean ====
/-
  The experts' kernel and its idealization have one text: the same pipeline, the same body and the same host code.
-/
module

public import proofs.«01_k».proof.Experts
public import proofs.«01_k».proof.ExpertsIdeal
public import proofs.«01_k».proof.Proof.Gen.Experts
public import proofs.«01_k».proof.Proof.Gen.ExpertsIdeal

@[expose] public section

set_option maxRecDepth 4000
set_option maxHeartbeats 4000000

noncomputable section

namespace Cert.Moe

open Idealize.ShloMosaic Idealize.ShloMosaic.TcCoe Idealize.SL.Sem

variable {F : FTy → Type} [FloatOps F]

/-- The two programs print the same kernel function, so the same table of bodies. -/
theorem defs₀_same : @Cert.Experts.defs₀ F _ _ = @Cert.ExpertsIdeal.defs₀ F _ _ :=
  congrArg Defs.onTc (funext fun l => funext fun a => match l, a with
    | 0, (_, _) => rfl)

/-- The same table with the pipeline's own labels. -/
theorem defs_same : @Cert.Experts.defs F _ _ = @Cert.ExpertsIdeal.defs F _ _ :=
  congrArg (Pipeline.defs Cert.ExpertsIdeal.pcfgs) defs₀_same

/-- The two host functions print the same statements. -/
theorem main_same : @Cert.Experts.main F _ _ = @Cert.ExpertsIdeal.main F _ _ := by
  funext d
  unfold Cert.Experts.main Cert.ExpertsIdeal.main
  rfl

end Cert.Moe

end
-- ==== Proof.FfnFrames.lean ====
/-
  The frames of the experts' programs: under the precondition every run leaves the arguments as they were and every
  semaphore at zero.
-/
module

public import proofs.«01_k».proof.Defs
public import proofs.«01_k».proof.Proof.Gen.Experts
public import proofs.«01_k».proof.Proof.Gen.ExpertsIdeal
public import proofs.«01_k».proof.Proof.Gen.ExpertsReferenceIdeal
public import proofs.«01_k».proof.Proof.Gen.ExpertsReferenceIdeal.Run
public import proofs.«01_k».proof.Proof.FfnPre
public import proofs.«01_k».proof.Proof.FfnFrame
public import proofs.«01_k».proof.Proof.FfnSame
public import Idealize.ShloMosaic.Lib.Claim

@[expose] public section

noncomputable section

namespace Cert.Moe

open Idealize.ShloMosaic Idealize.ShloMosaic.TcCoe Idealize.SL.Sem

/-- The precondition of the kernel's memory, as the tables' inequalities. The kernel and its idealization have one text, so the
    run proved for any float values serves both. -/
theorem range_plain [Cert.Pre_in_range.Facts]
    (m : (ℓ : Loc Cert.Experts.nD Cert.Experts.τ Cert.Experts.sig) → Buf (Elt Bits) ℓ) (h : Cert.Pre_Experts m) :
    Cert.ExpertsIdeal.Ffn.Routed (Cert.ExpertsIdeal.Ffn.firstT (F := Bits) m) (Cert.ExpertsIdeal.Ffn.secondT (F := Bits) m)
      (Cert.ExpertsIdeal.Ffn.count (F := Bits) m 0) := by
  obtain ⟨h0, h1, h2⟩ := range_all _ _ _ _ _ _ _ (h 0)
  exact ⟨h0, h1, h2 _⟩

/-- The same of the idealized kernel's. -/
theorem range_ideal [Cert.Pre_in_range.Facts]
    (m : (ℓ : Loc Cert.ExpertsIdeal.nD Cert.ExpertsIdeal.τ Cert.ExpertsIdeal.sig) → Buf (Elt Ideal) ℓ) (h : Cert.Pre_ExpertsIdeal m) :
    Cert.ExpertsIdeal.Ffn.Routed (Cert.ExpertsIdeal.Ffn.firstT m) (Cert.ExpertsIdeal.Ffn.secondT m) (Cert.ExpertsIdeal.Ffn.count m 0) := by
  obtain ⟨h0, h1, h2⟩ := range_all _ _ _ _ _ _ _ (h 0)
  exact ⟨h0, h1, h2 _⟩

/-- And where the experts of a tile differ too. -/
theorem routed_ideal [Cert.Pre_routed.Facts]
    (m : (ℓ : Loc Cert.ExpertsIdeal.nD Cert.ExpertsIdeal.τ Cert.ExpertsIdeal.sig) → Buf (Elt Ideal) ℓ) (h : Cert.Pre_ExpertsIdeal_routed m) :
    Cert.ExpertsIdeal.Ffn.Routed (Cert.ExpertsIdeal.Ffn.firstT m) (Cert.ExpertsIdeal.Ffn.secondT m) (Cert.ExpertsIdeal.Ffn.count m 0) := by
  obtain ⟨h0, h1, h2, -⟩ := routed_all _ _ _ _ _ _ _ (h 0)
  exact ⟨h0, h1, h2 _⟩

/-- The kernel's frame. -/
theorem frame_experts [Cert.Pre_in_range.Facts] : Cert.quiescent_Experts := fun m ρ h => by
  rw [defs_same, main_same]
  exact (θ_run Cert.ExpertsIdeal.defs _ _).mono (fun _ e => ⟨fun c => (e.1 c).2, e.2⟩)
    (Cert.ExpertsIdeal.Ffn.run_end (F := Bits) m ρ (Cert.ExpertsIdeal.Ffn.admOf m (range_plain m h)) (Cert.ExpertsIdeal.Ffn.admOf_eq m _))

/-- The idealized kernel's frame, under either precondition. -/
theorem frame_expertsIdeal [Cert.Pre_in_range.Facts] : Cert.quiescent_ExpertsIdeal := fun m ρ h =>
  (θ_run Cert.ExpertsIdeal.defs _ _).mono (fun _ e => ⟨fun c => (e.1 c).2, e.2⟩)
    (Cert.ExpertsIdeal.Ffn.run_end m ρ (Cert.ExpertsIdeal.Ffn.admOf m (range_ideal m h)) (Cert.ExpertsIdeal.Ffn.admOf_eq m _))
theorem frame_expertsIdeal_routed [Cert.Pre_routed.Facts] : Cert.quiescent_ExpertsIdeal_pre_routed := fun m ρ h =>
  (θ_run Cert.ExpertsIdeal.defs _ _).mono (fun _ e => ⟨fun c => (e.1 c).2, e.2⟩)
    (Cert.ExpertsIdeal.Ffn.run_end m ρ (Cert.ExpertsIdeal.Ffn.admOf m (routed_ideal m h)) (Cert.ExpertsIdeal.Ffn.admOf_eq m _))

/-- The reference's frame: it is host code alone and has no semaphore. -/
theorem frame_expertsReference : Cert.quiescent_ExpertsReferenceIdeal := fun m ρ _ =>
  (θ_run Cert.ExpertsReferenceIdeal.defs _ _).mono
    (fun r h => ⟨fun c => (h c).2, Idealize.ShloMosaic.sem_eq_zero_of_no_sems (by decide) r.2⟩)
    (Cert.ExpertsReferenceIdeal.Value.run (F := Ideal) m ρ)

end Cert.Moe

end
-- ==== Proof.FfnMath.lean ====
/-
  The experts' layer over the extended reals, as a function of the arrays alone. A row carries 1024 numbers packed two to a
  word (the first 512 in the lower halves, the rest in the upper), then two weights; its tile names two experts, and the
  row's result is the weighted sum of the two experts' outputs where the tile is in use, zero elsewhere.
-/
module

public import Idealize.ShloMosaic.Lib.Pointwise
public import Idealize.ShloMosaic.Lib.StableHlo.Predicate
public import Idealize.ShloMosaic.Lib.Tactic
public import Idealize.ShloMosaic.Lib.MatmulPlain

@[expose] public section

noncomputable section

namespace Cert.Moe

open Idealize.ShloMosaic Idealize.ShloMosaic.TcCoe Idealize.ShloMosaic.Tactic

/-- A word read as a number. -/
def num (w : BitVec 32) : EReal := Ideal.ofBits .f32 w
/-- The number in a word's lower half, and the one in its upper half. -/
def lo (w : BitVec 32) : EReal := num (w <<< 16)
def hi (w : BitVec 32) : EReal := num (w &&& 4294901760#32)

/-- A packed row against a column of an expert's gate or up matrix. -/
def proj (x : Fin 512 → BitVec 32) (W : Fin 1024 → EReal) : EReal :=
  ∑ j : Fin 512, lo (x j) * W ⟨j.val, by omega⟩ + ∑ j : Fin 512, hi (x j) * W ⟨512 + j.val, by omega⟩

/-- The hidden value: the gate's product with its own logistic, times the up projection. -/
def hidden (x : Fin 512 → BitVec 32) (G U : Fin 1024 → EReal) : EReal := proj x G * Ideal.logistic (proj x G) * proj x U

/-- One coordinate of an expert's output. -/
def expert (x : Fin 512 → BitVec 32) (G U : Fin 1024 → Fin 512 → EReal) (D : Fin 512 → EReal) : EReal :=
  ∑ f : Fin 512, hidden x (fun d => G d f) (fun d => U d f) * D f

variable (xs : (⟨2, ![40960, 640]⟩ : Shape).Idx → BitVec 32) (wg wu : (⟨3, ![16, 1024, 512]⟩ : Shape).Idx → EReal)
  (wd : (⟨3, ![16, 512, 1024]⟩ : Shape).Idx → EReal)

/-- Expert `e` on row `r`, coordinate `n`. -/
def expertOf (e : Fin 16) (r : Fin 40960) (n : Fin 1024) : EReal :=
  expert (fun j => xs (ix2 r ⟨j.val, by omega⟩)) (fun d f => wg (ix3 e d f)) (fun d f => wu (ix3 e d f)) (fun f => wd (ix3 e f n))

/-- The expert a table's word names. -/
def expertNo (w : BitVec 32) : Fin 16 := ⟨w.toNat % 16, Nat.mod_lt _ (by decide)⟩

/-- The tile of a row. -/
def tileNo (r : Fin 40960) : Fin 160 := ⟨r.val / 256, by omega⟩

/-- Two experts' weighted sum. -/
def mix (a b : Fin 16) (r : Fin 40960) (n : Fin 1024) : EReal :=
  num (xs (ix2 r 512)) * expertOf xs wg wu wd a r n + num (xs (ix2 r 513)) * expertOf xs wg wu wd b r n

/-- The layer's result. -/
def layer (ea eb : (⟨1, ![160]⟩ : Shape).Idx → BitVec 32) (nt : BitVec 32) (r : Fin 40960) (n : Fin 1024) : EReal :=
  if (r.val / 256 : ℤ) < nt.toInt then
    mix xs wg wu wd (expertNo (ea (Shape.Idx.ofFin (tileNo r)))) (expertNo (eb (Shape.Idx.ofFin (tileNo r)))) r n
  else 0

end Cert.Moe

end
-- ==== Proof.FfnBlock.lean ====
/-
  The block a grid point of the experts' kernel writes, over the extended reals: each row is the weighted sum of the two
  staged experts' outputs.
-/
module

public import proofs.«01_k».proof.Proof.FfnBody
public import proofs.«01_k».proof.Proof.FfnMath
public import proofs.«01_k».proof.Proof.OutBlock

@[expose] public section

set_option maxRecDepth 16384

noncomputable section

namespace Cert.ExpertsIdeal.Ffn

open Cert.ExpertsIdeal Cert.ExpertsIdeal.Gen Cert.Moe
open Idealize.ShloMosaic Idealize.ShloMosaic.TcCoe Idealize.ShloMosaic.Tactic

variable (x4 : Vec Ideal S256x640 .i32)

/-- The words' lower halves, upper halves and weights, as numbers. -/
theorem lo_at (r : Fin 256) (j : Fin 512) : k0_pay4 x4 (ix2 r j) = lo (x4 (ix2 r ⟨j.val, by omega⟩)) := by
  pointwise [k0_pay4, k0_pay3]
  rfl
theorem hi_at (r : Fin 256) (j : Fin 512) : k0_pay5 x4 (ix2 r j) = hi (x4 (ix2 r ⟨j.val, by omega⟩)) := by
  pointwise [k0_pay5, k0_pay3]
  rfl
theorem weight0_at (r : Fin 256) : k0_pay6 x4 (ix2 r 0) = num (x4 (ix2 r 512)) := by
  pointwise [k0_pay6]
  rfl
theorem weight1_at (r : Fin 256) : k0_pay6 x4 (ix2 r 1) = num (x4 (ix2 r 513)) := by
  pointwise [k0_pay6]
  rfl

/-- The two halves of an expert's gate or up matrix. -/
theorem upper_at (X : S1x1024x512.Idx → Elt Ideal .bf16) (d f : Fin 512) :
    half X 0 inb_S1x1024x512_S1x512x512_0_0_0 (ix3 0 d f) = X (ix3 0 ⟨d.val, by omega⟩ f) := by
  pointwise [half]
theorem lower_at (X : S1x1024x512.Idx → Elt Ideal .bf16) (d f : Fin 512) :
    half X 512 inb_S1x1024x512_S1x512x512_0_512_0 (ix3 0 d f) = X (ix3 0 ⟨512 + d.val, by omega⟩ f) := by
  pointwise [half]

/-- A staged expert on a row of the block. -/
def staged (G U : S1x1024x512.Idx → Elt Ideal .bf16) (D : S1x512x1024.Idx → Elt Ideal .bf16) (r : Fin 256) (n : Fin 1024) : EReal :=
  expert (fun j => x4 (ix2 r ⟨j.val, by omega⟩)) (fun d f => G (ix3 0 d f)) (fun d f => U (ix3 0 d f)) (fun f => D (ix3 0 f n))

/-- The block where the tile is in use. -/
theorem live_at (x5 x6 : S1x1024x512.Idx → Elt Ideal .bf16) (x7 : S1x512x1024.Idx → Elt Ideal .bf16)
    (x8 x9 : S1x1024x512.Idx → Elt Ideal .bf16) (x10 : S1x512x1024.Idx → Elt Ideal .bf16) (r : Fin 256) (n : Fin 1024) :
    liveBlk x4 x5 x6 x7 x8 x9 x10 (ix2 r n)
      = (num (x4 (ix2 r 512)) * staged x4 x5 x6 x7 r n + num (x4 (ix2 r 513)) * staged x4 x8 x9 x10 r n : EReal) := by
  have e7 : ∀ (a b c d : Vec Ideal S1x512x512 .bf16) (e : Vec Ideal S1x512x1024 .bf16), k0_pay7 x4 a b c d e (ix2 r n)
      = (k0_pay6 x4 (ix2 r 0) * ∑ x : Fin 512,
          (∑ y : Fin 512, k0_pay4 x4 (ix2 r y) * a (ix3 0 y x) + ∑ y : Fin 512, k0_pay5 x4 (ix2 r y) * b (ix3 0 y x))
            * Ideal.logistic (∑ y : Fin 512, k0_pay4 x4 (ix2 r y) * a (ix3 0 y x) + ∑ y : Fin 512, k0_pay5 x4 (ix2 r y) * b (ix3 0 y x))
            * (∑ y : Fin 512, k0_pay4 x4 (ix2 r y) * c (ix3 0 y x) + ∑ y : Fin 512, k0_pay5 x4 (ix2 r y) * d (ix3 0 y x))
            * e (ix3 0 x n) : EReal) := fun a b c d e => by
    pointwise [k0_pay7]
  have e1 : ∀ (p q : FVec Ideal S256x512 .bf16) (w : FVec Ideal S256x2 .f32) (s : FVec Ideal S256x1024 .f32)
      (a b c d : Vec Ideal S1x512x512 .bf16) (e : Vec Ideal S1x512x1024 .bf16), k0_pay1 p q w s a b c d e (ix2 r n)
      = (s (ix2 r n) + w (ix2 r 1) * ∑ x : Fin 512,
          (∑ y : Fin 512, p (ix2 r y) * a (ix3 0 y x) + ∑ y : Fin 512, q (ix2 r y) * b (ix3 0 y x))
            * Ideal.logistic (∑ y : Fin 512, p (ix2 r y) * a (ix3 0 y x) + ∑ y : Fin 512, q (ix2 r y) * b (ix3 0 y x))
            * (∑ y : Fin 512, p (ix2 r y) * c (ix3 0 y x) + ∑ y : Fin 512, q (ix2 r y) * d (ix3 0 y x))
            * e (ix3 0 x n) : EReal) := fun p q w s a b c d e => by
    pointwise [k0_pay1]
  unfold liveBlk
  rw [e1, e7]
  simp only [lo_at, hi_at, weight0_at, weight1_at, upper_at, lower_at]
  rfl

/-- The block where it is not. -/
theorem dead_at (r : Fin 256) (n : Fin 1024) : (k0_pay2 (F := Ideal)) (ix2 r n) = (0 : EReal) := by
  pointwise [k0_pay2]

end Cert.ExpertsIdeal.Ffn

end
-- ==== Proof.FfnValue.lean ====
/-
  The experts' result array over the extended reals: the array the grid points write is the layer of the arrays launched.
-/
module

public import proofs.«01_k».proof.Proof.FfnFrame
public import proofs.«01_k».proof.Proof.FfnBlock
public import Idealize.ShloMosaic.Lib.Pipeline.ValueKit

@[expose] public section

set_option maxRecDepth 16384

noncomputable section

namespace Cert.ExpertsIdeal.Ffn

open Cert.ExpertsIdeal Cert.ExpertsIdeal.Gen Cert.Moe
open Idealize.ShloMosaic Idealize.ShloMosaic.TcCoe Idealize.ShloMosaic.Tactic

variable (m : (ℓ : Loc nD τ sig) → Buf (Elt Ideal) ℓ) (a : (pcfg0 (F := Ideal)).Adm) (c : Dev nD)

/-- The grid has one axis. -/
theorem coords_val : ∀ t : Fin grid0.N, (grid0.coords t 0).val = t.val := by decide +kernel
theorem N160 (t : Fin (cfgT a).N) : t.val < 160 := t.isLt

/-! The blocks a grid point is on, at the indices its window maps give. -/

theorem blk_rows (t : Fin (cfgT a).N) (b : Fin 160) (hi : ((cfgT a).win 0).index t = ![b.val, 0]) (r : Fin 256) (j : Fin 640) :
    (iblk m a c 0 t : S256x640.Idx → Elt Ideal .i32) (ix2 r j)
      = (V m c main_arg3 : S40960x640.Idx → Elt Ideal .i32) (ix2 ⟨256 * b.val + r.val, by omega⟩ j) := by
  blk_ext [iblk, hi]

theorem blk_gate0 (t : Fin (cfgT a).N) (e : Fin 16) (hi : ((cfgT a).win 1).index t = ![e.val, 0, 0]) (d : Fin 1024) (f : Fin 512) :
    (iblk m a c 1 t : S1x1024x512.Idx → Elt Ideal .bf16) (ix3 0 d f) = (V m c main_v0 : S16x1024x512.Idx → Elt Ideal .bf16) (ix3 e d f) := by
  blk_ext [iblk, hi]
theorem blk_up0 (t : Fin (cfgT a).N) (e : Fin 16) (hi : ((cfgT a).win 2).index t = ![e.val, 0, 0]) (d : Fin 1024) (f : Fin 512) :
    (iblk m a c 2 t : S1x1024x512.Idx → Elt Ideal .bf16) (ix3 0 d f) = (V m c main_v1 : S16x1024x512.Idx → Elt Ideal .bf16) (ix3 e d f) := by
  blk_ext [iblk, hi]
theorem blk_down0 (t : Fin (cfgT a).N) (e : Fin 16) (hi : ((cfgT a).win 3).index t = ![e.val, 0, 0]) (f : Fin 512) (n : Fin 1024) :
    (iblk m a c 3 t : S1x512x1024.Idx → Elt Ideal .bf16) (ix3 0 f n) = (V m c main_v2 : S16x512x1024.Idx → Elt Ideal .bf16) (ix3 e f n) := by
  blk_ext [iblk, hi]
theorem blk_gate1 (t : Fin (cfgT a).N) (e : Fin 16) (hi : ((cfgT a).win 4).index t = ![e.val, 0, 0]) (d : Fin 1024) (f : Fin 512) :
    (iblk m a c 4 t : S1x1024x512.Idx → Elt Ideal .bf16) (ix3 0 d f) = (V m c main_v0 : S16x1024x512.Idx → Elt Ideal .bf16) (ix3 e d f) := by
  blk_ext [iblk, hi]
theorem blk_up1 (t : Fin (cfgT a).N) (e : Fin 16) (hi : ((cfgT a).win 5).index t = ![e.val, 0, 0]) (d : Fin 1024) (f : Fin 512) :
    (iblk m a c 5 t : S1x1024x512.Idx → Elt Ideal .bf16) (ix3 0 d f) = (V m c main_v1 : S16x1024x512.Idx → Elt Ideal .bf16) (ix3 e d f) := by
  blk_ext [iblk, hi]
theorem blk_down1 (t : Fin (cfgT a).N) (e : Fin 16) (hi : ((cfgT a).win 6).index t = ![e.val, 0, 0]) (f : Fin 512) (n : Fin 1024) :
    (iblk m a c 6 t : S1x512x1024.Idx → Elt Ideal .bf16) (ix3 0 f n) = (V m c main_v2 : S16x512x1024.Idx → Elt Ideal .bf16) (ix3 e f n) := by
  blk_ext [iblk, hi]

/-! The experts' matrices as staged are the arrays launched: the casts are the identity here. -/

theorem V_gate (i : S16x1024x512.Idx) : (V m c main_v0 : S16x1024x512.Idx → EReal) i = (m (c, Proc.devRef .tc main_arg4) : S16x1024x512.Idx → EReal) i := by
  rw [V_eq]; after_reads_simp; rfl
theorem V_up (i : S16x1024x512.Idx) : (V m c main_v1 : S16x1024x512.Idx → EReal) i = (m (c, Proc.devRef .tc main_arg5) : S16x1024x512.Idx → EReal) i := by
  rw [V_eq]; after_reads_simp; rfl
theorem V_down (i : S16x512x1024.Idx) : (V m c main_v2 : S16x512x1024.Idx → EReal) i = (m (c, Proc.devRef .tc main_arg6) : S16x512x1024.Idx → EReal) i := by
  rw [V_eq]; after_reads_simp; rfl

/-- The layer of the arrays launched on a device. -/
abbrev layerAt (r : Fin 40960) (n : Fin 1024) : EReal :=
  layer (m (c, Proc.devRef .tc main_arg3)) (m (c, Proc.devRef .tc main_arg4)) (m (c, Proc.devRef .tc main_arg5)) (m (c, Proc.devRef .tc main_arg6))
    (m (c, Proc.devRef .tc main_arg0)) (m (c, Proc.devRef .tc main_arg1)) (count m c) r n

/-- What the window maps name at a grid point: the tile fetched and its two experts. -/
structure Points : Prop where
  rows : ∀ t : Fin (cfgT a).N, ((cfgT a).win 0).index t = ![rowT m (grid0.coords t), 0]
  gate0 : ∀ t : Fin (cfgT a).N, ((cfgT a).win 1).index t = ![expA m (grid0.coords t), 0, 0]
  up0 : ∀ t : Fin (cfgT a).N, ((cfgT a).win 2).index t = ![expA m (grid0.coords t), 0, 0]
  down0 : ∀ t : Fin (cfgT a).N, ((cfgT a).win 3).index t = ![expA m (grid0.coords t), 0, 0]
  gate1 : ∀ t : Fin (cfgT a).N, ((cfgT a).win 4).index t = ![expB m (grid0.coords t), 0, 0]
  up1 : ∀ t : Fin (cfgT a).N, ((cfgT a).win 5).index t = ![expB m (grid0.coords t), 0, 0]
  down1 : ∀ t : Fin (cfgT a).N, ((cfgT a).win 6).index t = ![expB m (grid0.coords t), 0, 0]
  count : a.1 2 = m (0, Proc.devRef .tc main_arg2)

theorem points_of (h : Routed (firstT m) (secondT m) (count m 0)) : Points m (admOf m h) where
  rows t := ix_rows h (grid0.coords t)
  gate0 t := ix_first h (grid0.coords t)
  up0 t := ix_first h (grid0.coords t)
  down0 t := ix_first h (grid0.coords t)
  gate1 t := ix_second h (grid0.coords t)
  up1 t := ix_second h (grid0.coords t)
  down1 t := ix_second h (grid0.coords t)
  count := V_count m 0

theorem out_index (t : Fin (cfgT a).N) : ((cfgT a).win 7).index t = ![t.val, 0] := by
  show cc0_transform_7 (grid0.coords t) = _
  have h := t.isLt
  have hN : t.val < 160 := h
  unfold cc0_transform_7
  simp only [coords_val]
  rw [show (BitVec.ofNat 32 t.val).toNat = t.val by rw [BitVec.toNat_ofNat]; omega]
  rfl

/-- The written blocks cover the array: block `b` is grid point `b`'s. -/
theorem out_covers : ((cfgT a).win 7).Covers := by
  refine ⟨fun k => ?_, fun β => ?_⟩
  · fin_cases k
    · exact (by decide : 0 < 256)
    · exact (by decide : 0 < 1024)
  · have n0 : ((cfgT a).win 7).nblk (0 : Fin 2) = 160 := by
      show (40960 + 256 - 1) / 256 = 160; norm_num
    have n1 : ((cfgT a).win 7).nblk (1 : Fin 2) = 1 := by
      show (1024 + 1024 - 1) / 1024 = 1; norm_num
    have hb : (β (0 : Fin 2)).val < 160 := lt_of_lt_of_eq (β (0 : Fin 2)).isLt n0
    have hb1 : (β (1 : Fin 2)).val < 1 := lt_of_lt_of_eq (β (1 : Fin 2)).isLt n1
    refine ⟨⟨(β (0 : Fin 2)).val, hb⟩, ?_, fun k => ⟨?_, .inl ?_⟩⟩
    · rw [Pipeline.Window.flush_eq_flushOf]
      unfold Pipeline.Window.flushOf
      rw [Bool.and_eq_true]
      refine ⟨rfl, ?_⟩
      by_cases hl : (β (0 : Fin 2)).val + 1 = 160
      · exact Bool.or_eq_true_iff.2 (.inl (decide_eq_true hl))
      · refine Bool.or_eq_true_iff.2 (.inr (decide_eq_true ⟨show (β (0 : Fin 2)).val + 1 < 160 by omega, fun e => ?_⟩))
        have e1 := out_index a ⟨(β (0 : Fin 2)).val + 1, show (β (0 : Fin 2)).val + 1 < 160 by omega⟩
        have e2 := out_index a ⟨(β (0 : Fin 2)).val, hb⟩
        have e3 : (![(β (0 : Fin 2)).val + 1, 0] : Fin 2 → ℕ) = ![(β (0 : Fin 2)).val, 0] := e1.symm.trans (e.trans e2)
        have := congrFun e3 0
        simp at this
    · rw [out_index]
      fin_cases k
      · rfl
      · show 0 = (β (1 : Fin 2)).val; omega
    · rfl

/-- The body's condition is the signed comparison of the grid point with the tile count. -/
theorem cond1_iff (i : grid0.Coords) (v : BitVec 32) : k0_cond1 i v = 1#1 ↔ ((i 0).val : ℤ) < v.toInt := by
  have hi : (i 0).val < 160 := (i 0).isLt
  have e : (BitVec.ofNat 32 (i 0).val).toInt = (i 0).val := by
    rw [BitVec.toInt_eq_toNat_of_lt (by simp only [BitVec.toNat_ofNat]; omega)]; simp only [BitVec.toNat_ofNat]; omega
  have e2 : k0_cond1 i v = 1#1 ↔ (BitVec.ofNat 32 (i 0).val).slt v = true := by
    unfold k0_cond1
    simp only
    show _ ↔ _
    have : (Scalar.cmpi .slt (BitVec.ofNat 32 (i 0).val) v : BitVec 1) = BitVec.ofBool ((BitVec.ofNat 32 (i 0).val).slt v) := rfl
    rw [this]
    generalize (BitVec.ofNat 32 (i 0).val).slt v = b
    revert b; decide
  rw [e2, BitVec.slt, e, decide_eq_true_iff]

variable {m a}

/-- What a grid point writes. -/
theorem point_value (h : Routed (firstT m) (secondT m) (count m 0)) (hp : Points m a) (t : Fin (cfgT a).N) (r : Fin 256) (n : Fin 1024) :
    outBlock m a 0 t (ix2 r n) = layerAt m 0 ⟨256 * t.val + r.val, by have := N160 a t; omega⟩ n := by
  have ht := N160 a t
  have hct : (grid0.coords t 0).val = t.val := coords_val t
  have hcnt : countOf (F := Ideal) (a.1 2) = count m 0 := by rw [hp.count]
  have hdiv : ((256 * t.val + r.val : ℕ) : ℤ) / 256 = t.val := by omega
  unfold outBlock outBlk layerAt layer
  simp only [hcnt, hdiv, cond1_iff, hct]
  by_cases hlt : (t.val : ℤ) < (count m 0).toInt
  · rw [if_pos hlt, if_pos hlt]
    have hn : t.val < (count m 0).toNat := by
      have hc := BitVec.toInt_eq_toNat_cond (count m 0)
      have := (count m 0).isLt
      split at hc <;> omega
    have htile : tileOf (count m 0) (grid0.coords t 0) = tileNo ⟨256 * t.val + r.val, by omega⟩ := by
      apply Fin.ext
      show min (grid0.coords t 0).val ((count m 0).toNat - 1) = (256 * t.val + r.val) / 256
      rw [hct]; omega
    have hrow : rowT m (grid0.coords t) = t.val := by
      unfold rowT; rw [hct]; omega
    have hA : expA m (grid0.coords t) = (expertNo (firstT m (Shape.Idx.ofFin (tileNo ⟨256 * t.val + r.val, by omega⟩)))).val := by
      have := expA_lt h (grid0.coords t)
      rw [← htile]
      exact (Nat.mod_eq_of_lt this).symm
    have hB : expB m (grid0.coords t) = (expertNo (secondT m (Shape.Idx.ofFin (tileNo ⟨256 * t.val + r.val, by omega⟩)))).val := by
      have := expB_lt h (grid0.coords t)
      rw [← htile]
      exact (Nat.mod_eq_of_lt this).symm
    have hx : ∀ j : Fin 640, (iblk m a 0 0 t : S256x640.Idx → Elt Ideal .i32) (ix2 r j)
        = (m (0, Proc.devRef .tc main_arg3) : S40960x640.Idx → BitVec 32) (ix2 ⟨256 * t.val + r.val, by omega⟩ j) := fun j => by
      rw [blk_rows m a 0 t ⟨t.val, ht⟩ ((hp.rows t).trans (by rw [hrow])) r j]
      exact congrFun (V_rows m 0) _
    have g0 := fun d f => (blk_gate0 m a 0 t _ ((hp.gate0 t).trans (by rw [hA])) d f).trans (V_gate m 0 _)
    have u0 := fun d f => (blk_up0 m a 0 t _ ((hp.up0 t).trans (by rw [hA])) d f).trans (V_up m 0 _)
    have d0 := fun f => (blk_down0 m a 0 t _ ((hp.down0 t).trans (by rw [hA])) f n).trans (V_down m 0 _)
    have g1 := fun d f => (blk_gate1 m a 0 t _ ((hp.gate1 t).trans (by rw [hB])) d f).trans (V_gate m 0 _)
    have u1 := fun d f => (blk_up1 m a 0 t _ ((hp.up1 t).trans (by rw [hB])) d f).trans (V_up m 0 _)
    have d1 := fun f => (blk_down1 m a 0 t _ ((hp.down1 t).trans (by rw [hB])) f n).trans (V_down m 0 _)
    refine (live_at _ _ _ _ _ _ _ r n).trans ?_
    unfold mix expertOf staged
    simp only [hx, g0, u0, d0, g1, u1, d1]
  · rw [if_neg hlt, if_neg hlt]
    exact dead_at r n

/-- THE ARRAY THE GRID POINTS WRITE. -/
theorem final (h : Routed (firstT m) (secondT m) (count m 0)) (hp : Points m a) :
    (dats m a 0 0).arrAt 7 (cfgT a).N = fun i : S40960x1024.Idx => layerAt m 0 (i 0) (i 1) := by
  refine (dats m a 0 0).arrAt_eq_of_covers 7 _ (out_covers a) fun t hf y => ?_
  have hy : ∀ y : S256x1024.Idx, ∃ (r : Fin 256) (n : Fin 1024), y = ix2 r n := fun y =>
    ⟨y 0, y 1, funext fun k => by fin_cases k <;> rfl⟩
  obtain ⟨r, n, rfl⟩ := hy y
  have e0 : ((cfgT a).win 7).index t (0 : Fin 2) = t.val := congrFun (out_index a t) (0 : Fin 2)
  have e1 : ((cfgT a).win 7).index t (1 : Fin 2) = 0 := congrFun (out_index a t) (1 : Fin 2)
  refine (point_value h hp t r n).trans (congrArg₂ (layerAt m 0) (Fin.ext ?_) (Fin.ext ?_))
  · show 256 * t.val + r.val = ((cfgT a).win 7).index t (0 : Fin 2) * 256 + 1 * r.val
    rw [e0]; omega
  · show n.val = ((cfgT a).win 7).index t (1 : Fin 2) * 1024 + 1 * n.val
    rw [e1]; omega

end Cert.ExpertsIdeal.Ffn

end
-- ==== Proof.FfnRef.lean ====
/-
  The experts' reference over the extended reals: where every tile names two different experts of the sixteen, its result is
  the layer. The reference weighs all sixteen experts; fourteen of the weights are zero, and the other two are the row's.
-/
module

public import proofs.«01_k».proof.Proof.FfnMath
public import proofs.«01_k».proof.Proof.Gen.ExpertsReferenceIdeal
public import proofs.«01_k».proof.Proof.Gen.ExpertsReferenceIdeal.Read
public import Idealize.ShloMosaic.Lib.IdealHost

@[expose] public section

set_option maxRecDepth 16384

noncomputable section

namespace Cert.Moe

open Cert.ExpertsReferenceIdeal Cert.ExpertsReferenceIdeal.Gen Cert.ExpertsReferenceIdeal.Read
open Idealize.ShloMosaic Idealize.ShloMosaic.TcCoe Idealize.ShloMosaic.Tactic

variable (x0 x1 : S160.Idx → BitVec 32) (x2 : S1.Idx → BitVec 32) (x3 : S40960x640.Idx → BitVec 32)
  (x4 x5 : S16x1024x512.Idx → EReal) (x6 : S16x512x1024.Idx → EReal)

/-- The row's numbers from the words' lower halves. -/
theorem ref_lo (r : Fin 40960) (j : Fin 512) : (val_main_v3 (F := Ideal) x3 (ix2 r j) : EReal) = lo (x3 (ix2 r ⟨j.val, by omega⟩)) := by
  rw [val_main_v3_apply, val_main_v2_apply, val_main_v0_apply, val_main_v1_apply]
  show num (x3 _ <<< (16#32)) = num (x3 _ <<< 16)
  refine congrArg (fun i => num (x3 i <<< 16)) ?_
  funext a; fin_cases a <;> rfl

/-- The row's numbers from the words' upper halves. -/
theorem ref_hi (r : Fin 40960) (j : Fin 512) : (val_main_v6 (F := Ideal) x3 (ix2 r j) : EReal) = hi (x3 (ix2 r ⟨j.val, by omega⟩)) := by
  rw [val_main_v6_apply, val_main_v5_apply, val_main_v0_apply, val_main_v4_apply]
  show num (x3 _ &&& 4294901760#32) = num (x3 _ &&& 4294901760#32)
  refine congrArg (fun i => num (x3 i &&& 4294901760#32)) ?_
  funext a; fin_cases a <;> rfl

/-- The row: the lower halves, then the upper halves. -/
theorem ref_row_lo (r : Fin 40960) (j : Fin 512) :
    (val_main_v7 (F := Ideal) x3 (ix2 r ⟨j.val, by omega⟩) : EReal) = lo (x3 (ix2 r ⟨j.val, by omega⟩)) := by
  pointwise [val_main_v7]
  exact ref_lo x3 r j
theorem ref_row_hi (r : Fin 40960) (j : Fin 512) :
    (val_main_v7 (F := Ideal) x3 (ix2 r ⟨512 + j.val, by omega⟩) : EReal) = hi (x3 (ix2 r ⟨j.val, by omega⟩)) := by
  pointwise [val_main_v7]
  exact ref_hi x3 r j

/-- A sum over 1024 in two halves. -/
theorem sum_halves (f : Fin 1024 → EReal) :
    ∑ k : Fin 1024, f k = ∑ j : Fin 512, f ⟨j.val, by omega⟩ + ∑ j : Fin 512, f ⟨512 + j.val, by omega⟩ :=
  Fin.sum_univ_add (a := 512) (b := 512) f

/-- The row against a column of an expert's matrix. -/
theorem ref_dot (r : Fin 40960) (W : Fin 1024 → EReal) :
    ∑ k : Fin 1024, W k * (val_main_v7 (F := Ideal) x3 (ix2 r k) : EReal) = proj (fun j => x3 (ix2 r ⟨j.val, by omega⟩)) W := by
  rw [sum_halves]
  unfold proj
  simp only [ref_row_lo, ref_row_hi]
  exact congrArg₂ (· + ·) (Finset.sum_congr rfl fun _ _ => mul_comm _ _) (Finset.sum_congr rfl fun _ _ => mul_comm _ _)

theorem ref_gate (e : Fin 16) (r : Fin 40960) (f : Fin 512) :
    (val_main_v24 (F := Ideal) x3 x4 (ix3 e r f) : EReal) = proj (fun j => x3 (ix2 r ⟨j.val, by omega⟩)) (fun d => x4 (ix3 e d f)) := by
  rw [val_main_v24_apply, val_main_v23_apply, ← ref_dot]
  refine Finset.sum_congr rfl fun k _ => congrArg₂ (fun i j => x4 i * (val_main_v7 (F := Ideal) x3 j : EReal)) ?_ ?_
  · funext a; fin_cases a <;> rfl
  · funext a; fin_cases a <;> rfl

theorem ref_up (e : Fin 16) (r : Fin 40960) (f : Fin 512) :
    (val_main_v27 (F := Ideal) x3 x5 (ix3 e r f) : EReal) = proj (fun j => x3 (ix2 r ⟨j.val, by omega⟩)) (fun d => x5 (ix3 e d f)) := by
  rw [val_main_v27_apply, val_main_v26_apply, ← ref_dot]
  refine Finset.sum_congr rfl fun k _ => congrArg₂ (fun i j => x5 i * (val_main_v7 (F := Ideal) x3 j : EReal)) ?_ ?_
  · funext a; fin_cases a <;> rfl
  · funext a; fin_cases a <;> rfl

/-- The hidden values. -/
theorem ref_hidden (e : Fin 16) (r : Fin 40960) (f : Fin 512) :
    (val_main_v28 (F := Ideal) x3 x4 x5 (ix3 e r f) : EReal)
      = hidden (fun j => x3 (ix2 r ⟨j.val, by omega⟩)) (fun d => x4 (ix3 e d f)) (fun d => x5 (ix3 e d f)) := by
  have h1 : ∀ i, (val_main_call2_v4 (F := Ideal) i : EReal) = 1 := fun i => by
    rw [val_main_call2_v4_apply, val_main_call2_cst_0_apply]; exact Ideal.ofBits_one_f32
  have h2 : ∀ i, (val_main_call2_v2 (F := Ideal) i : EReal) = 1 := fun i => by
    rw [val_main_call2_v2_apply, val_main_call2_cst_apply]; exact Ideal.ofBits_one_f32
  rw [val_main_v28_apply, val_main_v25_apply, val_main_call2_v5_apply, val_main_call2_v3_apply, val_main_call2_v1_apply, val_main_call2_v0_apply,
    h1, h2, ref_gate, ref_up]
  rfl

/-- One expert's output. -/
theorem ref_expert (e : Fin 16) (r : Fin 40960) (n : Fin 1024) :
    (val_main_v29 (F := Ideal) x3 x4 x5 x6 (ix3 e r n) : EReal) = expertOf x3 x4 x5 x6 e r n := by
  rw [val_main_v29_apply]
  unfold expertOf expert
  refine Finset.sum_congr rfl fun f _ => ?_
  rw [← ref_hidden]
  refine congrArg₂ (fun i j => (val_main_v28 (F := Ideal) x3 x4 x5 i : EReal) * x6 j) ?_ ?_
  · funext a; fin_cases a <;> rfl
  · funext a; fin_cases a <;> rfl

/-- One where a word names the expert, zero where it does not. -/
def isExpert (w : BitVec 32) (e : Fin 16) : EReal := if w = BitVec.ofNat 32 e.val then 1 else 0

theorem uitofp_eq (w v : BitVec 32) :
    (FloatOps.uitofp (F := Ideal) .f32 (IntOp.cmpi .eq w v) : EReal) = if w = v then 1 else 0 := by
  show (((IntOp.cmpi .eq w v).toNat : ℝ) : EReal) = _
  have e : IntOp.cmpi .eq w v = BitVec.ofBool (w == v) := rfl
  rw [e]
  by_cases h : w = v
  · rw [if_pos h, beq_iff_eq.2 h]; simp
  · rw [if_neg h, beq_false_of_ne h]; simp

/-- The two tables' indicators. -/
theorem ref_first (r : Fin 40960) (e : Fin 16) :
    (val_main_v15 (F := Ideal) x0 (ix2 r e) : EReal) = isExpert (x0 (Shape.Idx.ofFin (tileNo r))) e := by
  rw [val_main_v15_apply, val_main_call0_v4_apply, val_main_call0_v2_apply, val_main_call0_v3_apply, val_main_call0_v0_apply,
    val_main_call0_v1_apply, val_main_v11_apply, val_main_v10_apply, uitofp_eq]
  unfold isExpert
  refine congrArg (fun i => if x0 i = BitVec.ofNat 32 e.val then (1 : EReal) else 0) ?_
  funext a; fin_cases a; rfl

theorem ref_second (r : Fin 40960) (e : Fin 16) :
    (val_main_v19 (F := Ideal) x1 (ix2 r e) : EReal) = isExpert (x1 (Shape.Idx.ofFin (tileNo r))) e := by
  rw [val_main_v19_apply, val_main_call1_v4_apply, val_main_call1_v2_apply, val_main_call1_v3_apply, val_main_call1_v0_apply,
    val_main_call1_v1_apply, val_main_v13_apply, val_main_v12_apply, uitofp_eq]
  unfold isExpert
  refine congrArg (fun i => if x1 i = BitVec.ofNat 32 e.val then (1 : EReal) else 0) ?_
  funext a; fin_cases a; rfl

/-- The weight of an expert on a row. -/
theorem ref_combine (r : Fin 40960) (e : Fin 16) :
    (val_main_v22 (F := Ideal) x0 x1 x3 (ix2 r e) : EReal)
      = num (x3 (ix2 r 512)) * isExpert (x0 (Shape.Idx.ofFin (tileNo r))) e
        + num (x3 (ix2 r 513)) * isExpert (x1 (Shape.Idx.ofFin (tileNo r))) e := by
  rw [val_main_v22_apply, val_main_v17_apply, val_main_v21_apply, ref_first, ref_second, val_main_v16_apply, val_main_v20_apply,
    val_main_v14_apply, val_main_v18_apply, val_main_v9_apply, val_main_v9_apply, val_main_v8_apply, val_main_v8_apply]
  refine congrArg₂ (fun i j => num (x3 i) * isExpert (x0 (Shape.Idx.ofFin (tileNo r))) e + num (x3 j) * isExpert (x1 (Shape.Idx.ofFin (tileNo r))) e) ?_ ?_
  · funext a; fin_cases a <;> rfl
  · funext a; fin_cases a <;> rfl

/-- All sixteen experts weighed are the two named. -/
theorem sum_two (w0 w1 : EReal) (E : Fin 16 → EReal) (p q : BitVec 32) (hp : p.toNat < 16) (hq : q.toNat < 16) (hpq : p ≠ q) :
    ∑ e : Fin 16, (w0 * isExpert p e + w1 * isExpert q e) * E e = w0 * E (expertNo p) + w1 * E (expertNo q) := by
  have no : ∀ w : BitVec 32, w.toNat < 16 → ∀ e : Fin 16, (w = BitVec.ofNat 32 e.val) ↔ e = expertNo w := fun w hw e => by
    have he := e.isLt
    constructor
    · rintro rfl
      apply Fin.ext
      show e.val = (BitVec.ofNat 32 e.val).toNat % 16
      rw [BitVec.toNat_ofNat]; omega
    · rintro rfl
      apply BitVec.eq_of_toNat_eq
      show w.toNat = (BitVec.ofNat 32 (w.toNat % 16)).toNat
      rw [BitVec.toNat_ofNat]; omega
  have hne : expertNo p ≠ expertNo q := fun h => hpq (BitVec.eq_of_toNat_eq (by
    have : p.toNat % 16 = q.toNat % 16 := congrArg Fin.val h
    omega))
  unfold isExpert
  simp only [no p hp, no q hq]
  rw [Fintype.sum_eq_add (expertNo p) (expertNo q) hne fun e he => by rw [if_neg he.1, if_neg he.2]; simp]
  rw [if_pos rfl, if_neg hne, if_neg hne.symm, if_pos rfl]
  simp

/-- The reference's tile count at every row. -/
theorem ref_count (i : S40960.Idx) (j : S1.Idx) : val_main_v35 (F := Ideal) x2 i = x2 j := by
  rw [val_main_v35_apply]
  unfold val_main_v34 shapeCast
  exact congrArg x2 (funext fun a => by
    have : a = 0 := Subsingleton.elim _ _
    subst this
    exact Subsingleton.elim (α := Fin 1) _ _)

/-- Whether a row's tile is in use. -/
theorem ref_used (r : Fin 40960) (n : Fin 1024) (j : S1.Idx) :
    val_main_call3_v1 (F := Ideal) x2 (ix2 r n) = IntOp.cmpi .slt (BitVec.ofNat 32 (r.val / 256)) (x2 j) := by
  rw [val_main_call3_v1_apply, val_main_v37_apply, val_main_v36_apply, ref_count x2 _ j, val_main_v33_apply, val_main_v32_apply, val_main_v31_apply]
  rfl

/-- THE REFERENCE'S RESULT. -/
theorem ref_value (h0 : ∀ i, 0 ≤ (x0 i).toInt ∧ (x0 i).toInt < 16) (h1 : ∀ i, 0 ≤ (x1 i).toInt ∧ (x1 i).toInt < 16) (h2 : ∀ i, x0 i ≠ x1 i)
    (j : S1.Idx) (r : Fin 40960) (n : Fin 1024) :
    (val_main_v39 (F := Ideal) x0 x1 x2 x3 x4 x5 x6 (ix2 r n) : EReal) = layer x3 x4 x5 x6 x0 x1 (x2 j) r n := by
  have small : ∀ w : BitVec 32, 0 ≤ w.toInt → w.toInt < 16 → w.toNat < 16 := fun w a b => by
    have hc := BitVec.toInt_eq_toNat_cond w
    have := w.isLt
    split at hc <;> omega
  have e30 : (val_main_v30 (F := Ideal) x0 x1 x3 x4 x5 x6 (ix2 r n) : EReal)
      = mix x3 x4 x5 x6 (expertNo (x0 (Shape.Idx.ofFin (tileNo r)))) (expertNo (x1 (Shape.Idx.ofFin (tileNo r)))) r n := by
    rw [val_main_v30_apply]
    unfold mix
    rw [← sum_two _ _ (fun e => expertOf x3 x4 x5 x6 e r n) _ _ (small _ (h0 _).1 (h0 _).2)
      (small _ (h1 _).1 (h1 _).2) (h2 _)]
    refine Finset.sum_congr rfl fun e _ => ?_
    rw [← ref_combine, ← ref_expert]
    refine congrArg₂ (fun i k => (val_main_v22 (F := Ideal) x0 x1 x3 i : EReal) * (val_main_v29 (F := Ideal) x3 x4 x5 x6 k : EReal)) ?_ ?_
    · funext a; fin_cases a <;> rfl
    · funext a; fin_cases a <;> rfl
  have ez : (val_main_call3_v2 (F := Ideal) (ix2 r n) : EReal) = 0 := by
    rw [val_main_call3_v2_apply, val_main_call3_v0_apply]
    exact Ideal.ofBits_zero_f32
  have hr : r.val / 256 < 160 := by omega
  have et : (BitVec.ofNat 32 (r.val / 256)).toInt = (r.val / 256 : ℕ) := by
    rw [BitVec.toInt_eq_toNat_of_lt (by simp only [BitVec.toNat_ofNat]; omega)]; simp only [BitVec.toNat_ofNat]; omega
  have ec : IntOp.cmpi .slt (BitVec.ofNat 32 (r.val / 256)) (x2 j) = BitVec.ofBool ((BitVec.ofNat 32 (r.val / 256)).slt (x2 j)) := rfl
  rw [val_main_v39_apply, val_main_v38_apply, ref_used x2 r n j, e30, ez, ec, BitVec.slt, et]
  unfold layer
  by_cases hlt : ((r.val / 256 : ℕ) : ℤ) < (x2 j).toInt
  · rw [if_pos (by push_cast at hlt; exact hlt), decide_eq_true hlt]; rfl
  · rw [if_neg (by push_cast at hlt; exact hlt), decide_eq_false hlt]; rfl

end Cert.Moe

end
-- ==== Proof.FfnAlgebraic.lean ====
/-
  The experts' value claim: over the extended reals the kernel and the reference end with the same result, the layer.
-/
module

public import proofs.«01_k».proof.Proof.FfnFrames
public import proofs.«01_k».proof.Proof.FfnValue
public import proofs.«01_k».proof.Proof.FfnRef

@[expose] public section

set_option maxRecDepth 16384

noncomputable section

namespace Cert.Moe

open Idealize.ShloMosaic Idealize.ShloMosaic.TcCoe Idealize.SL.Sem

/-- The reference's whole result on the kernel's arguments. -/
theorem ref_result [Cert.Pre_routed.Facts]
    (m : (ℓ : Loc Cert.ExpertsIdeal.nD Cert.ExpertsIdeal.τ Cert.ExpertsIdeal.sig) → Buf (Elt Ideal) ℓ) (h : Cert.Pre_ExpertsIdeal_routed m)
    (c : Dev Cert.ExpertsIdeal.nD) :
    (Cert.ExpertsReferenceIdeal.Read.val_main_v39 (F := Ideal) (m (c, Proc.devRef .tc Cert.ExpertsIdeal.main_arg0))
      (m (c, Proc.devRef .tc Cert.ExpertsIdeal.main_arg1)) (m (c, Proc.devRef .tc Cert.ExpertsIdeal.main_arg2))
      (m (c, Proc.devRef .tc Cert.ExpertsIdeal.main_arg3)) (m (c, Proc.devRef .tc Cert.ExpertsIdeal.main_arg4))
      (m (c, Proc.devRef .tc Cert.ExpertsIdeal.main_arg5)) (m (c, Proc.devRef .tc Cert.ExpertsIdeal.main_arg6))
        : Cert.ExpertsReferenceIdeal.S40960x1024.Idx → EReal)
      = fun i => Cert.ExpertsIdeal.Ffn.layerAt m c (i 0) (i 1) := by
  obtain ⟨h0, h1, -, h2⟩ := routed_all _ _ _ _ _ _ _ (h c)
  funext i
  have hi : i = ix2 (i 0) (i 1) := funext fun k => by fin_cases k <;> rfl
  refine (congrArg _ hi).trans ?_
  exact ref_value _ _ _ _ _ _ _ h0 h1 h2 _ (i 0) (i 1)

/-- Where every tile names two different experts of the sixteen, and at least one tile is in use, the
    kernel's result is the reference's. -/
theorem algebraic_experts [Cert.Pre_routed.Facts] : Cert.algebraic_ExpertsIdeal_ExpertsReferenceIdeal_pre_routed := by
  intro m g m' g' hpre hagree
  have hr := routed_ideal m hpre
  refine ⟨fun c => (Cert.ExpertsIdeal.Ffn.dats m (Cert.ExpertsIdeal.Ffn.admOf m hr) 0 c).arrAt 7
    (Cert.ExpertsIdeal.Ffn.cfgT (Cert.ExpertsIdeal.Ffn.admOf m hr)).N, ?_, ?_⟩
  · exact (θ_run Cert.ExpertsIdeal.defs _ _).mono (fun r h c => h.1 c)
      (Cert.ExpertsIdeal.Ffn.run_end m g (Cert.ExpertsIdeal.Ffn.admOf m hr) (Cert.ExpertsIdeal.Ffn.admOf_eq m hr))
  · refine (θ_run Cert.ExpertsReferenceIdeal.defs _ _).mono (fun r h c => ⟨(h c).1.trans ?_, (h c).2⟩)
      (Cert.ExpertsReferenceIdeal.Value.run (F := Ideal) m' g')
    obtain rfl : c = 0 := Subsingleton.elim _ _
    obtain ⟨a0, a1, a2, a3, a4, a5, a6⟩ := hagree 0
    refine (Cert.ExpertsReferenceIdeal.Read.val_main_v39_eq _ _).trans ?_
    rw [a0, a1, a2, a3, a4, a5, a6]
    exact (ref_result m hpre 0).trans (Cert.ExpertsIdeal.Ffn.final hr (Cert.ExpertsIdeal.Ffn.points_of m hr)).symm

end Cert.Moe

end
-- ==== Proof.ProjFrames.lean ====
/-
  The frames of the projection's programs: every run leaves the arguments as they were and every semaphore at zero. The
  kernel and its idealization have one text, so the run over any float values serves both.
-/
module

public import proofs.«01_k».proof.Defs
public import proofs.«01_k».proof.Proof.Gen.Projection
public import proofs.«01_k».proof.Proof.Gen.ProjectionIdeal.Frame
public import proofs.«01_k».proof.Proof.Gen.ProjectionReferenceIdeal
public import proofs.«01_k».proof.Proof.Gen.ProjectionReferenceIdeal.Run
public import Idealize.ShloMosaic.Lib.Claim

@[expose] public section

set_option maxRecDepth 4000
set_option maxHeartbeats 4000000

noncomputable section

namespace Cert.Proj

open Idealize.ShloMosaic Idealize.ShloMosaic.TcCoe Idealize.SL.Sem

section Same

variable {F : FTy → Type} [FloatOps F]

/-- The two programs print the same kernel function, so the same table of bodies. -/
theorem defs₀_same : @Cert.Projection.defs₀ F _ _ = @Cert.ProjectionIdeal.defs₀ F _ _ :=
  congrArg Defs.onTc (funext fun l => funext fun a => match l, a with
    | 0, (_, _) => rfl)

/-- The same table with the pipeline's own labels. -/
theorem defs_same : @Cert.Projection.defs F _ _ = @Cert.ProjectionIdeal.defs F _ _ :=
  congrArg (Pipeline.defs Cert.ProjectionIdeal.pcfgs) defs₀_same

/-- The two host functions print the same statements. -/
theorem main_same : @Cert.Projection.main F _ _ = @Cert.ProjectionIdeal.main F _ _ := by
  funext d
  unfold Cert.Projection.main Cert.ProjectionIdeal.main
  rfl

end Same

/-- The idealized kernel's frame. -/
theorem frame_projectionIdeal : Cert.quiescent_ProjectionIdeal := fun m ρ _ => Cert.ProjectionIdeal.Gen.frame (F := Ideal) m ρ

/-- The kernel's frame: the two programs have the same text. -/
theorem frame_projection : Cert.quiescent_Projection := fun m ρ _ => by
  rw [defs_same, main_same]
  exact Cert.ProjectionIdeal.Gen.frame (F := Bits) m ρ

/-- The reference's frame: it is host code alone and has no semaphore. -/
theorem frame_projectionReference : Cert.quiescent_ProjectionReferenceIdeal := fun m ρ _ =>
  (θ_run Cert.ProjectionReferenceIdeal.defs _ _).mono
    (fun r h => ⟨fun c => (h c).2.2.2.2, Idealize.ShloMosaic.sem_eq_zero_of_no_sems (by decide) r.2⟩)
    (Cert.ProjectionReferenceIdeal.Value.run (F := Ideal) m ρ)

end Cert.Proj

end
-- ==== Proof.ProjBlock.lean ====
/-
  One grid point of the input projection: the modulated norm of its 256 tokens times the weights, and the queries and
  keys normed by head and turned by their positions' angles.
-/
module

public import proofs.«01_k».proof.Proof.Gen.ProjectionIdeal.Frame
public import Idealize.ShloMosaic.Lib.Pointwise
public import Idealize.ShloMosaic.Lib.WholeRead
public import Idealize.ShloMosaic.Lib.Pipeline.ValueKit

@[expose] public section

set_option maxRecDepth 16384

noncomputable section

namespace Cert.ProjectionIdeal.Proj

open Cert.ProjectionIdeal Cert.ProjectionIdeal.Gen
open Idealize.ShloMosaic Idealize.ShloMosaic.TcCoe Idealize.ShloMosaic.Tactic

/-- A vector over the square root of its mean square, times a gain. -/
def rms {n : ℕ} (c : EReal) (t g : Fin n → EReal) (d : Fin n) : EReal :=
  t d * Ideal.rsqrt (Ideal.div (∑ k, t k * t k) c + Ideal.ofBits .f32 0x358637BD#32) * g d

/-- A normed vector, modulated. -/
def modn (t g sh sc : Fin 1024 → EReal) (d : Fin 1024) : EReal :=
  rms (Ideal.ofBits .f32 0x44800000#32) t g d * (Ideal.ofBits .f32 0x3F800000#32 + sc d) + sh d

/-- The rotation of a head's 64 coordinates: in each half, the first sixteen paired with the last sixteen. -/
def rope (t tab : Fin 64 → EReal) (d : Fin 64) : EReal :=
  if h : d.val % 32 < 16 then t d * tab d - t ⟨d.val + 16, by omega⟩ * tab ⟨d.val + 16, by omega⟩
  else t d * tab ⟨d.val - 16, by omega⟩ + t ⟨d.val - 16, by omega⟩ * tab d

/-- The projection of a token. -/
theorem pay3_apply (v0 : Vec Ideal S1x256x1024 .f32) (v2 : Vec Ideal S1x1024 .f32) (v4 v6 : Vec Ideal S1x1x1024 .f32)
    (v26 : Vec Ideal S2304x1024 .bf16) (p : Fin 2304) (l : Fin 256) :
    k0_pay3 v0 v2 v4 v6 v26 (ix2 p l) = (∑ k : Fin 1024, v26 (ix2 p k)
      * modn (fun k => v0 (ix3 0 l k)) (fun k => v2 (ix2 0 k)) (fun k => v4 (ix3 0 0 k)) (fun k => v6 (ix3 0 0 k)) k : EReal) := by
  pointwise [k0_pay3, modn, rms]

/-- The rotation quarter by quarter. -/
theorem rope_quarters (t tab : Fin 64 → EReal) (d : Fin 64) :
    rope t tab d = if h : d.val < 16 then t ⟨d.val, by omega⟩ * tab ⟨d.val, by omega⟩ - t ⟨16 + d.val, by omega⟩ * tab ⟨16 + d.val, by omega⟩
      else if h : d.val - 16 < 16 then t ⟨16 + (d.val - 16), by omega⟩ * tab ⟨d.val - 16, by omega⟩ + t ⟨d.val - 16, by omega⟩ * tab ⟨16 + (d.val - 16), by omega⟩
      else if h : d.val - 16 - 16 < 16 then
        t ⟨32 + (d.val - 16 - 16), by omega⟩ * tab ⟨32 + (d.val - 16 - 16), by omega⟩ - t ⟨48 + (d.val - 16 - 16), by omega⟩ * tab ⟨48 + (d.val - 16 - 16), by omega⟩
      else t ⟨48 + (d.val - 16 - 16 - 16), by omega⟩ * tab ⟨32 + (d.val - 16 - 16 - 16), by omega⟩
        + t ⟨32 + (d.val - 16 - 16 - 16), by omega⟩ * tab ⟨48 + (d.val - 16 - 16 - 16), by omega⟩ := by
  have key : ∀ (f : Fin 64 → EReal) (a b : Fin 64), a.val = b.val → f a = f b := fun f a b h => congrArg f (Fin.ext h)
  have hd := d.isLt
  unfold rope
  split_ifs <;> first
    | omega
    | refine congrArg₂ (· - ·) (congrArg₂ (· * ·) (key _ _ _ ?_) (key _ _ _ ?_)) (congrArg₂ (· * ·) (key _ _ _ ?_) (key _ _ _ ?_)) <;> simp only <;> omega
    | refine congrArg₂ (· + ·) (congrArg₂ (· * ·) (key _ _ _ ?_) (key _ _ _ ?_)) (congrArg₂ (· * ·) (key _ _ _ ?_) (key _ _ _ ?_)) <;> simp only <;> omega

/-- The queries a grid point writes. -/
theorem pay9_apply (v29 : FVec Ideal S2304x256 .f32) (v30 : Vec Ideal S64x256 .f32) (v41 : Vec Ideal S64x1 .f32) (h : Fin 8) (d : Fin 64) (l : Fin 256) :
    k0_pay9 v29 (k0_pay4 v30) (k0_pay5 v30) (k0_pay6 v30) (k0_pay7 v30) v41 (ix4 0 h d l)
      = (rope (rms (Ideal.ofBits .f32 0x42800000#32) (fun d => v29 (ix2 (⟨h.val * 64 + d.val, by omega⟩ : Fin 2304) l)) (fun d => v41 (ix2 d 0)))
          (fun d => v30 (ix2 d l)) d * Ideal.ofBits .f32 0x3E38AA3B#32 : EReal) := by
  rw [rope_quarters]
  pointwise [k0_pay9, k0_pay8, k0_pay4, k0_pay5, k0_pay6, k0_pay7, rms]

/-- The keys of both groups. -/
theorem pay10_apply (v29 : FVec Ideal S2304x256 .f32) (v30 : Vec Ideal S64x256 .f32) (v89 : Vec Ideal S64x1 .f32) (g : Fin 2) (d : Fin 64) (l : Fin 256) :
    k0_pay10 v29 (k0_pay5 v30) (k0_pay6 v30) (k0_pay7 v30) (k0_pay8 (k0_pay4 v30)) v89 (ix2 l (⟨g.val * 64 + d.val, by omega⟩ : Fin 128))
      = (rope (rms (Ideal.ofBits .f32 0x42800000#32) (fun d => v29 (ix2 (⟨512 + (g.val * 64 + d.val), by omega⟩ : Fin 2304) l)) (fun d => v89 (ix2 d 0)))
          (fun d => v30 (ix2 d l)) d : EReal) := by
  rw [rope_quarters]
  pointwise [k0_pay10, k0_pay8, k0_pay4, k0_pay5, k0_pay6, k0_pay7, rms]

/-- The first group's keys. -/
theorem pay11_apply (v29 : FVec Ideal S2304x256 .f32) (a b c e : FVec Ideal S1x16x256 .f32) (v89 : Vec Ideal S64x1 .f32) (d : Fin 64) (l : Fin 256) :
    k0_pay11 v29 a b c e v89 (ix5 0 0 0 l d) = k0_pay10 v29 a b c e v89 (ix2 l (⟨(0 : Fin 2).val * 64 + d.val, by show 0 * 64 + _ < _; omega⟩ : Fin 128)) := by
  refine Eq.trans (b := k0_pay10 v29 a b c e v89 (ix2 l (⟨d.val, by omega⟩ : Fin 128))) ?_ (congrArg (fun z => k0_pay10 v29 a b c e v89 (ix2 l z)) (Fin.ext (show d.val = 0 * 64 + d.val by omega)))
  unfold k0_pay11
  generalize k0_pay10 v29 a b c e v89 = K
  pointwise

/-- The second group's keys. -/
theorem pay12_apply (K : FVec Ideal S256x128 .f32) (d : Fin 64) (l : Fin 256) :
    k0_pay12 K (ix5 0 0 0 l d) = K (ix2 l (⟨(1 : Fin 2).val * 64 + d.val, by show 1 * 64 + _ < _; omega⟩ : Fin 128)) := by
  pointwise [k0_pay12]

/-- Element `p` of a token's projection, of the blocks of a grid point. -/
def prj (x0 : S1x256x1024.Idx → EReal) (x1 : S1x6x1024.Idx → EReal) (x2 : S1x1024.Idx → EReal) (x3 : S2304x1024.Idx → EReal) (p : Fin 2304) (l : Fin 256) : EReal :=
  ∑ k : Fin 1024, x3 (ix2 p k) * modn (fun k => x0 (ix3 0 l k)) (fun k => x2 (ix2 0 k)) (fun k => x1 (ix3 0 0 k)) (fun k => x1 (ix3 0 1 k)) k

/-- A load of a whole buffer at its contents. -/
theorem rd {S : Shape} {e : EltTy} {a : Memref sig .tc .vmem S e} (h : a.IsWhole) (X : S.Idx → Elt Ideal e) (r : Rect S) :
    View.readAt (Elt Ideal) a.view r.toLoadRect (h.unread X) = View.ld X r := funext fun x => h.readAt_unread X _ x

/-- Reading the whole block of a gain gives the block. -/
theorem ld_gain (X : S64x1.Idx → EReal) : View.ld (Val := Elt Ideal) (e' := .f32) X (Rect.unit (s := S64x1) ![0, 0] S64x1.size inb_S64x1_S64x1_0_0) = X :=
  funext fun x => View.ld_unit_apply_of (Val := Elt Ideal) (e := .f32) X _ _ _ x x fun a => by fin_cases a <;> exact (Nat.zero_add _).symm

/-- Reading the whole block of the rotary table gives the block. -/
theorem ld_table (X : S64x256.Idx → EReal) : View.ld (Val := Elt Ideal) (e' := .f32) X (Rect.unit (s := S64x256) ![0, 0] S64x256.size inb_S64x256_S64x256_0_0) = X :=
  funext fun x => View.ld_unit_apply_of (Val := Elt Ideal) (e := .f32) X _ _ _ x x fun a => by fin_cases a <;> exact (Nat.zero_add _).symm

variable (c : Dev nD) (i : grid0.Coords) (arg2 : Memref sig .tc .vmem S1x256x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S2304x1024 .bf16) (harg5 : arg5.IsWhole) (arg6 : Memref sig .tc .vmem S64x1 .f32) (harg6 : arg6.IsWhole) (arg7 : Memref sig .tc .vmem S64x1 .f32) (harg7 : arg7.IsWhole) (arg8 : Memref sig .tc .vmem S64x256 .f32) (harg8 : arg8.IsWhole) (arg9 : Memref sig .tc .vmem S1x8x64x256 .bf16) (harg9 : arg9.IsWhole) (arg10 : Memref sig .tc .vmem S1x2x1x256x80 .bf16) (harg10 : arg10.IsWhole) (arg11 : Memref sig .tc .vmem S1x2x1x80x256 .bf16) (harg11 : arg11.IsWhole) (arg12 : Memref sig .tc .vmem S1x1x1536x256 .bf16) (harg12 : arg12.IsWhole)
    (x0 : Vec Ideal S1x256x1024 .f32) (x1 : Vec Ideal S1x6x1024 .f32) (x2 : Vec Ideal S1x1024 .f32) (x3 : Vec Ideal S2304x1024 .bf16) (x4 : Vec Ideal S64x1 .f32) (x5 : Vec Ideal S64x1 .f32) (x6 : Vec Ideal S64x256 .f32)

/-- The projection as the body computes it. -/
theorem proj_at (p : Fin 2304) (l : Fin 256) :
    kernelRun0_A.sl.r c arg2 harg2 arg3 harg3 arg4 harg4 arg5 harg5 x0 x1 x2 x3 (ix2 p l) = prj x0 x1 x2 x3 p l := by
  unfold kernelRun0_A.sl.r
  rw [pay3_apply]
  simp only [rd]
  pointwise [prj]

/-- The block of queries. -/
theorem q_block (h : Fin 8) (d : Fin 64) (l : Fin 256) : out0_A_7 c i arg2 harg2 arg3 harg3 arg4 harg4 arg5 harg5 arg6 harg6 arg7 harg7 arg8 harg8 arg9 harg9 arg10 harg10 arg11 harg11 arg12 harg12 x0 x1 x2 x3 x4 x5 x6 (ix4 0 h d l)
    = (rope (rms (Ideal.ofBits .f32 0x42800000#32) (fun d => prj x0 x1 x2 x3 (⟨h.val * 64 + d.val, by omega⟩ : Fin 2304) l) (fun d => x4 (ix2 d 0)))
          (fun d => x6 (ix2 d l)) d * Ideal.ofBits .f32 0x3E38AA3B#32 : EReal) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  canon_tiles y hy using cover0_A_7 c i arg2 harg2 arg3 harg3 arg4 harg4 arg5 harg5 arg6 harg6 arg7 harg7 arg8 harg8 arg9 harg9 arg10 harg10 arg11 harg11 arg12 harg12 x0 x1 x2 x3 x4 x5 x6 _
  obtain rfl : y = ix4 0 h d l := by
    funext a; fin_cases a
    exacts [Fin.ext hy0.symm, Fin.ext hy1.symm, Fin.ext hy2.symm, Fin.ext hy3.symm]
  unfold kernelRun0_A.sl.r_6 kernelRun0_A.sl.r_1 kernelRun0_A.sl.r_2 kernelRun0_A.sl.r_3 kernelRun0_A.sl.r_4
  rw [pay9_apply]
  simp only [proj_at, rd]
  rw [ld_gain, ld_table]

/-- The block of keys. -/
theorem k_block (g : Fin 2) (d : Fin 64) (l : Fin 256) : out0_A_8 c i arg2 harg2 arg3 harg3 arg4 harg4 arg5 harg5 arg6 harg6 arg7 harg7 arg8 harg8 arg9 harg9 arg10 harg10 arg11 harg11 arg12 harg12 x0 x1 x2 x3 x4 x5 x6 (ix5 0 g 0 l (⟨d.val, by omega⟩ : Fin 80))
    = (rope (rms (Ideal.ofBits .f32 0x42800000#32) (fun d => prj x0 x1 x2 x3 (⟨512 + (g.val * 64 + d.val), by omega⟩ : Fin 2304) l) (fun d => x5 (ix2 d 0)))
          (fun d => x6 (ix2 d l)) d : EReal) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  canon_tiles y hy using cover0_A_8 c i arg2 harg2 arg3 harg3 arg4 harg4 arg5 harg5 arg6 harg6 arg7 harg7 arg8 harg8 arg9 harg9 arg10 harg10 arg11 harg11 arg12 harg12 x0 x1 x2 x3 x4 x5 x6 _
  · change d.val = 64 + (y 4).val at hy4
    omega
  · change g.val = 1 + (y 1).val at hy1
    obtain rfl : g = 1 := Fin.ext (by show g.val = 1; omega)
    obtain rfl : y = ix5 0 0 0 l d := by
      funext a; fin_cases a
      exacts [Fin.ext hy0.symm, Fin.ext (show (y 1).val = 0 by omega), Fin.ext hy2.symm, Fin.ext hy3.symm, Fin.ext hy4.symm]
    unfold kernelRun0_A.sl.r_7 kernelRun0_A.sl.r_2 kernelRun0_A.sl.r_3 kernelRun0_A.sl.r_4 kernelRun0_A.sl.r_5 kernelRun0_A.sl.r_1
    rw [pay12_apply, pay10_apply]
    simp only [proj_at, rd]
    rw [ld_gain, ld_table]
  · change g.val = (y 1).val at hy1
    obtain rfl : g = 0 := Fin.ext (by show g.val = 0; omega)
    obtain rfl : y = ix5 0 0 0 l d := by
      funext a; fin_cases a
      exacts [Fin.ext hy0.symm, Fin.ext hy1.symm, Fin.ext hy2.symm, Fin.ext hy3.symm, Fin.ext hy4.symm]
    unfold kernelRun0_A.sl.r_8 kernelRun0_A.sl.r_2 kernelRun0_A.sl.r_3 kernelRun0_A.sl.r_4 kernelRun0_A.sl.r_5 kernelRun0_A.sl.r_1
    rw [pay11_apply, pay10_apply]
    simp only [proj_at, rd]
    rw [ld_gain, ld_table]

/-- The block of values. -/
theorem v_block (g : Fin 2) (d : Fin 64) (l : Fin 256) : out0_A_9 c i arg2 harg2 arg3 harg3 arg4 harg4 arg5 harg5 arg6 harg6 arg7 harg7 arg8 harg8 arg9 harg9 arg10 harg10 arg11 harg11 arg12 harg12 x0 x1 x2 x3 x4 x5 x6 (ix5 0 g 0 (⟨d.val, by omega⟩ : Fin 80) l)
    = prj x0 x1 x2 x3 (⟨640 + (g.val * 64 + d.val), by omega⟩ : Fin 2304) l := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  canon_tiles y hy using cover0_A_9 c i arg2 harg2 arg3 harg3 arg4 harg4 arg5 harg5 arg6 harg6 arg7 harg7 arg8 harg8 arg9 harg9 arg10 harg10 arg11 harg11 arg12 harg12 x0 x1 x2 x3 x4 x5 x6 _
  · change d.val = 64 + (y 3).val at hy3
    omega
  · obtain rfl : y = ix5 0 g 0 d l := by
      funext a; fin_cases a
      exacts [Fin.ext hy0.symm, Fin.ext hy1.symm, Fin.ext hy2.symm, Fin.ext hy3.symm, Fin.ext hy4.symm]
    refine Eq.trans ?_ (proj_at c arg2 harg2 arg3 harg3 arg4 harg4 arg5 harg5 x0 x1 x2 x3 _ _)
    pointwise [k0_pay14]

/-- The block of the feed-forward's columns. -/
theorem u_block (d : Fin 1536) (l : Fin 256) : out0_A_10 c i arg2 harg2 arg3 harg3 arg4 harg4 arg5 harg5 arg6 harg6 arg7 harg7 arg8 harg8 arg9 harg9 arg10 harg10 arg11 harg11 arg12 harg12 x0 x1 x2 x3 x4 x5 x6 (ix4 0 0 d l)
    = prj x0 x1 x2 x3 (⟨768 + d.val, by omega⟩ : Fin 2304) l := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  canon_tiles y hy using cover0_A_10 c i arg2 harg2 arg3 harg3 arg4 harg4 arg5 harg5 arg6 harg6 arg7 harg7 arg8 harg8 arg9 harg9 arg10 harg10 arg11 harg11 arg12 harg12 x0 x1 x2 x3 x4 x5 x6 _
  obtain rfl : y = ix4 0 0 d l := by
    funext a; fin_cases a
    exacts [Fin.ext hy0.symm, Fin.ext hy1.symm, Fin.ext hy2.symm, Fin.ext hy3.symm]
  refine Eq.trans ?_ (proj_at c arg2 harg2 arg3 harg3 arg4 harg4 arg5 harg5 x0 x1 x2 x3 _ _)
  pointwise [k0_pay2]

end Cert.ProjectionIdeal.Proj

end
-- ==== Proof.ProjFinal.lean ====
/-
  The arrays the grid points of the input projection write, block by block, and the blocks they read.
-/
module

public import proofs.«01_k».proof.Proof.ProjBlock

@[expose] public section

set_option maxRecDepth 16384

noncomputable section

namespace Cert.ProjectionIdeal.Proj

open Cert.ProjectionIdeal Cert.ProjectionIdeal.Gen
open Idealize.ShloMosaic Idealize.ShloMosaic.TcCoe Idealize.ShloMosaic.Tactic

/-- The blocks each grid point reads and writes: point `t` is batch `t / 16`, tile `t % 16`. -/
theorem idx : ∀ t : Fin cfg0.N, win0_0.index t = ![t.val / 16, t.val % 16, 0]
    ∧ win0_1.index t = ![t.val / 16, 0, 0] ∧ win0_2.index t = ![0, 0] ∧ win0_3.index t = ![0, 0] ∧ win0_4.index t = ![0, 0]
    ∧ win0_5.index t = ![0, 0] ∧ win0_6.index t = ![0, t.val % 16] ∧ win0_7.index t = ![t.val / 16, 0, 0, t.val % 16]
    ∧ win0_8.index t = ![t.val / 16, 0, t.val % 16, 0, 0] ∧ win0_9.index t = ![t.val / 16, 0, t.val % 16, 0, 0]
    ∧ win0_10.index t = ![t.val / 16, t.val % 16, 0, 0] ∧ t.val < 128 :=
  (by decide +kernel : ∀ t : Fin grid0.N, _)

/-- There are 128 grid points. -/
theorem N128 (t : Fin cfg0.N) : t.val < 128 := (idx t).2.2.2.2.2.2.2.2.2.2.2

variable (m : (ℓ : Loc nD τ sig) → Buf (Elt Ideal) ℓ) (c : Dev nD)

/-- The batch of a grid point. -/
def pb (t : Fin cfg0.N) : Fin 8 := ⟨t.val / 16, by have := N128 t; omega⟩

/-- The block of the tokens at a grid point: 256 rows of its batch. -/
theorem iblk0 (t : Fin cfg0.N) (l : Fin 256) (k : Fin 1024) :
    (iblk m c 0 t : S1x256x1024.Idx → Elt Ideal .f32) (ix3 0 l k)
      = (V m c main_arg0 : S8x4096x1024.Idx → Elt Ideal .f32) (ix3 (pb t) (⟨256 * (t.val % 16) + l.val, by omega⟩ : Fin 4096) k) := by
  unfold pb
  blk_ext [iblk, idx t]

/-- The block of the modulation: the six rows of the batch. -/
theorem iblk1 (t : Fin cfg0.N) (n : Fin 6) (k : Fin 1024) :
    (iblk m c 1 t : S1x6x1024.Idx → Elt Ideal .f32) (ix3 0 n k)
      = (V m c main_arg1 : S16x6x1024.Idx → Elt Ideal .f32) (ix3 (⟨(pb t).val, by omega⟩ : Fin 16) n k) := by
  unfold pb
  blk_ext [iblk, idx t]

/-- The block of the norm's gain is the whole gain. -/
theorem iblk2 (t : Fin cfg0.N) (k : Fin 1024) :
    (iblk m c 2 t : S1x1024.Idx → Elt Ideal .f32) (ix2 0 k) = (V m c main_v0 : S1x1024.Idx → Elt Ideal .f32) (ix2 0 k) := by
  blk_ext [iblk, idx t]

/-- The block of the weights is the whole of them. -/
theorem iblk3 (t : Fin cfg0.N) (p : Fin 2304) (k : Fin 1024) :
    (iblk m c 3 t : S2304x1024.Idx → Elt Ideal .bf16) (ix2 p k) = (V m c main_v2 : S2304x1024.Idx → Elt Ideal .bf16) (ix2 p k) := by
  blk_ext [iblk, idx t]

/-- The block of the queries' gain is the whole gain. -/
theorem iblk4 (t : Fin cfg0.N) (d : Fin 64) :
    (iblk m c 4 t : S64x1.Idx → Elt Ideal .f32) (ix2 d 0) = (V m c main_v3 : S64x1.Idx → Elt Ideal .f32) (ix2 d 0) := by
  blk_ext [iblk, idx t]

/-- The block of the keys' gain is the whole gain. -/
theorem iblk5 (t : Fin cfg0.N) (d : Fin 64) :
    (iblk m c 5 t : S64x1.Idx → Elt Ideal .f32) (ix2 d 0) = (V m c main_v4 : S64x1.Idx → Elt Ideal .f32) (ix2 d 0) := by
  blk_ext [iblk, idx t]

/-- The block of the rotary table: the columns of the grid point's 256 positions. -/
theorem iblk6 (t : Fin cfg0.N) (d : Fin 64) (l : Fin 256) :
    (iblk m c 6 t : S64x256.Idx → Elt Ideal .f32) (ix2 d l)
      = (V m c main_v30 : S64x4096.Idx → Elt Ideal .f32) (ix2 d (⟨256 * (t.val % 16) + l.val, by omega⟩ : Fin 4096)) := by
  blk_ext [iblk, idx t]

/-- The grid point of a batch and a tile. -/
def pt (b i : ℕ) : Fin cfg0.N := ⟨(b * 16 + i) % 128, (Nat.mod_lt _ (by decide) : _ < 128)⟩

/-- A grid point is the one of its batch and tile. -/
theorem pt_eq (t : Fin cfg0.N) {b i : ℕ} (hb : b = t.val / 16) (hi : i = t.val % 16) : t = pt b i :=
  Fin.ext (by have := N128 t; show t.val = (b * 16 + i) % 128; omega)

/-- A coordinate is recovered from a number with its remainder. -/
theorem ofNat_eq {n : ℕ} [NeZero n] (y : Fin n) {a : ℕ} (h : a % n = y.val) : y = Fin.ofNat n a := Fin.ext h.symm

/-- The queries' array. -/
theorem final7 : (dats m 0 c).arrAt 7 cfg0.N = fun i : S8x8x64x4096.Idx =>
    ((outsAt0 m c (pt (i 0).val ((i 3).val / 256))).1 : S1x8x64x256.Idx → EReal)
      (ix4 0 (Fin.ofNat 8 (i 1).val) (Fin.ofNat 64 (i 2).val) (Fin.ofNat 256 (i 3).val)) := by
  refine (dats m 0 c).arrAt_eq_of_covers 7 _ (by decide +kernel) fun t hf y => ?_
  blk_simp
  rw [after0_7]
  generalize outsAt0 m c = O
  idx_vars y
  obtain rfl : y0 = 0 := Subsingleton.elim _ _
  obtain ⟨-, -, -, -, -, -, -, e, -⟩ := idx t
  rw [show win0_7.index t 0 = t.val / 16 from congrFun e 0, show win0_7.index t 1 = 0 from congrFun e 1, show win0_7.index t 2 = 0 from congrFun e 2, show win0_7.index t 3 = t.val % 16 from congrFun e 3]
  have h3 : y3.val < 256 := y3.isLt
  rw [← pt_eq t (by omega) (by omega), ← ofNat_eq y1 (by omega), ← ofNat_eq y2 (by omega), ← ofNat_eq y3 (by omega)]

/-- The keys' array. -/
theorem final8 : (dats m 0 c).arrAt 8 cfg0.N = fun i : S8x2x16x256x80.Idx =>
    ((outsAt0 m c (pt (i 0).val (i 2).val)).2.1 : S1x2x1x256x80.Idx → EReal)
      (ix5 0 (Fin.ofNat 2 (i 1).val) 0 (Fin.ofNat 256 (i 3).val) (Fin.ofNat 80 (i 4).val)) := by
  refine (dats m 0 c).arrAt_eq_of_covers 8 _ (by decide +kernel) fun t hf y => ?_
  blk_simp
  rw [after0_8]
  generalize outsAt0 m c = O
  idx_vars y
  obtain rfl : y0 = 0 := Subsingleton.elim _ _
  obtain rfl : y2 = 0 := Subsingleton.elim _ _
  obtain ⟨-, -, -, -, -, -, -, -, e, -⟩ := idx t
  rw [show win0_8.index t 0 = t.val / 16 from congrFun e 0, show win0_8.index t 1 = 0 from congrFun e 1, show win0_8.index t 2 = t.val % 16 from congrFun e 2, show win0_8.index t 3 = 0 from congrFun e 3, show win0_8.index t 4 = 0 from congrFun e 4]
  rw [← pt_eq t (by omega) (by omega), ← ofNat_eq y1 (by omega), ← ofNat_eq y3 (by omega), ← ofNat_eq y4 (by omega)]

/-- The values' array. -/
theorem final9 : (dats m 0 c).arrAt 9 cfg0.N = fun i : S8x2x16x80x256.Idx =>
    ((outsAt0 m c (pt (i 0).val (i 2).val)).2.2.1 : S1x2x1x80x256.Idx → EReal)
      (ix5 0 (Fin.ofNat 2 (i 1).val) 0 (Fin.ofNat 80 (i 3).val) (Fin.ofNat 256 (i 4).val)) := by
  refine (dats m 0 c).arrAt_eq_of_covers 9 _ (by decide +kernel) fun t hf y => ?_
  blk_simp
  rw [after0_9]
  generalize outsAt0 m c = O
  idx_vars y
  obtain rfl : y0 = 0 := Subsingleton.elim _ _
  obtain rfl : y2 = 0 := Subsingleton.elim _ _
  obtain ⟨-, -, -, -, -, -, -, -, -, e, -⟩ := idx t
  rw [show win0_9.index t 0 = t.val / 16 from congrFun e 0, show win0_9.index t 1 = 0 from congrFun e 1, show win0_9.index t 2 = t.val % 16 from congrFun e 2, show win0_9.index t 3 = 0 from congrFun e 3, show win0_9.index t 4 = 0 from congrFun e 4]
  rw [← pt_eq t (by omega) (by omega), ← ofNat_eq y1 (by omega), ← ofNat_eq y3 (by omega), ← ofNat_eq y4 (by omega)]

/-- The array of the Hyena branch's inputs. -/
theorem final10 : (dats m 0 c).arrAt 10 cfg0.N = fun i : S8x16x1536x256.Idx =>
    ((outsAt0 m c (pt (i 0).val (i 1).val)).2.2.2 : S1x1x1536x256.Idx → EReal)
      (ix4 0 0 (Fin.ofNat 1536 (i 2).val) (Fin.ofNat 256 (i 3).val)) := by
  refine (dats m 0 c).arrAt_eq_of_covers 10 _ (by decide +kernel) fun t hf y => ?_
  blk_simp
  rw [after0_10]
  generalize outsAt0 m c = O
  idx_vars y
  obtain rfl : y0 = 0 := Subsingleton.elim _ _
  obtain rfl : y1 = 0 := Subsingleton.elim _ _
  obtain ⟨-, -, -, -, -, -, -, -, -, -, e, -⟩ := idx t
  rw [show win0_10.index t 0 = t.val / 16 from congrFun e 0, show win0_10.index t 1 = t.val % 16 from congrFun e 1, show win0_10.index t 2 = 0 from congrFun e 2, show win0_10.index t 3 = 0 from congrFun e 3]
  rw [← pt_eq t (by omega) (by omega), ← ofNat_eq y2 (by omega), ← ofNat_eq y3 (by omega)]

end Cert.ProjectionIdeal.Proj

end
-- ==== Proof.ProjHost.lean ====
/-
  What the host hands the input projection: the norm's gains and the weights as they come, and the table of the
  positions' cosines and sines.
-/
module

public import proofs.«01_k».proof.Proof.ProjFinal
public import Idealize.ShloMosaic.Lib.StableHlo.RunRead

@[expose] public section

set_option maxRecDepth 16384

noncomputable section

namespace Cert.ProjectionIdeal.Proj

open Cert.ProjectionIdeal Cert.ProjectionIdeal.Gen
open Idealize.ShloMosaic Idealize.ShloMosaic.TcCoe Idealize.ShloMosaic.Tactic

/-- A position as a number. -/
def pos (n : ℕ) : EReal := FloatOps.sitofp (F := Ideal) FTy.f32 (BitVec.ofNat 32 n)

/-- The frequency of pair `d`: the base to the power of minus `d` sixteenths. -/
def freq (d : ℕ) : EReal :=
  Ideal.pow (Ideal.ofBits .f32 0x461C4000#32) (Ideal.div (-pos d) (Ideal.ofBits .f32 0x41800000#32))

/-- The table of token `t`: cosines and sines of its row's angles, then of its column's. -/
def tab (t : ℕ) (d : Fin 64) : EReal :=
  if d.val < 16 then Ideal.cos (freq d.val * pos (t / 64))
  else if d.val - 16 < 16 then Ideal.sin (freq (d.val - 16) * pos (t / 64))
  else if d.val - 16 - 16 < 16 then Ideal.cos (freq (d.val - 16 - 16) * pos (t % 64))
  else Ideal.sin (freq (d.val - 16 - 16 - 16) * pos (t % 64))

/-- The first sixteen rows of the table: cosines of the row's angle. -/
theorem tab_1 (t : ℕ) {i : Fin 64} {j : ℕ} (hj : j < 16) (h : i.val = j) : tab t i = Ideal.cos (pos (t / 64) * freq j) := by
  unfold tab; rw [if_pos (by omega), h, mul_comm]
/-- The next sixteen: sines of the row's angle. -/
theorem tab_2 (t : ℕ) {i : Fin 64} {j : ℕ} (hj : j < 16) (h : i.val = 16 + j) : tab t i = Ideal.sin (pos (t / 64) * freq j) := by
  unfold tab; rw [if_neg (by omega), if_pos (by omega), show i.val - 16 = j by omega, mul_comm]
/-- The next sixteen: cosines of the column's angle. -/
theorem tab_3 (t : ℕ) {i : Fin 64} {j : ℕ} (hj : j < 16) (h : i.val = 32 + j) : tab t i = Ideal.cos (pos (t % 64) * freq j) := by
  unfold tab; rw [if_neg (by omega), if_neg (by omega), if_pos (by omega), show i.val - 16 - 16 = j by omega, mul_comm]
/-- The last sixteen: sines of the column's angle. -/
theorem tab_4 (t : ℕ) {i : Fin 64} {j : ℕ} (hj : j < 16) (h : i.val = 48 + j) : tab t i = Ideal.sin (pos (t % 64) * freq j) := by
  unfold tab; rw [if_neg (by omega), if_neg (by omega), if_neg (by omega), show i.val - 16 - 16 - 16 = j by omega, mul_comm]

/-- The rotation half by half, each half by its own angles. -/
theorem rope_halves (u : Fin 64 → EReal) (t : ℕ) (d : Fin 64) :
    (if _ : d.val < 32 then
      if _ : d.val < 16 then
        u ⟨d.val, by omega⟩ * Ideal.cos (pos (t / 64) * freq d.val) - u ⟨16 + d.val, by omega⟩ * Ideal.sin (pos (t / 64) * freq d.val)
      else
        u ⟨16 + (d.val - 16), by omega⟩ * Ideal.cos (pos (t / 64) * freq (d.val - 16)) + u ⟨d.val - 16, by omega⟩ * Ideal.sin (pos (t / 64) * freq (d.val - 16))
    else
      if _ : d.val - 32 < 16 then
        u ⟨32 + (d.val - 32), by omega⟩ * Ideal.cos (pos (t % 64) * freq (d.val - 32)) - u ⟨32 + (16 + (d.val - 32)), by omega⟩ * Ideal.sin (pos (t % 64) * freq (d.val - 32))
      else
        u ⟨32 + (16 + (d.val - 32 - 16)), by omega⟩ * Ideal.cos (pos (t % 64) * freq (d.val - 32 - 16))
          + u ⟨32 + (d.val - 32 - 16), by omega⟩ * Ideal.sin (pos (t % 64) * freq (d.val - 32 - 16)))
    = rope u (tab t) d := by
  have key : ∀ (a b : Fin 64), a.val = b.val → u a = u b := fun a b h => congrArg u (Fin.ext h)
  have hd := d.isLt
  unfold rope
  by_cases h1 : d.val < 32
  · rw [dif_pos h1]
    by_cases h2 : d.val < 16
    · rw [dif_pos h2, dif_pos (by omega), tab_1 t h2 rfl, tab_2 t (i := ⟨d.val + 16, by omega⟩) h2 (Nat.add_comm _ _)]
      exact congrArg₂ (· - ·) rfl (congrArg (· * _) (key _ _ (Nat.add_comm _ _)))
    · rw [dif_neg h2, dif_neg (by omega), tab_2 t (i := d) (j := d.val - 16) (by omega) (by omega),
        tab_1 t (i := ⟨d.val - 16, by omega⟩) (j := d.val - 16) (by omega) rfl]
      exact congrArg₂ (· + ·) (congrArg (· * _) (key _ _ (by show 16 + (d.val - 16) = d.val; omega))) rfl
  · rw [dif_neg h1]
    by_cases h2 : d.val - 32 < 16
    · rw [dif_pos h2, dif_pos (by omega), tab_3 t (i := d) h2 (by omega), tab_4 t (i := ⟨d.val + 16, by omega⟩) h2 (by show d.val + 16 = _; omega)]
      exact congrArg₂ (· - ·) (congrArg (· * _) (key _ _ (by show 32 + (d.val - 32) = d.val; omega)))
        (congrArg (· * _) (key _ _ (by show 32 + (16 + (d.val - 32)) = d.val + 16; omega)))
    · rw [dif_neg h2, dif_neg (by omega), tab_4 t (i := d) (j := d.val - 32 - 16) (by omega) (by omega),
        tab_3 t (i := ⟨d.val - 16, by omega⟩) (j := d.val - 32 - 16) (by omega) (by show d.val - 16 = _; omega)]
      exact congrArg₂ (· + ·) (congrArg (· * _) (key _ _ (by show 32 + (16 + (d.val - 32 - 16)) = d.val; omega)))
        (congrArg (· * _) (key _ _ (by show 32 + (d.val - 32 - 16) = d.val - 16; omega)))

section

variable (x0 : S8x4096x1024.Idx → EReal) (x1 : S16x6x1024.Idx → EReal) (x2 : S1024.Idx → EReal) (x3 : S1024x2304.Idx → EReal)

/-- Element `p` of the projection of token `t` of batch `b`. -/
def proj (b : Fin 8) (t : Fin 4096) (p : Fin 2304) : EReal :=
  ∑ k : Fin 1024, x3 (ix2 k p) * modn (fun k => x0 (ix3 b t k)) (fun k => x2 (ix1 k)) (fun k => x1 (ix3 (⟨b.val, by omega⟩ : Fin 16) 0 k))
    (fun k => x1 (ix3 (⟨b.val, by omega⟩ : Fin 16) 1 k)) k

/-- A head of 64 elements, normed, times its gain, and turned by the angles of token `t`. -/
def head (t : ℕ) (u g : Fin 64 → EReal) (d : Fin 64) : EReal := rope (rms (Ideal.ofBits .f32 0x42800000#32) u g) (tab t) d

end

/-- The row of a token, as the floor division computes it. -/
theorem row_int : ∀ t : Fin 4096, Scalar.select
            (IntOp.andi
              (IntOp.cmpi CmpIPredicate.ne
                (if BitVec.ofNat 32 t.val = 0 then (0 : BitVec 32) else if (BitVec.ofNat 32 t.val).msb = true then -1 else 1)
                (if 64#32 = 0 then (0 : BitVec 32) else if (64#32).msb = true then -1 else 1))
              (IntOp.cmpi CmpIPredicate.ne (IntOp.remsi ArithUnit.host (BitVec.ofNat 32 t.val) 64#32) 0#32))
            (IntOp.subi (IntOp.divsi ArithUnit.host (BitVec.ofNat 32 t.val) 64#32) 1#32)
            (IntOp.divsi ArithUnit.host (BitVec.ofNat 32 t.val) 64#32) = BitVec.ofNat 32 (t.val / 64) := by
  decide +kernel

/-- The divisor of the remainder, as the host guards it. -/
theorem div_int : Scalar.select (IntOp.cmpi CmpIPredicate.eq 64#32 0#32) 1#32 64#32 = 64#32 := by decide

/-- The column of a token, as the remainder computes it. -/
theorem col_int : ∀ t : Fin 4096, Scalar.select
            (IntOp.andi
              (IntOp.cmpi CmpIPredicate.ne (IntOp.cmpi CmpIPredicate.slt (IntOp.remsi ArithUnit.host (BitVec.ofNat 32 t.val) 64#32) 0#32)
                (IntOp.cmpi CmpIPredicate.slt 64#32 0#32))
              (IntOp.cmpi CmpIPredicate.ne (IntOp.remsi ArithUnit.host (BitVec.ofNat 32 t.val) 64#32) 0#32))
            (IntOp.addi (IntOp.remsi ArithUnit.host (BitVec.ofNat 32 t.val) 64#32) 64#32)
            (IntOp.remsi ArithUnit.host (BitVec.ofNat 32 t.val) 64#32) = BitVec.ofNat 32 (t.val % 64) := by
  decide +kernel

variable (m : (ℓ : Loc nD τ sig) → Buf (Elt Ideal) ℓ) (c : Dev nD)

/-- The call reads the tokens as they are given. -/
theorem V_x (b : Fin 8) (t : Fin 4096) (k : Fin 1024) :
    (V m c main_arg0 : S8x4096x1024.Idx → EReal) (ix3 b t k) = (m (c, Proc.devRef .tc main_arg0) : S8x4096x1024.Idx → EReal) (ix3 b t k) := by
  unfold V V0
  simp only [List.flatten_cons, List.flatten_nil, List.append_nil, StableHlo.after_append]
  after_reads_simp

/-- The call reads the modulation as it is given. -/
theorem V_mods (b : Fin 16) (t : Fin 6) (k : Fin 1024) :
    (V m c main_arg1 : S16x6x1024.Idx → EReal) (ix3 b t k) = (m (c, Proc.devRef .tc main_arg1) : S16x6x1024.Idx → EReal) (ix3 b t k) := by
  unfold V V0
  simp only [List.flatten_cons, List.flatten_nil, List.append_nil, StableHlo.after_append]
  after_reads_simp

/-- The call reads the norm's gain as one row. -/
theorem V_gain (k : Fin 1024) :
    (V m c main_v0 : S1x1024.Idx → EReal) (ix2 0 k) = (m (c, Proc.devRef .tc main_arg2) : S1024.Idx → EReal) (ix1 k) := by
  unfold V V0
  simp only [List.flatten_cons, List.flatten_nil, List.append_nil, StableHlo.after_append]
  after_reads_simp
  pointwise

/-- The call reads the weights transposed. -/
theorem V_w (p : Fin 2304) (k : Fin 1024) :
    (V m c main_v2 : S2304x1024.Idx → EReal) (ix2 p k) = (m (c, Proc.devRef .tc main_arg3) : S1024x2304.Idx → EReal) (ix2 k p) := by
  unfold V V0
  simp only [List.flatten_cons, List.flatten_nil, List.append_nil, StableHlo.after_append]
  after_reads_simp
  pointwise

/-- The call reads the queries' gain as one column. -/
theorem V_qgain (d : Fin 64) :
    (V m c main_v3 : S64x1.Idx → EReal) (ix2 d 0) = (m (c, Proc.devRef .tc main_arg4) : S64.Idx → EReal) (ix1 d) := by
  unfold V V0
  simp only [List.flatten_cons, List.flatten_nil, List.append_nil, StableHlo.after_append]
  after_reads_simp
  pointwise

/-- The call reads the keys' gain as one column. -/
theorem V_kgain (d : Fin 64) :
    (V m c main_v4 : S64x1.Idx → EReal) (ix2 d 0) = (m (c, Proc.devRef .tc main_arg5) : S64.Idx → EReal) (ix1 d) := by
  unfold V V0
  simp only [List.flatten_cons, List.flatten_nil, List.append_nil, StableHlo.after_append]
  after_reads_simp
  pointwise

/-- The host's table. -/
theorem V_tab (d : Fin 64) (t : Fin 4096) : (V m c main_v30 : S64x4096.Idx → EReal) (ix2 d t) = tab t.val d := by
  unfold V V0
  simp only [List.flatten_cons, List.flatten_nil, List.append_nil, StableHlo.after_append]
  after_reads_simp
  pointwise
  unfold tab
  by_cases h1 : d.val < 16
  · rw [dif_pos h1, if_pos h1]
    after_reads_simp
    simp only [StableHlo.TRef.ofBuf_toBuf, id]
    simp only [StableHlo.TRef.ofBuf, cast_eq]
    pointwise
    exact congrArg (fun z => Ideal.cos (freq d.val * FloatOps.sitofp (F := Ideal) FTy.f32 z)) (row_int t)
  rw [dif_neg h1, if_neg h1]
  by_cases h2 : d.val - 16 < 16
  · rw [dif_pos h2, if_pos h2]
    after_reads_simp
    simp only [StableHlo.TRef.ofBuf_toBuf, id]
    simp only [StableHlo.TRef.ofBuf, cast_eq]
    pointwise
    exact congrArg (fun z => Ideal.sin (freq (d.val - 16) * FloatOps.sitofp (F := Ideal) FTy.f32 z)) (row_int t)
  rw [dif_neg h2, if_neg h2]
  by_cases h3 : d.val - 16 - 16 < 16
  · rw [dif_pos h3, if_pos h3]
    after_reads_simp
    simp only [StableHlo.TRef.ofBuf_toBuf, id]
    simp only [StableHlo.TRef.ofBuf, cast_eq]
    pointwise
    rw [div_int, col_int]
    rfl
  rw [dif_neg h3, if_neg h3]
  after_reads_simp
  simp only [StableHlo.TRef.ofBuf_toBuf, id]
  simp only [StableHlo.TRef.ofBuf, cast_eq]
  pointwise
  rw [div_int, col_int]
  rfl

end Cert.ProjectionIdeal.Proj

end
-- ==== Proof.ProjResult.lean ====
/-
  What the grid points of the input projection write, and the arrays they leave, of the arguments in memory.
-/
module

public import proofs.«01_k».proof.Proof.ProjHost

@[expose] public section

set_option maxRecDepth 16384

noncomputable section

namespace Cert.ProjectionIdeal.Proj

open Cert.ProjectionIdeal Cert.ProjectionIdeal.Gen
open Idealize.ShloMosaic Idealize.ShloMosaic.TcCoe Idealize.ShloMosaic.Tactic Idealize.SL.Sem

variable (m : (ℓ : Loc nD τ sig) → Buf (Elt Ideal) ℓ) (c : Dev nD)

/-- The projection of a token, of the arguments in memory. -/
def projM (b : Fin 8) (t : Fin 4096) (p : Fin 2304) : EReal :=
  proj (m (c, Proc.devRef .tc main_arg0)) (m (c, Proc.devRef .tc main_arg1)) (m (c, Proc.devRef .tc main_arg2)) (m (c, Proc.devRef .tc main_arg3)) b t p

/-- The gain of the queries, and of the keys. -/
def qGain (d : Fin 64) : EReal := (m (c, Proc.devRef .tc main_arg4) : S64.Idx → EReal) (ix1 d)
@[inherit_doc qGain] def kGain (d : Fin 64) : EReal := (m (c, Proc.devRef .tc main_arg5) : S64.Idx → EReal) (ix1 d)

/-- The token of a grid point's column. -/
def tok (t : Fin cfg0.N) (l : Fin 256) : Fin 4096 := ⟨256 * (t.val % 16) + l.val, by omega⟩

/-- A grid point's projection. -/
theorem prj_pt (t : Fin cfg0.N) (p : Fin 2304) (l : Fin 256) :
    prj (iblk m c 0 t) (iblk m c 1 t) (iblk m c 2 t) (iblk m c 3 t) p l = projM m c (pb t) (tok t l) p := by
  unfold prj projM proj
  refine Finset.sum_congr rfl fun k _ => congrArg₂ (· * ·) ((iblk3 m c t p k).trans (V_w m c p k)) ?_
  have e0 := funext fun k => (iblk0 m c t l k).trans (V_x m c (pb t) (tok t l) k)
  have e1 := fun n => funext fun k => (iblk1 m c t n k).trans (V_mods m c (⟨(pb t).val, by omega⟩ : Fin 16) n k)
  have e2 := funext fun k => (iblk2 m c t k).trans (V_gain m c k)
  exact congrFun (congr (congr (congr (congrArg modn e0) e2) (e1 0)) (e1 1)) k

/-- The queries a grid point writes. -/
theorem q_pt (t : Fin cfg0.N) (h : Fin 8) (d : Fin 64) (l : Fin 256) :
    ((outsAt0 m c t).1 : S1x8x64x256.Idx → EReal) (ix4 0 h d l)
      = head (tok t l).val (fun d => projM m c (pb t) (tok t l) (⟨h.val * 64 + d.val, by omega⟩ : Fin 2304)) (qGain m c) d
        * Ideal.ofBits .f32 0x3E38AA3B#32 := by
  unfold outsAt0
  dsimp only
  refine (q_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) h d l).trans ?_
  unfold head
  rw [show (fun d : Fin 64 => prj (iblk m c 0 t) (iblk m c 1 t) (iblk m c 2 t) (iblk m c 3 t) (⟨h.val * 64 + d.val, by omega⟩ : Fin 2304) l) = _ from
      funext fun d => prj_pt m c t _ l,
    show (fun d : Fin 64 => (iblk m c 4 t : S64x1.Idx → EReal) (ix2 d 0)) = qGain m c from funext fun d => (iblk4 m c t d).trans (V_qgain m c d),
    show (fun d : Fin 64 => (iblk m c 6 t : S64x256.Idx → EReal) (ix2 d l)) = tab (tok t l).val from funext fun d => (iblk6 m c t d l).trans (V_tab m c d (tok t l))]

/-- The keys a grid point writes. -/
theorem k_pt (t : Fin cfg0.N) (g : Fin 2) (d : Fin 64) (l : Fin 256) :
    ((outsAt0 m c t).2.1 : S1x2x1x256x80.Idx → EReal) (ix5 0 g 0 l (⟨d.val, by omega⟩ : Fin 80))
      = head (tok t l).val (fun d => projM m c (pb t) (tok t l) (⟨512 + (g.val * 64 + d.val), by omega⟩ : Fin 2304)) (kGain m c) d := by
  unfold outsAt0
  dsimp only
  refine (k_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) g d l).trans ?_
  unfold head
  rw [show (fun d : Fin 64 => prj (iblk m c 0 t) (iblk m c 1 t) (iblk m c 2 t) (iblk m c 3 t) (⟨512 + (g.val * 64 + d.val), by omega⟩ : Fin 2304) l) = _ from
      funext fun d => prj_pt m c t _ l,
    show (fun d : Fin 64 => (iblk m c 5 t : S64x1.Idx → EReal) (ix2 d 0)) = kGain m c from funext fun d => (iblk5 m c t d).trans (V_kgain m c d),
    show (fun d : Fin 64 => (iblk m c 6 t : S64x256.Idx → EReal) (ix2 d l)) = tab (tok t l).val from funext fun d => (iblk6 m c t d l).trans (V_tab m c d (tok t l))]

/-- The values a grid point writes. -/
theorem v_pt (t : Fin cfg0.N) (g : Fin 2) (d : Fin 64) (l : Fin 256) :
    ((outsAt0 m c t).2.2.1 : S1x2x1x80x256.Idx → EReal) (ix5 0 g 0 (⟨d.val, by omega⟩ : Fin 80) l)
      = projM m c (pb t) (tok t l) (⟨640 + (g.val * 64 + d.val), by omega⟩ : Fin 2304) := by
  unfold outsAt0
  dsimp only
  exact (v_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) g d l).trans (prj_pt m c t _ l)

/-- The inputs of the experts a grid point writes. -/
theorem u_pt (t : Fin cfg0.N) (d : Fin 1536) (l : Fin 256) :
    ((outsAt0 m c t).2.2.2 : S1x1x1536x256.Idx → EReal) (ix4 0 0 d l) = projM m c (pb t) (tok t l) (⟨768 + d.val, by omega⟩ : Fin 2304) := by
  unfold outsAt0
  dsimp only
  exact (u_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) d l).trans (prj_pt m c t _ l)

/-- A factor of the queries' scale, divided away. -/
theorem scale_away (x : EReal) : Ideal.div (x * Ideal.ofBits .f32 0x3E38AA3B#32) (Ideal.ofBits .f32 0x3E38AA3B#32) = x := by
  obtain ⟨r, hr, e⟩ : ∃ r : ℝ, 0 < r ∧ Ideal.ofBits FTy.f32 0x3E38AA3B#32 = (r : EReal) := by
    refine ⟨_, ?_, show Ideal.ofBits FTy.f32 0x3E38AA3B#32 = ((12102203 / 2 ^ 26 : ℝ) : EReal) from ?_⟩
    · norm_num
    · simp [Ideal.ofBits, Ideal.ieee]
      rw [← EReal.coe_mul]; norm_num
  rw [e]
  unfold Ideal.div
  rw [if_neg (by exact_mod_cast hr.ne'), ← EReal.coe_inv, mul_assoc, ← EReal.coe_mul, mul_inv_cancel₀ hr.ne', EReal.coe_one, mul_one]

/-- The batch of the grid point of a batch. -/
theorem pb_pt (b : Fin 8) (i : ℕ) (hi : i < 16) : pb (pt b.val i) = b :=
  Fin.ext (by show (b.val * 16 + i) % 128 / 16 = b.val; omega)

/-- The position of a row of a grid point's block. -/
theorem tok_pt (b : Fin 8) (i : ℕ) (hi : i < 16) (l : Fin 256) (t : Fin 4096) (h : t.val = i * 256 + l.val) : tok (pt b.val i) l = t :=
  Fin.ext (by show 256 * ((b.val * 16 + i) % 128 % 16) + l.val = t.val; omega)

/-- The array of the queries, at an index. -/
theorem q_arr (b : Fin 8) (h : Fin 8) (d : Fin 64) (t : Fin 4096) :
    ((dats m 0 c).arrAt 7 cfg0.N : S8x8x64x4096.Idx → EReal) (ix4 b h d t)
      = head t.val (fun d => projM m c b t (⟨h.val * 64 + d.val, by omega⟩ : Fin 2304)) (qGain m c) d * Ideal.ofBits .f32 0x3E38AA3B#32 := by
  rw [final7]
  show ((outsAt0 m c (pt b.val (t.val / 256))).1 : S1x8x64x256.Idx → EReal) (ix4 0 (Fin.ofNat 8 h.val) (Fin.ofNat 64 d.val) (Fin.ofNat 256 t.val)) = _
  rw [← ofNat_eq h (Nat.mod_eq_of_lt h.isLt), ← ofNat_eq d (Nat.mod_eq_of_lt d.isLt), q_pt, pb_pt b _ (by omega),
    tok_pt b _ (by omega) _ t (by show t.val = t.val / 256 * 256 + t.val % 256; omega)]

/-- The array of the keys, at an index: the token is column `l` of tile `i`. -/
theorem k_arr (b : Fin 8) (g : Fin 2) (i : Fin 16) (l : Fin 256) (d : Fin 64) :
    ((dats m 0 c).arrAt 8 cfg0.N : S8x2x16x256x80.Idx → EReal) (ix5 b g i l (⟨d.val, by omega⟩ : Fin 80))
      = head (i.val * 256 + l.val) (fun d => projM m c b (⟨i.val * 256 + l.val, by omega⟩ : Fin 4096) (⟨512 + (g.val * 64 + d.val), by omega⟩ : Fin 2304)) (kGain m c) d := by
  rw [final8]
  show ((outsAt0 m c (pt b.val i.val)).2.1 : S1x2x1x256x80.Idx → EReal) (ix5 0 (Fin.ofNat 2 g.val) 0 (Fin.ofNat 256 l.val) (Fin.ofNat 80 d.val)) = _
  rw [← ofNat_eq g (Nat.mod_eq_of_lt g.isLt), ← ofNat_eq l (Nat.mod_eq_of_lt l.isLt), ← ofNat_eq (⟨d.val, by omega⟩ : Fin 80) (Nat.mod_eq_of_lt (by omega)),
    k_pt, pb_pt b _ i.isLt, tok_pt b _ i.isLt l (⟨i.val * 256 + l.val, by omega⟩ : Fin 4096) rfl]

/-- The array of the values, at an index. -/
theorem v_arr (b : Fin 8) (g : Fin 2) (i : Fin 16) (l : Fin 256) (d : Fin 64) :
    ((dats m 0 c).arrAt 9 cfg0.N : S8x2x16x80x256.Idx → EReal) (ix5 b g i (⟨d.val, by omega⟩ : Fin 80) l)
      = projM m c b (⟨i.val * 256 + l.val, by omega⟩ : Fin 4096) (⟨640 + (g.val * 64 + d.val), by omega⟩ : Fin 2304) := by
  rw [final9]
  show ((outsAt0 m c (pt b.val i.val)).2.2.1 : S1x2x1x80x256.Idx → EReal) (ix5 0 (Fin.ofNat 2 g.val) 0 (Fin.ofNat 80 d.val) (Fin.ofNat 256 l.val)) = _
  rw [← ofNat_eq g (Nat.mod_eq_of_lt g.isLt), ← ofNat_eq l (Nat.mod_eq_of_lt l.isLt), ← ofNat_eq (⟨d.val, by omega⟩ : Fin 80) (Nat.mod_eq_of_lt (by omega)),
    v_pt, pb_pt b _ i.isLt, tok_pt b _ i.isLt l (⟨i.val * 256 + l.val, by omega⟩ : Fin 4096) rfl]

/-- The array of the experts' inputs, at an index. -/
theorem u_arr (b : Fin 8) (i : Fin 16) (d : Fin 1536) (l : Fin 256) :
    ((dats m 0 c).arrAt 10 cfg0.N : S8x16x1536x256.Idx → EReal) (ix4 b i d l)
      = projM m c b (⟨i.val * 256 + l.val, by omega⟩ : Fin 4096) (⟨768 + d.val, by omega⟩ : Fin 2304) := by
  rw [final10]
  show ((outsAt0 m c (pt b.val i.val)).2.2.2 : S1x1x1536x256.Idx → EReal) (ix4 0 0 (Fin.ofNat 1536 d.val) (Fin.ofNat 256 l.val)) = _
  rw [← ofNat_eq l (Nat.mod_eq_of_lt l.isLt), ← ofNat_eq d (Nat.mod_eq_of_lt d.isLt),
    u_pt, pb_pt b _ i.isLt, tok_pt b _ i.isLt l (⟨i.val * 256 + l.val, by omega⟩ : Fin 4096) rfl]

end Cert.ProjectionIdeal.Proj

end
-- ==== Proof.ProjTail.lean ====
/-
  The input projection's results as the program returns them.
-/
module

public import proofs.«01_k».proof.Proof.ProjResult

@[expose] public section

set_option maxRecDepth 16384

noncomputable section

namespace Cert.ProjectionIdeal.Proj

open Cert.ProjectionIdeal Cert.ProjectionIdeal.Gen
open Idealize.ShloMosaic Idealize.ShloMosaic.TcCoe Idealize.ShloMosaic.Tactic Idealize.SL.Sem

variable (m : (ℓ : Loc nD τ sig) → Buf (Elt Ideal) ℓ) (c : Dev nD)

/-- The queries the program returns. -/
theorem tail_q (b : Fin 8) (t : Fin 4096) (h : Fin 8) (d : Fin 64) :
    (Pipeline.afterTail₀ cfgs (dats m) 0 (V0 m) [hostOps1] c main_v36 : S8x4096x8x64.Idx → EReal) (ix4 b t h d)
      = head t.val (fun d => projM m c b t (⟨h.val * 64 + d.val, by omega⟩ : Fin 2304)) (qGain m c) d := by
  unfold Pipeline.afterTail₀
  have hw : Pipeline.withArrays spec0 c (V0 m c) (fun w => (dats m 0 c).arrAt w cfg0.N) (Proc.devRef .tc main_v31_0)
      = (dats m 0 c).arrAt 7 cfg0.N := Pipeline.withArrays_arr spec0 launch0.win.arr_inj c (V0 m c) _ 7
  rw [List.flatten_cons, List.flatten_nil, List.append_nil]
  after_reads_simp
  rw [show Pipeline.withArrays (cfgs 0).spec c (V0 m c) (fun w => (dats m 0 c).arrAt w (cfgs 0).N) (Proc.devRef .tc main_v31_0) = _ from hw]
  pointwise
  refine Eq.trans (congrArg (fun z => Ideal.div z _) (q_arr m c b h d t)) (scale_away _)

/-- The keys the program returns. -/
theorem tail_k (b : Fin 8) (t : Fin 4096) (g : Fin 2) (d : Fin 64) :
    (Pipeline.afterTail₀ cfgs (dats m) 0 (V0 m) [hostOps1] c main_v39 : S8x4096x2x64.Idx → EReal) (ix4 b t g d)
      = head t.val (fun d => projM m c b t (⟨512 + (g.val * 64 + d.val), by omega⟩ : Fin 2304)) (kGain m c) d := by
  unfold Pipeline.afterTail₀
  have hw : Pipeline.withArrays spec0 c (V0 m c) (fun w => (dats m 0 c).arrAt w cfg0.N) (Proc.devRef .tc main_v31_1)
      = (dats m 0 c).arrAt 8 cfg0.N := Pipeline.withArrays_arr spec0 launch0.win.arr_inj c (V0 m c) _ 8
  rw [List.flatten_cons, List.flatten_nil, List.append_nil]
  after_reads_simp
  rw [show Pipeline.withArrays (cfgs 0).spec c (V0 m c) (fun w => (dats m 0 c).arrAt w (cfgs 0).N) (Proc.devRef .tc main_v31_1) = _ from hw]
  pointwise
  have e : (t.val / 256 * 256 + t.val % 256) = t.val := by omega
  have e' : (⟨t.val / 256 * 256 + t.val % 256, by omega⟩ : Fin 4096) = t := Fin.ext e
  have r := k_arr m c b g (⟨t.val / 256, by omega⟩ : Fin 16) (⟨t.val % 256, by omega⟩ : Fin 256) d
  dsimp only at r
  rw [e', e] at r
  exact r

/-- The values the program returns. -/
theorem tail_v (b : Fin 8) (t : Fin 4096) (g : Fin 2) (d : Fin 64) :
    (Pipeline.afterTail₀ cfgs (dats m) 0 (V0 m) [hostOps1] c main_v42 : S8x4096x2x64.Idx → EReal) (ix4 b t g d)
      = projM m c b t (⟨640 + (g.val * 64 + d.val), by omega⟩ : Fin 2304) := by
  unfold Pipeline.afterTail₀
  have hw : Pipeline.withArrays spec0 c (V0 m c) (fun w => (dats m 0 c).arrAt w cfg0.N) (Proc.devRef .tc main_v31_2)
      = (dats m 0 c).arrAt 9 cfg0.N := Pipeline.withArrays_arr spec0 launch0.win.arr_inj c (V0 m c) _ 9
  rw [List.flatten_cons, List.flatten_nil, List.append_nil]
  after_reads_simp
  rw [show Pipeline.withArrays (cfgs 0).spec c (V0 m c) (fun w => (dats m 0 c).arrAt w (cfgs 0).N) (Proc.devRef .tc main_v31_2) = _ from hw]
  pointwise
  have e' : (⟨t.val / 256 * 256 + t.val % 256, by omega⟩ : Fin 4096) = t := Fin.ext (by show t.val / 256 * 256 + t.val % 256 = t.val; omega)
  have r := v_arr m c b g (⟨t.val / 256, by omega⟩ : Fin 16) (⟨t.val % 256, by omega⟩ : Fin 256) d
  dsimp only at r
  rw [e'] at r
  exact r

/-- The inputs of the experts the program returns. -/
theorem tail_u (b : Fin 8) (t : Fin 4096) (d : Fin 1536) :
    (Pipeline.afterTail₀ cfgs (dats m) 0 (V0 m) [hostOps1] c main_v44 : S8x4096x1536.Idx → EReal) (ix3 b t d)
      = projM m c b t (⟨768 + d.val, by omega⟩ : Fin 2304) := by
  unfold Pipeline.afterTail₀
  have hw : Pipeline.withArrays spec0 c (V0 m c) (fun w => (dats m 0 c).arrAt w cfg0.N) (Proc.devRef .tc main_v31_3)
      = (dats m 0 c).arrAt 10 cfg0.N := Pipeline.withArrays_arr spec0 launch0.win.arr_inj c (V0 m c) _ 10
  rw [List.flatten_cons, List.flatten_nil, List.append_nil]
  after_reads_simp
  rw [show Pipeline.withArrays (cfgs 0).spec c (V0 m c) (fun w => (dats m 0 c).arrAt w (cfgs 0).N) (Proc.devRef .tc main_v31_3) = _ from hw]
  pointwise
  have e' : (⟨t.val / 256 * 256 + t.val % 256, by omega⟩ : Fin 4096) = t := Fin.ext (by show t.val / 256 * 256 + t.val % 256 = t.val; omega)
  have r := u_arr m c b (⟨t.val / 256, by omega⟩ : Fin 16) d (⟨t.val % 256, by omega⟩ : Fin 256)
  dsimp only at r
  rw [e'] at r
  exact r

end Cert.ProjectionIdeal.Proj

end
-- ==== Proof.ProjRef.lean ====
/-
  The reference's queries, keys, values and inputs of the experts: the same projection, norms and rotations.
-/
module

public import proofs.«01_k».proof.Proof.Gen.ProjectionReferenceIdeal.Read
public import proofs.«01_k».proof.Proof.ProjHost

@[expose] public section

set_option maxRecDepth 16384

noncomputable section

namespace Cert.ProjectionReferenceIdeal.Proj

open Cert.ProjectionReferenceIdeal Cert.ProjectionReferenceIdeal.Read
open Idealize.ShloMosaic Idealize.ShloMosaic.TcCoe Idealize.ShloMosaic.Tactic
open Cert.ProjectionIdeal.Proj (rms modn rope pos freq tab rope_halves proj head)

variable (x0 : S8x4096x1024.Idx → EReal) (x1 : S16x6x1024.Idx → EReal) (x2 : S1024.Idx → EReal) (x3 : S1024x2304.Idx → EReal)
  (x4 x5 : S64.Idx → EReal)

/-- The reference's normed and modulated token. -/
theorem h_at (b : Fin 8) (t : Fin 4096) (k : Fin 1024) :
    val_main_v20 (F := Ideal) x0 x1 x2 (ix3 b t k) = modn (fun k => x0 (ix3 b t k)) (fun k => x2 (ix1 k)) (fun k => x1 (ix3 (⟨b.val, by omega⟩ : Fin 16) 0 k))
    (fun k => x1 (ix3 (⟨b.val, by omega⟩ : Fin 16) 1 k)) k := by
  pointwise [val_main_v20, val_main_v19, val_main_v18, val_main_v17, val_main_v16, val_main_v15, val_main_cst_2, val_main_v14, val_main_v13,
    val_main_v12, val_main_v11, val_main_v10, val_main_v9, val_main_v8, val_main_v7, val_main_v6, val_main_v5, val_main_v4, val_main_v3,
    val_main_v2, val_main_v1, val_main_v0, val_main_cst, val_main_cst_0, val_main_cst_1, modn, rms]

/-- The projection. -/
theorem proj_at (b : Fin 8) (t : Fin 4096) (p : Fin 2304) : val_main_v21 (F := Ideal) x0 x1 x2 x3 (ix3 b t p) = proj x0 x1 x2 x3 b t p := by
  have := h_at x0 x1 x2 b t
  unfold proj
  simp only [← this]
  unfold val_main_v21
  generalize val_main_v20 (F := Ideal) x0 x1 x2 = H
  pointwise
  exact Finset.sum_congr rfl fun k _ => mul_comm _ _

/-- The queries of a token, normed. -/
theorem qn_at (b : Fin 8) (t : Fin 4096) (h : Fin 8) (d : Fin 64) :
    val_main_v41 (F := Ideal) x0 x1 x2 x3 x4 (ix4 b t h d) = rms (Ideal.ofBits .f32 0x42800000#32)
      (fun d => proj x0 x1 x2 x3 b t (⟨h.val * 64 + d.val, by omega⟩ : Fin 2304)) (fun d => x4 (ix1 d)) d := by
  have := fun p => proj_at x0 x1 x2 x3 b t p
  simp only [← this]
  unfold val_main_v41 val_main_v40 val_main_v39 val_main_v38 val_main_v37 val_main_v36 val_main_v35 val_main_v34 val_main_cst_5 val_main_v33 val_main_v32
    val_main_cst_4 val_main_v31 val_main_v30 val_main_cst_3 val_main_v29 val_main_v23 val_main_v22
  generalize val_main_v21 (F := Ideal) x0 x1 x2 x3 = H
  pointwise [rms]

/-- The queries of a token. -/
theorem q_at (b : Fin 8) (t : Fin 4096) (h : Fin 8) (d : Fin 64) :
    val_main_v179 (F := Ideal) x0 x1 x2 x3 x4 (ix4 b t h d)
      = head t.val (fun d => proj x0 x1 x2 x3 b t (⟨h.val * 64 + d.val, by omega⟩ : Fin 2304)) (fun d => x4 (ix1 d)) d := by
  unfold head
  rw [show rms (Ideal.ofBits .f32 0x42800000#32) (fun d => proj x0 x1 x2 x3 b t (⟨h.val * 64 + d.val, by omega⟩ : Fin 2304)) (fun d => x4 (ix1 d)) = _ from
    funext fun d => (qn_at x0 x1 x2 x3 x4 b t h d).symm, ← rope_halves]
  unfold val_main_v179 val_main_v103 val_main_v102 val_main_v101 val_main_v100 val_main_v99 val_main_v98 val_main_v97 val_main_v96 val_main_v95 val_main_v94 val_main_v93
    val_main_v92 val_main_v91 val_main_v90 val_main_v89 val_main_v88 val_main_v87 val_main_v86 val_main_v85 val_main_v84 val_main_v83 val_main_v82
    val_main_v81 val_main_v80 val_main_v79 val_main_v78 val_main_v77 val_main_v76 val_main_v75 val_main_v74 val_main_v73 val_main_v72 val_main_v71
    val_main_v70 val_main_v69 val_main_v68 val_main_v67 val_main_v66 val_main_v65 val_main_v64 val_main_v63 val_main_v62 val_main_v61 val_main_v60
    val_main_v59 val_main_v58 val_main_v57 val_main_v56 val_main_v55 val_main_cst_7 val_main_v54 val_main_v53 val_main_cst_6 val_main_v52 val_main_v51
    val_main_v50 val_main_v49 val_main_v48 val_main_v47 val_main_v46 val_main_v45 val_main_v44 val_main_v43 val_main_v42
  generalize val_main_v41 (F := Ideal) x0 x1 x2 x3 x4 = H
  pointwise [pos, freq]

/-- The keys of a token, normed. -/
theorem kn_at (b : Fin 8) (t : Fin 4096) (h : Fin 2) (d : Fin 64) :
    val_main_v116 (F := Ideal) x0 x1 x2 x3 x5 (ix4 b t h d) = rms (Ideal.ofBits .f32 0x42800000#32)
      (fun d => proj x0 x1 x2 x3 b t (⟨512 + (h.val * 64 + d.val), by omega⟩ : Fin 2304)) (fun d => x5 (ix1 d)) d := by
  have := fun p => proj_at x0 x1 x2 x3 b t p
  simp only [← this]
  unfold val_main_v116 val_main_v115 val_main_v114 val_main_v113 val_main_v112 val_main_v111 val_main_v110 val_main_v109 val_main_cst_10 val_main_v108
    val_main_v107 val_main_cst_9 val_main_v106 val_main_v105 val_main_cst_8 val_main_v104 val_main_v25 val_main_v24
  generalize val_main_v21 (F := Ideal) x0 x1 x2 x3 = H
  pointwise [rms]

/-- The keys of a token. -/
theorem k_at (b : Fin 8) (t : Fin 4096) (h : Fin 2) (d : Fin 64) :
    val_main_v180 (F := Ideal) x0 x1 x2 x3 x5 (ix4 b t h d)
      = head t.val (fun d => proj x0 x1 x2 x3 b t (⟨512 + (h.val * 64 + d.val), by omega⟩ : Fin 2304)) (fun d => x5 (ix1 d)) d := by
  unfold head
  rw [show rms (Ideal.ofBits .f32 0x42800000#32) (fun d => proj x0 x1 x2 x3 b t (⟨512 + (h.val * 64 + d.val), by omega⟩ : Fin 2304)) (fun d => x5 (ix1 d)) = _ from
    funext fun d => (kn_at x0 x1 x2 x3 x5 b t h d).symm, ← rope_halves]
  unfold val_main_v180 val_main_v178 val_main_v177 val_main_v176 val_main_v175 val_main_v174 val_main_v173 val_main_v172 val_main_v171 val_main_v170 val_main_v169
    val_main_v168 val_main_v167 val_main_v166 val_main_v165 val_main_v164 val_main_v163 val_main_v162 val_main_v161 val_main_v160 val_main_v159
    val_main_v158 val_main_v157 val_main_v156 val_main_v155 val_main_v154 val_main_v153 val_main_v152 val_main_v151 val_main_v150 val_main_v149
    val_main_v148 val_main_v147 val_main_v146 val_main_v145 val_main_v144 val_main_v143 val_main_v142 val_main_v141 val_main_v140 val_main_v139
    val_main_v138 val_main_v137 val_main_v136 val_main_v135 val_main_v134 val_main_v133 val_main_v132 val_main_v131 val_main_v130 val_main_cst_12
    val_main_v129 val_main_v128 val_main_cst_11 val_main_v127 val_main_v126 val_main_v125 val_main_v124 val_main_v123 val_main_v122 val_main_v121
    val_main_v120 val_main_v119 val_main_v118 val_main_v117
  generalize val_main_v116 (F := Ideal) x0 x1 x2 x3 x5 = H
  pointwise [pos, freq]

/-- The values. -/
theorem v_at (b : Fin 8) (t : Fin 4096) (g : Fin 2) (d : Fin 64) :
    val_main_v181 (F := Ideal) x0 x1 x2 x3 (ix4 b t g d) = proj x0 x1 x2 x3 b t (⟨640 + (g.val * 64 + d.val), by omega⟩ : Fin 2304) := by
  rw [← proj_at]
  unfold val_main_v181 val_main_v27 val_main_v26
  generalize val_main_v21 (F := Ideal) x0 x1 x2 x3 = H
  pointwise

/-- The inputs of the experts. -/
theorem u_at (b : Fin 8) (t : Fin 4096) (d : Fin 1536) :
    val_main_v182 (F := Ideal) x0 x1 x2 x3 (ix3 b t d) = proj x0 x1 x2 x3 b t (⟨768 + d.val, by omega⟩ : Fin 2304) := by
  rw [← proj_at]
  unfold val_main_v182 val_main_v28
  generalize val_main_v21 (F := Ideal) x0 x1 x2 x3 = H
  pointwise

end Cert.ProjectionReferenceIdeal.Proj

end
-- ==== Proof.ProjAlgebraic.lean ====
/-
  The projection's value claim: over the extended reals the kernel and the reference end with the same queries, keys,
  values and inputs of the Hyena branch.
-/
module

public import proofs.«01_k».proof.Proof.ProjFrames
public import proofs.«01_k».proof.Proof.ProjTail
public import proofs.«01_k».proof.Proof.ProjRef

@[expose] public section

set_option maxRecDepth 16384

noncomputable section

namespace Cert.Proj

open Idealize.ShloMosaic Idealize.ShloMosaic.TcCoe Idealize.ShloMosaic.Tactic Idealize.SL.Sem
open Cert.ProjectionIdeal.Proj

variable (m : (ℓ : Loc Cert.ProjectionIdeal.nD Cert.ProjectionIdeal.τ Cert.ProjectionIdeal.sig) → Buf (Elt Ideal) ℓ) (c : Dev Cert.ProjectionIdeal.nD)

/-- What the lines after the call leave in a buffer. -/
def res (b : Ref Cert.ProjectionIdeal.sig .tc) : Buf (Elt Ideal) ((c.tc : Thread Cert.ProjectionIdeal.nD Cert.ProjectionIdeal.τ).loc b) :=
  Pipeline.afterTail₀ Cert.ProjectionIdeal.cfgs (Cert.ProjectionIdeal.Gen.dats m) 0 (Cert.ProjectionIdeal.Gen.V0 m) [Cert.ProjectionIdeal.Gen.hostOps1] c b

/-- The reference's queries are what the kernel's host lines leave. -/
theorem q_same :
    (Cert.ProjectionReferenceIdeal.Read.val_main_v179 (F := Ideal) (m (c, Proc.devRef .tc Cert.ProjectionIdeal.main_arg0)) (m (c, Proc.devRef .tc Cert.ProjectionIdeal.main_arg1))
      (m (c, Proc.devRef .tc Cert.ProjectionIdeal.main_arg2)) (m (c, Proc.devRef .tc Cert.ProjectionIdeal.main_arg3))
      (m (c, Proc.devRef .tc Cert.ProjectionIdeal.main_arg4)) : Cert.ProjectionIdeal.S8x4096x8x64.Idx → EReal) = res m c Cert.ProjectionIdeal.main_v36 := by
  funext i
  idx_vars i
  exact (Cert.ProjectionReferenceIdeal.Proj.q_at _ _ _ _ _ i0 i1 i2 i3).trans (tail_q m c i0 i1 i2 i3).symm

/-- The same of the keys. -/
theorem k_same :
    (Cert.ProjectionReferenceIdeal.Read.val_main_v180 (F := Ideal) (m (c, Proc.devRef .tc Cert.ProjectionIdeal.main_arg0)) (m (c, Proc.devRef .tc Cert.ProjectionIdeal.main_arg1))
      (m (c, Proc.devRef .tc Cert.ProjectionIdeal.main_arg2)) (m (c, Proc.devRef .tc Cert.ProjectionIdeal.main_arg3))
      (m (c, Proc.devRef .tc Cert.ProjectionIdeal.main_arg5)) : Cert.ProjectionIdeal.S8x4096x2x64.Idx → EReal) = res m c Cert.ProjectionIdeal.main_v39 := by
  funext i
  idx_vars i
  exact (Cert.ProjectionReferenceIdeal.Proj.k_at _ _ _ _ _ i0 i1 i2 i3).trans (tail_k m c i0 i1 i2 i3).symm

/-- The same of the values. -/
theorem v_same :
    (Cert.ProjectionReferenceIdeal.Read.val_main_v181 (F := Ideal) (m (c, Proc.devRef .tc Cert.ProjectionIdeal.main_arg0)) (m (c, Proc.devRef .tc Cert.ProjectionIdeal.main_arg1))
      (m (c, Proc.devRef .tc Cert.ProjectionIdeal.main_arg2)) (m (c, Proc.devRef .tc Cert.ProjectionIdeal.main_arg3)) : Cert.ProjectionIdeal.S8x4096x2x64.Idx → EReal)
      = res m c Cert.ProjectionIdeal.main_v42 := by
  funext i
  idx_vars i
  exact (Cert.ProjectionReferenceIdeal.Proj.v_at _ _ _ _ i0 i1 i2 i3).trans (tail_v m c i0 i1 i2 i3).symm

/-- The same of the inputs of the Hyena branch. -/
theorem u_same :
    (Cert.ProjectionReferenceIdeal.Read.val_main_v182 (F := Ideal) (m (c, Proc.devRef .tc Cert.ProjectionIdeal.main_arg0)) (m (c, Proc.devRef .tc Cert.ProjectionIdeal.main_arg1))
      (m (c, Proc.devRef .tc Cert.ProjectionIdeal.main_arg2)) (m (c, Proc.devRef .tc Cert.ProjectionIdeal.main_arg3)) : Cert.ProjectionIdeal.S8x4096x1536.Idx → EReal)
      = res m c Cert.ProjectionIdeal.main_v44 := by
  funext i
  idx_vars i
  exact (Cert.ProjectionReferenceIdeal.Proj.u_at _ _ _ _ i0 i1 i2).trans (tail_u m c i0 i1 i2).symm

/-- The kernel's four results are the reference's. -/
theorem algebraic_projection : Cert.algebraic_ProjectionIdeal_ProjectionReferenceIdeal := by
  intro m g m' g' _ hagree
  refine ⟨fun c => res m c Cert.ProjectionIdeal.main_v36, fun c => res m c Cert.ProjectionIdeal.main_v39, fun c => res m c Cert.ProjectionIdeal.main_v42,
    fun c => res m c Cert.ProjectionIdeal.main_v44, ?_, ?_⟩
  · exact (θ_run Cert.ProjectionIdeal.defs _ _).mono
      (fun r h c => ⟨(h.2 c).2 Cert.ProjectionIdeal.main_v36 (Pipeline.mem_restRefs_of _ (by decide) (by decide)),
        (h.2 c).2 Cert.ProjectionIdeal.main_v39 (Pipeline.mem_restRefs_of _ (by decide) (by decide)),
        (h.2 c).2 Cert.ProjectionIdeal.main_v42 (Pipeline.mem_restRefs_of _ (by decide) (by decide)),
        (h.2 c).2 Cert.ProjectionIdeal.main_v44 (Pipeline.mem_restRefs_of _ (by decide) (by decide)), h.1.1 c⟩)
      (θ_run_and (Cert.ProjectionIdeal.Gen.frame (F := Ideal) m g) (Cert.ProjectionIdeal.Gen.run_main m g))
  · refine (θ_run Cert.ProjectionReferenceIdeal.defs _ _).mono
      (fun r h c => ⟨(h c).1.trans ?_, (h c).2.1.trans ?_, (h c).2.2.1.trans ?_, (h c).2.2.2.1.trans ?_, (h c).2.2.2.2⟩)
      (Cert.ProjectionReferenceIdeal.Value.run (F := Ideal) m' g')
    all_goals obtain ⟨a0, a1, a2, a3, a4, a5⟩ := hagree c
    · refine (Cert.ProjectionReferenceIdeal.Read.val_main_v179_eq _).trans ?_
      exact Eq.trans (congr (congr (congr (congr (congrArg (Cert.ProjectionReferenceIdeal.Read.val_main_v179 (F := Ideal)) a0) a1) a2) a3) a4) (q_same m c)
    · refine (Cert.ProjectionReferenceIdeal.Read.val_main_v180_eq _).trans ?_
      exact Eq.trans (congr (congr (congr (congr (congrArg (Cert.ProjectionReferenceIdeal.Read.val_main_v180 (F := Ideal)) a0) a1) a2) a3) a5) (k_same m c)
    · refine (Cert.ProjectionReferenceIdeal.Read.val_main_v181_eq _).trans ?_
      exact Eq.trans (congr (congr (congr (congrArg (Cert.ProjectionReferenceIdeal.Read.val_main_v181 (F := Ideal)) a0) a1) a2) a3) (v_same m c)
    · refine (Cert.ProjectionReferenceIdeal.Read.val_main_v182_eq _).trans ?_
      exact Eq.trans (congr (congr (congr (congrArg (Cert.ProjectionReferenceIdeal.Read.val_main_v182 (F := Ideal)) a0) a1) a2) a3) (u_same m c)

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.Projection
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Frame
public import proofs.«01_k».proof.Proof.Gen.ProjectionReferenceIdeal
public import proofs.«01_k».proof.Proof.Gen.ProjectionReferenceIdeal.Run
public import proofs.«01_k».proof.Proof.Gen.ProjectionReferenceIdeal.Read
public import proofs.«01_k».proof.Proof.Gen.Pre_finite
public import proofs.«01_k».proof.Proof.Gen.Pre_routed
public import proofs.«01_k».proof.Proof.Run
public import proofs.«01_k».proof.Proof.Frames
public import proofs.«01_k».proof.Proof.Finite
public import proofs.«01_k».proof.Proof.Algebraic
public import proofs.«01_k».proof.Proof.FfnPre
public import proofs.«01_k».proof.Proof.FfnFrames
public import proofs.«01_k».proof.Proof.FfnAlgebraic
public import proofs.«01_k».proof.Proof.ProjFrames
public import proofs.«01_k».proof.Proof.ProjAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Projection.Gen.facts, Cert.ProjectionIdeal.Gen.facts, Cert.ProjectionReferenceIdeal.Gen.facts,
  Cert.Attn.finite_facts, Cert.Moe.range_facts, Cert.Moe.routed_facts,
  frame_kernel, frame_kernelIdeal, fun m g _ => frame_kernelIdeal m g trivial, frame_reference,
  fun m g _ => frame_reference m g trivial,
  @Cert.Moe.frame_experts Cert.Moe.range_facts, @Cert.Moe.frame_expertsIdeal Cert.Moe.range_facts,
  @Cert.Moe.frame_expertsIdeal_routed Cert.Moe.routed_facts, Cert.Moe.frame_expertsReference,
  fun m g _ => Cert.Moe.frame_expertsReference m g trivial,
  Cert.Proj.frame_projection, Cert.Proj.frame_projectionIdeal, Cert.Proj.frame_projectionReference,
  trivial, @algebraic Cert.Attn.finite_facts, trivial, @Cert.Moe.algebraic_experts Cert.Moe.routed_facts,
  trivial, Cert.Proj.algebraic_projection⟩

end Cert.Proof

end
